-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelInproj (m : (ℓ : Loc Cert.KernelInproj.nD Cert.KernelInproj.τ Cert.KernelInproj.sig) → Buf (Elt Bits) ℓ) : Prop :=
  True

def Pre_KernelInprojIdeal (m : (ℓ : Loc Cert.KernelInprojIdeal.nD Cert.KernelInprojIdeal.τ Cert.KernelInprojIdeal.sig) → Buf (Elt Ideal) ℓ) : Prop :=
  True

def Pre_ReferenceInprojIdeal (m : (ℓ : Loc Cert.ReferenceInprojIdeal.nD Cert.ReferenceInprojIdeal.τ Cert.ReferenceInprojIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelInproj [hKernelInproj : Cert.KernelInproj.Facts] : Prop :=
  ∀ (m : (ℓ : Loc Cert.KernelInproj.nD Cert.KernelInproj.τ Cert.KernelInproj.sig) → Buf (Elt Bits) ℓ) (g : Dev Cert.KernelInproj.nD → PrngReg), Pre_KernelInproj m →
    θ_run (Cert.KernelInproj.defs (F := Bits)) (onTc (τ := Cert.KernelInproj.τ) (Cert.KernelInproj.main (F := Bits))) ⟨m, fun _ => 0, g⟩ (fun r => (∀ c : Dev Cert.KernelInproj.nD,
      r.2.mem ((c.tc : Thread Cert.KernelInproj.nD Cert.KernelInproj.τ).loc Cert.KernelInproj.main_arg0) = m ((c.tc : Thread Cert.KernelInproj.nD Cert.KernelInproj.τ).loc Cert.KernelInproj.main_arg0)
      ∧ r.2.mem ((c.tc : Thread Cert.KernelInproj.nD Cert.KernelInproj.τ).loc Cert.KernelInproj.main_arg1) = m ((c.tc : Thread Cert.KernelInproj.nD Cert.KernelInproj.τ).loc Cert.KernelInproj.main_arg1)
      ∧ r.2.mem ((c.tc : Thread Cert.KernelInproj.nD Cert.KernelInproj.τ).loc Cert.KernelInproj.main_arg2) = m ((c.tc : Thread Cert.KernelInproj.nD Cert.KernelInproj.τ).loc Cert.KernelInproj.main_arg2)
      ∧ r.2.mem ((c.tc : Thread Cert.KernelInproj.nD Cert.KernelInproj.τ).loc Cert.KernelInproj.main_arg3) = m ((c.tc : Thread Cert.KernelInproj.nD Cert.KernelInproj.τ).loc Cert.KernelInproj.main_arg3))
      ∧ r.2.sem = fun _ => 0)

def quiescent_KernelInprojIdeal [hKernelInprojIdeal : Cert.KernelInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg), Pre_KernelInprojIdeal m →
    θ_run (Cert.KernelInprojIdeal.defs (F := Ideal)) (onTc (τ := Cert.KernelInprojIdeal.τ) (Cert.KernelInprojIdeal.main (F := Ideal))) ⟨m, fun _ => 0, g⟩ (fun r => (∀ c : Dev Cert.KernelInprojIdeal.nD,
      r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
      ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
      ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
      ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3))
      ∧ r.2.sem = fun _ => 0)

def quiescent_ReferenceInprojIdeal [hReferenceInprojIdeal : Cert.ReferenceInprojIdeal.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1)
      ∧ r.2.mem ((c.tc : Thread Cert.ReferenceInprojIdeal.nD Cert.ReferenceInprojIdeal.τ).loc Cert.ReferenceInprojIdeal.main_arg2) = m ((c.tc : Thread Cert.ReferenceInprojIdeal.nD Cert.ReferenceInprojIdeal.τ).loc Cert.ReferenceInprojIdeal.main_arg2)
      ∧ r.2.mem ((c.tc : Thread Cert.ReferenceInprojIdeal.nD Cert.ReferenceInprojIdeal.τ).loc Cert.ReferenceInprojIdeal.main_arg3) = m ((c.tc : Thread Cert.ReferenceInprojIdeal.nD Cert.ReferenceInprojIdeal.τ).loc Cert.ReferenceInprojIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)) →
    ∃ (v0 : (c : Dev Cert.KernelMergeIdeal.nD) → Buf (Elt Ideal) ((c.tc : Thread Cert.KernelMergeIdeal.nD Cert.KernelMergeIdeal.τ).loc Cert.KernelMergeIdeal.main_v14)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v14) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v22) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v5)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v5) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v33) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelInproj_KernelInprojIdeal : Prop :=
  True

def algebraic_KernelInprojIdeal_ReferenceInprojIdeal [hKernelInprojIdeal : Cert.KernelInprojIdeal.Facts] [hReferenceInprojIdeal : Cert.ReferenceInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg)
    (m' : (ℓ : Loc Cert.ReferenceInprojIdeal.nD Cert.ReferenceInprojIdeal.τ Cert.ReferenceInprojIdeal.sig) → Buf (Elt Ideal) ℓ) (g' : Dev Cert.ReferenceInprojIdeal.nD → PrngReg), Pre_KernelInprojIdeal m →
    (∀ c : Dev Cert.KernelInprojIdeal.nD,
      m' ((c.tc : Thread Cert.ReferenceInprojIdeal.nD Cert.ReferenceInprojIdeal.τ).loc Cert.ReferenceInprojIdeal.main_arg0) = m ((c.tc : Thread Cert.KernelInprojIdeal.nD Cert.KernelInprojIdeal.τ).loc Cert.KernelInprojIdeal.main_arg0)
      ∧ m' ((c.tc : Thread Cert.ReferenceInprojIdeal.nD Cert.ReferenceInprojIdeal.τ).loc Cert.ReferenceInprojIdeal.main_arg1) = m ((c.tc : Thread Cert.KernelInprojIdeal.nD Cert.KernelInprojIdeal.τ).loc Cert.KernelInprojIdeal.main_arg1)
      ∧ m' ((c.tc : Thread Cert.ReferenceInprojIdeal.nD Cert.ReferenceInprojIdeal.τ).loc Cert.ReferenceInprojIdeal.main_arg2) = m ((c.tc : Thread Cert.KernelInprojIdeal.nD Cert.KernelInprojIdeal.τ).loc Cert.KernelInprojIdeal.main_arg2)
      ∧ m' ((c.tc : Thread Cert.ReferenceInprojIdeal.nD Cert.ReferenceInprojIdeal.τ).loc Cert.ReferenceInprojIdeal.main_arg3) = m ((c.tc : Thread Cert.KernelInprojIdeal.nD Cert.KernelInprojIdeal.τ).loc Cert.KernelInprojIdeal.main_arg3)) →
    ∃ (v0 : (c : Dev Cert.KernelInprojIdeal.nD) → Buf (Elt Ideal) ((c.tc : Thread Cert.KernelInprojIdeal.nD Cert.KernelInprojIdeal.τ).loc Cert.KernelInprojIdeal.main_v53)),
      θ_run (Cert.KernelInprojIdeal.defs (F := Ideal)) (onTc (τ := Cert.KernelInprojIdeal.τ) (Cert.KernelInprojIdeal.main (F := Ideal))) ⟨m, fun _ => 0, g⟩ (fun r => ∀ c : Dev Cert.KernelInprojIdeal.nD,
          r.2.mem ((c.tc : Thread Cert.KernelInprojIdeal.nD Cert.KernelInprojIdeal.τ).loc Cert.KernelInprojIdeal.main_v53) = v0 c
          ∧ r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
          ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
          ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
          ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3))
      ∧ θ_run (Cert.ReferenceInprojIdeal.defs (F := Ideal)) (onTc (τ := Cert.ReferenceInprojIdeal.τ) (Cert.ReferenceInprojIdeal.main (F := Ideal))) ⟨m', fun _ => 0, g'⟩ (fun r => ∀ c : Dev Cert.ReferenceInprojIdeal.nD,
          r.2.mem ((c.tc : Thread Cert.ReferenceInprojIdeal.nD Cert.ReferenceInprojIdeal.τ).loc Cert.ReferenceInprojIdeal.main_v181) = v0 c
          ∧ r.2.mem ((c.tc : Thread Cert.ReferenceInprojIdeal.nD Cert.ReferenceInprojIdeal.τ).loc Cert.ReferenceInprojIdeal.main_arg0) = m' ((c.tc : Thread Cert.ReferenceInprojIdeal.nD Cert.ReferenceInprojIdeal.τ).loc Cert.ReferenceInprojIdeal.main_arg0)
          ∧ r.2.mem ((c.tc : Thread Cert.ReferenceInprojIdeal.nD Cert.ReferenceInprojIdeal.τ).loc Cert.ReferenceInprojIdeal.main_arg1) = m' ((c.tc : Thread Cert.ReferenceInprojIdeal.nD Cert.ReferenceInprojIdeal.τ).loc Cert.ReferenceInprojIdeal.main_arg1)
          ∧ r.2.mem ((c.tc : Thread Cert.ReferenceInprojIdeal.nD Cert.ReferenceInprojIdeal.τ).loc Cert.ReferenceInprojIdeal.main_arg2) = m' ((c.tc : Thread Cert.ReferenceInprojIdeal.nD Cert.ReferenceInprojIdeal.τ).loc Cert.ReferenceInprojIdeal.main_arg2)
          ∧ r.2.mem ((c.tc : Thread Cert.ReferenceInprojIdeal.nD Cert.ReferenceInprojIdeal.τ).loc Cert.ReferenceInprojIdeal.main_arg3) = m' ((c.tc : Thread Cert.ReferenceInprojIdeal.nD Cert.ReferenceInprojIdeal.τ).loc Cert.ReferenceInprojIdeal.main_arg3))

def Claim : Prop :=
  ∃ (hKernel : Cert.Kernel.Facts) (hKernelIdeal : Cert.KernelIdeal.Facts) (hReferenceIdeal : Cert.ReferenceIdeal.Facts) (hKernelMerge : Cert.KernelMerge.Facts) (hKernelMergeIdeal : Cert.KernelMergeIdeal.Facts) (hReferenceMergeIdeal : Cert.ReferenceMergeIdeal.Facts) (hKernelFfn : Cert.KernelFfn.Facts) (hKernelFfnIdeal : Cert.KernelFfnIdeal.Facts) (hReferenceFfnIdeal : Cert.ReferenceFfnIdeal.Facts) (hKernelInproj : Cert.KernelInproj.Facts) (hKernelInprojIdeal : Cert.KernelInprojIdeal.Facts) (hReferenceInprojIdeal : Cert.ReferenceInprojIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelInproj (hKernelInproj := hKernelInproj)
    ∧ quiescent_KernelInprojIdeal (hKernelInprojIdeal := hKernelInprojIdeal)
    ∧ quiescent_ReferenceInprojIdeal (hReferenceInprojIdeal := hReferenceInprojIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelInproj_KernelInprojIdeal
    ∧ algebraic_KernelInprojIdeal_ReferenceInprojIdeal (hKernelInprojIdeal := hKernelInprojIdeal) (hReferenceInprojIdeal := hReferenceInprojIdeal)
-- ==== Pre_finite.lean ====
abbrev S64 : Shape := ⟨1, ![64]⟩
abbrev S128 : Shape := ⟨1, ![128]⟩
abbrev S16x2048x8x2x64 : Shape := ⟨5, ![16, 2048, 8, 2, 64]⟩
abbrev S16x2048x8x128 : Shape := ⟨4, ![16, 2048, 8, 128]⟩
abbrev S16x8x2x64 : Shape := ⟨4, ![16, 8, 2, 64]⟩
abbrev S16x8x128 : Shape := ⟨3, ![16, 8, 128]⟩
abbrev S_ : Shape := ⟨0, ![]⟩

class Facts : Prop where
  bcast_S_S64 : S_.BroadcastsInDim S64 (![] : Fin 0 → Fin S64.rank)
  bcast_S_S16x2048x8x2x64 : S_.BroadcastsInDim S16x2048x8x2x64 (![] : Fin 0 → Fin S16x2048x8x2x64.rank)
  bcast_S_S16x2048x8x128 : S_.BroadcastsInDim S16x2048x8x128 (![] : Fin 0 → Fin S16x2048x8x128.rank)
  bcast_S_S16x8x2x64 : S_.BroadcastsInDim S16x8x2x64 (![] : Fin 0 → Fin S16x8x2x64.rank)
  bcast_S_S16x8x128 : S_.BroadcastsInDim S16x8x128 (![] : Fin 0 → Fin S16x8x128.rank)

variable [Facts]

def fn_part1 {F : FTy → Type} [FloatOps F] (main_arg7 : FVec F S16x2048x8x128 .f32) (main_arg8 : FVec F S16x8x2x64 .f32) (main_arg9 : FVec F S16x8x128 .f32) (main_v2 : IVec S64 1) (main_v5 : IVec S64 1) (main_v8 : IVec S64 1) (main_v11 : IVec S64 1) (main_v14 : IVec S16x2048x8x2x64 1) (main_v17 : IVec S16x2048x8x2x64 1) : IVec S64 1 × IVec S64 1 × IVec S64 1 × IVec S64 1 × IVec S16x2048x8x2x64 1 × IVec S16x2048x8x2x64 1 × IVec S16x2048x8x128 1 × IVec S16x8x2x64 1 × IVec S16x8x128 1 :=
  let main_v18 : FVec F S16x2048x8x128 .f32 := Host.absf main_arg7
  let main_cst_5 : FVec F S_ .f32 := constant S_ .f32 0x7F800000#32
  let main_v19 : FVec F S16x2048x8x128 .f32 := broadcastInDim S16x2048x8x128 ![] bcast_S_S16x2048x8x128 main_cst_5
  let main_v20 : IVec S16x2048x8x128 1 := cmpf .olt main_v18 main_v19
  let main_v21 : FVec F S16x8x2x64 .f32 := Host.absf main_arg8
  let main_cst_6 : FVec F S_ .f32 := constant S_ .f32 0x7F800000#32
  let main_v22 : FVec F S16x8x2x64 .f32 := broadcastInDim S16x8x2x64 ![] bcast_S_S16x8x2x64 main_cst_6
  let main_v23 : IVec S16x8x2x64 1 := cmpf .olt main_v21 main_v22
  let main_v24 : FVec F S16x8x128 .f32 := Host.absf main_arg9
  let main_cst_7 : FVec F S_ .f32 := constant S_ .f32 0x7F800000#32
  let main_v25 : FVec F S16x8x128 .f32 := broadcastInDim S16x8x128 ![] bcast_S_S16x8x128 main_cst_7
  let main_v26 : IVec S16x8x128 1 := cmpf .olt main_v24 main_v25
  (main_v2, main_v5, main_v8, main_v11, main_v14, main_v17, main_v20, main_v23, main_v26)

def fn {F : FTy → Type} [FloatOps F] (main_arg0 : FVec F S64 .f32) (main_arg1 : FVec F S64 .f32) (main_arg2 : FVec F S64 .f32) (main_arg3 : FVec F S64 .f32) (main_arg4 : FVec F S128 .f32) (main_arg5 : FVec F S16x2048x8x2x64 .f32) (main_arg6 : FVec F S16x2048x8x2x64 .f32) (main_arg7 : FVec F S16x2048x8x128 .f32) (main_arg8 : FVec F S16x8x2x64 .f32) (main_arg9 : FVec F S16x8x128 .f32) : IVec S64 1 × IVec S64 1 × IVec S64 1 × IVec S64 1 × IVec S16x2048x8x2x64 1 × IVec S16x2048x8x2x64 1 × IVec S16x2048x8x128 1 × IVec S16x8x2x64 1 × IVec S16x8x128 1 :=
  let main_v0 : FVec F S64 .f32 := Host.absf main_arg0
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S16x2048x8x2x64 .f32 := Host.absf main_arg5
  let main_cst_3 : FVec F S_ .f32 := constant S_ .f32 0x7F800000#32
  let main_v13 : FVec F S16x2048x8x2x64 .f32 := broadcastInDim S16x2048x8x2x64 ![] bcast_S_S16x2048x8x2x64 main_cst_3
  let main_v14 : IVec S16x2048x8x2x64 1 := cmpf .olt main_v12 main_v13
  let main_v15 : FVec F S16x2048x8x2x64 .f32 := Host.absf main_arg6
  let main_cst_4 : FVec F S_ .f32 := constant S_ .f32 0x7F800000#32
  let main_v16 : FVec F S16x2048x8x2x64 .f32 := broadcastInDim S16x2048x8x2x64 ![] bcast_S_S16x2048x8x2x64 main_cst_4
  let main_v17 : IVec S16x2048x8x2x64 1 := cmpf .olt main_v15 main_v16
  fn_part1 (F := F) main_arg7 main_arg8 main_arg9 main_v2 main_v5 main_v8 main_v11 main_v14 main_v17
-- ==== Kernel.lean ====
abbrev S64 : Shape := ⟨1, ![64]⟩
abbrev S128 : Shape := ⟨1, ![128]⟩
abbrev S16x2048x8x2x64 : Shape := ⟨5, ![16, 2048, 8, 2, 64]⟩
abbrev S16x2048x8x128 : Shape := ⟨4, ![16, 2048, 8, 128]⟩
abbrev S16x8x2x64 : Shape := ⟨4, ![16, 8, 2, 64]⟩
abbrev S16x8x128 : Shape := ⟨3, ![16, 8, 128]⟩
abbrev S_ : Shape := ⟨0, ![]⟩
abbrev S1x64 : Shape := ⟨2, ![1, 64]⟩
abbrev S4x64 : Shape := ⟨2, ![4, 64]⟩
abbrev S16x2048x1024 : Shape := ⟨3, ![16, 2048, 1024]⟩
abbrev S16x2048x2560 : Shape := ⟨3, ![16, 2048, 2560]⟩
abbrev S16x2048x6656 : Shape := ⟨3, ![16, 2048, 6656]⟩
abbrev S16x1024 : Shape := ⟨2, ![16, 1024]⟩
abbrev S16x2560 : Shape := ⟨2, ![16, 2560]⟩
abbrev S16x6656 : Shape := ⟨2, ![16, 6656]⟩
abbrev S112x6656 : Shape := ⟨2, ![112, 6656]⟩
abbrev S128x6656 : Shape := ⟨2, ![128, 6656]⟩
abbrev S1x128 : Shape := ⟨2, ![1, 128]⟩
abbrev S1x2048x128 : Shape := ⟨3, ![1, 2048, 128]⟩
abbrev S128x128 : Shape := ⟨2, ![128, 128]⟩
abbrev S2x2064x128 : Shape := ⟨3, ![2, 2064, 128]⟩
abbrev S144x2176 : Shape := ⟨2, ![144, 2176]⟩
abbrev S2x2064x1024 : Shape := ⟨3, ![2, 2064, 1024]⟩
abbrev S2176x1024 : Shape := ⟨2, ![2176, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S128x256 : Shape := ⟨2, ![128, 256]⟩
abbrev S16x128 : Shape := ⟨2, ![16, 128]⟩
abbrev S1x16x128 : Shape := ⟨3, ![1, 16, 128]⟩
abbrev S16x2176 : Shape := ⟨2, ![16, 2176]⟩
abbrev S112x1024 : Shape := ⟨2, ![112, 1024]⟩
abbrev S1 : Shape := ⟨1, ![1]⟩
abbrev S1x1 : Shape := ⟨2, ![1, 1]⟩
abbrev S512x512 : Shape := ⟨2, ![512, 512]⟩
abbrev S1x512x512 : Shape := ⟨3, ![1, 512, 512]⟩
abbrev S8x512 : Shape := ⟨2, ![8, 512]⟩
abbrev S1x528x128 : Shape := ⟨3, ![1, 528, 128]⟩
abbrev S528x128 : Shape := ⟨2, ![528, 128]⟩
abbrev S528x512 : Shape := ⟨2, ![528, 512]⟩
abbrev S1x528x512 : Shape := ⟨3, ![1, 528, 512]⟩
abbrev S512 : Shape := ⟨1, ![512]⟩
abbrev S1x512 : Shape := ⟨2, ![1, 512]⟩
abbrev S16x512 : Shape := ⟨2, ![16, 512]⟩
abbrev S1x16x512 : Shape := ⟨3, ![1, 16, 512]⟩
abbrev S2176x512 : Shape := ⟨2, ![2176, 512]⟩
abbrev S144x512 : Shape := ⟨2, ![144, 512]⟩
abbrev S128x512 : Shape := ⟨2, ![128, 512]⟩
abbrev S512x1 : Shape := ⟨2, ![512, 1]⟩

abbrev nBuf : Space → Nat
  | .hbm => 45
  | .vmem => 20
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S128, .f32⟩
  | .hbm, ⟨5, _⟩ => ⟨S16x2048x8x2x64, .f32⟩
  | .hbm, ⟨6, _⟩ => ⟨S16x2048x8x2x64, .f32⟩
  | .hbm, ⟨7, _⟩ => ⟨S16x2048x8x128, .f32⟩
  | .hbm, ⟨8, _⟩ => ⟨S16x8x2x64, .f32⟩
  | .hbm, ⟨9, _⟩ => ⟨S16x8x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S4x64, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x2048x1024, .f32⟩
  | .hbm, ⟨26, _⟩ => ⟨S_, .f32⟩
  | .hbm, ⟨27, _⟩ => ⟨S16x2048x2560, .f32⟩
  | .hbm, ⟨28, _⟩ => ⟨S16x2048x6656, .f32⟩
  | .hbm, ⟨29, _⟩ => ⟨S16x2048x6656, .bf16⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S_, .f32⟩
  | .hbm, ⟨37, _⟩ => ⟨S16x2560, .f32⟩
  | .hbm, ⟨38, _⟩ => ⟨S16x6656, .f32⟩
  | .hbm, ⟨39, _⟩ => ⟨S16x6656, .bf16⟩
  | .hbm, ⟨40, _⟩ => ⟨S_, .bf16⟩
  | .hbm, ⟨41, _⟩ => ⟨S112x6656, .bf16⟩
  | .hbm, ⟨42, _⟩ => ⟨S128x6656, .bf16⟩
  | .hbm, ⟨43, _⟩ => ⟨S1x128, .f32⟩
  | .hbm, ⟨44, _⟩ => ⟨S16x2048x1024, .bf16⟩
  | .local _ .vmem, ⟨0, _⟩ => ⟨S4x64, .f32⟩
  | .local _ .vmem, ⟨1, _⟩ => ⟨S1x128, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S2x2064x128, .bf16⟩
  | .local _ .vmem, ⟨15, _⟩ => ⟨S144x2176, .bf16⟩
  | .local _ .vmem, ⟨16, _⟩ => ⟨S2x2064x1024, .f32⟩
  | .local _ .vmem, ⟨17, _⟩ => ⟨S2x2064x1024, .f32⟩
  | .local _ .vmem, ⟨18, _⟩ => ⟨S2176x1024, .bf16⟩
  | .local _ .vmem, ⟨19, _⟩ => ⟨S2176x1024, .bf16⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 8, 1], ![false, false, false]⟩

def k0_off1 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_4 : BitVec 32 := 1#32
  let v22 : BitVec 32 := Scalar.andi v21 c1_i32_4
  let v31 : Index := Scalar.indexCast v22
  let c0_14 : Index := 0#32
  let c0_15 : Index := 0#32
  ![v31.toNat, 0, 0]
def k0_off2 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_4 : BitVec 32 := 1#32
  let v22 : BitVec 32 := Scalar.andi v21 c1_i32_4
  let v166 : Index := Scalar.indexCast v22
  let c512_22 : Index := 512#32
  let c0_23 : Index := 0#32
  ![v166.toNat, 512, 0]
def k0_off3 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_4 : BitVec 32 := 1#32
  let v22 : BitVec 32 := Scalar.andi v21 c1_i32_4
  let v303 : Index := Scalar.indexCast v22
  let c1024_30 : Index := 1024#32
  let c0_31 : Index := 0#32
  ![v303.toNat, 1024, 0]
def k0_off4 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_4 : BitVec 32 := 1#32
  let v22 : BitVec 32 := Scalar.andi v21 c1_i32_4
  let v440 : Index := Scalar.indexCast v22
  let c1536_38 : Index := 1536#32
  let c0_39 : Index := 0#32
  ![v440.toNat, 1536, 0]
def k0_off5 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v716 : Index := Scalar.indexCast v25
  let c0_49 : Index := 0#32
  let c0_50 : Index := 0#32
  ![v716.toNat, 0, 0]
def k0_off6 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v725 : Index := Scalar.indexCast v25
  let c16 : Index := 16#32
  let c0_53 : Index := 0#32
  ![v725.toNat, 16, 0]
def k0_off7 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v734 : Index := Scalar.indexCast v25
  let c32 : Index := 32#32
  let c0_56 : Index := 0#32
  ![v734.toNat, 32, 0]
def k0_off8 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v743 : Index := Scalar.indexCast v25
  let c48 : Index := 48#32
  let c0_59 : Index := 0#32
  ![v743.toNat, 48, 0]
def k0_off9 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v752 : Index := Scalar.indexCast v25
  let c64 : Index := 64#32
  let c0_62 : Index := 0#32
  ![v752.toNat, 64, 0]
def k0_off10 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v761 : Index := Scalar.indexCast v25
  let c80 : Index := 80#32
  let c0_65 : Index := 0#32
  ![v761.toNat, 80, 0]
def k0_off11 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v770 : Index := Scalar.indexCast v25
  let c96 : Index := 96#32
  let c0_68 : Index := 0#32
  ![v770.toNat, 96, 0]
def k0_off12 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v779 : Index := Scalar.indexCast v25
  let c112 : Index := 112#32
  let c0_71 : Index := 0#32
  ![v779.toNat, 112, 0]
def k0_off13 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v788 : Index := Scalar.indexCast v25
  let c128 : Index := 128#32
  let c0_74 : Index := 0#32
  ![v788.toNat, 128, 0]
def k0_off14 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v797 : Index := Scalar.indexCast v25
  let c144 : Index := 144#32
  let c0_77 : Index := 0#32
  ![v797.toNat, 144, 0]
def k0_off15 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v806 : Index := Scalar.indexCast v25
  let c160 : Index := 160#32
  let c0_80 : Index := 0#32
  ![v806.toNat, 160, 0]
def k0_off16 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v815 : Index := Scalar.indexCast v25
  let c176 : Index := 176#32
  let c0_83 : Index := 0#32
  ![v815.toNat, 176, 0]
def k0_off17 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v824 : Index := Scalar.indexCast v25
  let c192 : Index := 192#32
  let c0_86 : Index := 0#32
  ![v824.toNat, 192, 0]
def k0_off18 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v833 : Index := Scalar.indexCast v25
  let c208 : Index := 208#32
  let c0_89 : Index := 0#32
  ![v833.toNat, 208, 0]
def k0_off19 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v842 : Index := Scalar.indexCast v25
  let c224 : Index := 224#32
  let c0_92 : Index := 0#32
  ![v842.toNat, 224, 0]
def k0_off20 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v851 : Index := Scalar.indexCast v25
  let c240 : Index := 240#32
  let c0_95 : Index := 0#32
  ![v851.toNat, 240, 0]
def k0_off21 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v860 : Index := Scalar.indexCast v25
  let c256 : Index := 256#32
  let c0_98 : Index := 0#32
  ![v860.toNat, 256, 0]
def k0_off22 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v869 : Index := Scalar.indexCast v25
  let c272 : Index := 272#32
  let c0_101 : Index := 0#32
  ![v869.toNat, 272, 0]
def k0_off23 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v878 : Index := Scalar.indexCast v25
  let c288 : Index := 288#32
  let c0_104 : Index := 0#32
  ![v878.toNat, 288, 0]
def k0_off24 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v887 : Index := Scalar.indexCast v25
  let c304 : Index := 304#32
  let c0_107 : Index := 0#32
  ![v887.toNat, 304, 0]
def k0_off25 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v896 : Index := Scalar.indexCast v25
  let c320 : Index := 320#32
  let c0_110 : Index := 0#32
  ![v896.toNat, 320, 0]
def k0_off26 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v905 : Index := Scalar.indexCast v25
  let c336 : Index := 336#32
  let c0_113 : Index := 0#32
  ![v905.toNat, 336, 0]
def k0_off27 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v914 : Index := Scalar.indexCast v25
  let c352 : Index := 352#32
  let c0_116 : Index := 0#32
  ![v914.toNat, 352, 0]
def k0_off28 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v923 : Index := Scalar.indexCast v25
  let c368 : Index := 368#32
  let c0_119 : Index := 0#32
  ![v923.toNat, 368, 0]
def k0_off29 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v932 : Index := Scalar.indexCast v25
  let c384 : Index := 384#32
  let c0_122 : Index := 0#32
  ![v932.toNat, 384, 0]
def k0_off30 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v941 : Index := Scalar.indexCast v25
  let c400 : Index := 400#32
  let c0_125 : Index := 0#32
  ![v941.toNat, 400, 0]
def k0_off31 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v950 : Index := Scalar.indexCast v25
  let c416 : Index := 416#32
  let c0_128 : Index := 0#32
  ![v950.toNat, 416, 0]
def k0_off32 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v959 : Index := Scalar.indexCast v25
  let c432 : Index := 432#32
  let c0_131 : Index := 0#32
  ![v959.toNat, 432, 0]
def k0_off33 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v968 : Index := Scalar.indexCast v25
  let c448 : Index := 448#32
  let c0_134 : Index := 0#32
  ![v968.toNat, 448, 0]
def k0_off34 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v977 : Index := Scalar.indexCast v25
  let c464 : Index := 464#32
  let c0_137 : Index := 0#32
  ![v977.toNat, 464, 0]
def k0_off35 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v986 : Index := Scalar.indexCast v25
  let c480 : Index := 480#32
  let c0_140 : Index := 0#32
  ![v986.toNat, 480, 0]
def k0_off36 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v995 : Index := Scalar.indexCast v25
  let c496 : Index := 496#32
  let c0_143 : Index := 0#32
  ![v995.toNat, 496, 0]
def k0_off37 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1141 : Index := Scalar.indexCast v25
  let c512_155 : Index := 512#32
  let c0_156 : Index := 0#32
  ![v1141.toNat, 512, 0]
def k0_off38 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1150 : Index := Scalar.indexCast v25
  let c528 : Index := 528#32
  let c0_159 : Index := 0#32
  ![v1150.toNat, 528, 0]
def k0_off39 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1159 : Index := Scalar.indexCast v25
  let c544 : Index := 544#32
  let c0_162 : Index := 0#32
  ![v1159.toNat, 544, 0]
def k0_off40 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1168 : Index := Scalar.indexCast v25
  let c560 : Index := 560#32
  let c0_165 : Index := 0#32
  ![v1168.toNat, 560, 0]
def k0_off41 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1177 : Index := Scalar.indexCast v25
  let c576 : Index := 576#32
  let c0_168 : Index := 0#32
  ![v1177.toNat, 576, 0]
def k0_off42 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1186 : Index := Scalar.indexCast v25
  let c592 : Index := 592#32
  let c0_171 : Index := 0#32
  ![v1186.toNat, 592, 0]
def k0_off43 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1195 : Index := Scalar.indexCast v25
  let c608 : Index := 608#32
  let c0_174 : Index := 0#32
  ![v1195.toNat, 608, 0]
def k0_off44 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1204 : Index := Scalar.indexCast v25
  let c624 : Index := 624#32
  let c0_177 : Index := 0#32
  ![v1204.toNat, 624, 0]
def k0_off45 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1213 : Index := Scalar.indexCast v25
  let c640 : Index := 640#32
  let c0_180 : Index := 0#32
  ![v1213.toNat, 640, 0]
def k0_off46 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1222 : Index := Scalar.indexCast v25
  let c656 : Index := 656#32
  let c0_183 : Index := 0#32
  ![v1222.toNat, 656, 0]
def k0_off47 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1231 : Index := Scalar.indexCast v25
  let c672 : Index := 672#32
  let c0_186 : Index := 0#32
  ![v1231.toNat, 672, 0]
def k0_off48 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1240 : Index := Scalar.indexCast v25
  let c688 : Index := 688#32
  let c0_189 : Index := 0#32
  ![v1240.toNat, 688, 0]
def k0_off49 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1249 : Index := Scalar.indexCast v25
  let c704 : Index := 704#32
  let c0_192 : Index := 0#32
  ![v1249.toNat, 704, 0]
def k0_off50 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1258 : Index := Scalar.indexCast v25
  let c720 : Index := 720#32
  let c0_195 : Index := 0#32
  ![v1258.toNat, 720, 0]
def k0_off51 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1267 : Index := Scalar.indexCast v25
  let c736 : Index := 736#32
  let c0_198 : Index := 0#32
  ![v1267.toNat, 736, 0]
def k0_off52 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1276 : Index := Scalar.indexCast v25
  let c752 : Index := 752#32
  let c0_201 : Index := 0#32
  ![v1276.toNat, 752, 0]
def k0_off53 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1285 : Index := Scalar.indexCast v25
  let c768 : Index := 768#32
  let c0_204 : Index := 0#32
  ![v1285.toNat, 768, 0]
def k0_off54 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1294 : Index := Scalar.indexCast v25
  let c784 : Index := 784#32
  let c0_207 : Index := 0#32
  ![v1294.toNat, 784, 0]
def k0_off55 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1303 : Index := Scalar.indexCast v25
  let c800 : Index := 800#32
  let c0_210 : Index := 0#32
  ![v1303.toNat, 800, 0]
def k0_off56 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1312 : Index := Scalar.indexCast v25
  let c816 : Index := 816#32
  let c0_213 : Index := 0#32
  ![v1312.toNat, 816, 0]
def k0_off57 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1321 : Index := Scalar.indexCast v25
  let c832 : Index := 832#32
  let c0_216 : Index := 0#32
  ![v1321.toNat, 832, 0]
def k0_off58 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1330 : Index := Scalar.indexCast v25
  let c848 : Index := 848#32
  let c0_219 : Index := 0#32
  ![v1330.toNat, 848, 0]
def k0_off59 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1339 : Index := Scalar.indexCast v25
  let c864 : Index := 864#32
  let c0_222 : Index := 0#32
  ![v1339.toNat, 864, 0]
def k0_off60 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1348 : Index := Scalar.indexCast v25
  let c880 : Index := 880#32
  let c0_225 : Index := 0#32
  ![v1348.toNat, 880, 0]
def k0_off61 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1357 : Index := Scalar.indexCast v25
  let c896 : Index := 896#32
  let c0_228 : Index := 0#32
  ![v1357.toNat, 896, 0]
def k0_off62 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1366 : Index := Scalar.indexCast v25
  let c912 : Index := 912#32
  let c0_231 : Index := 0#32
  ![v1366.toNat, 912, 0]
def k0_off63 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1375 : Index := Scalar.indexCast v25
  let c928 : Index := 928#32
  let c0_234 : Index := 0#32
  ![v1375.toNat, 928, 0]
def k0_off64 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1384 : Index := Scalar.indexCast v25
  let c944 : Index := 944#32
  let c0_237 : Index := 0#32
  ![v1384.toNat, 944, 0]
def k0_off65 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1393 : Index := Scalar.indexCast v25
  let c960 : Index := 960#32
  let c0_240 : Index := 0#32
  ![v1393.toNat, 960, 0]
def k0_off66 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1402 : Index := Scalar.indexCast v25
  let c976 : Index := 976#32
  let c0_243 : Index := 0#32
  ![v1402.toNat, 976, 0]
def k0_off67 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1411 : Index := Scalar.indexCast v25
  let c992 : Index := 992#32
  let c0_246 : Index := 0#32
  ![v1411.toNat, 992, 0]
def k0_off68 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1420 : Index := Scalar.indexCast v25
  let c1008 : Index := 1008#32
  let c0_249 : Index := 0#32
  ![v1420.toNat, 1008, 0]
def k0_off69 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1566 : Index := Scalar.indexCast v25
  let c1024_261 : Index := 1024#32
  let c0_262 : Index := 0#32
  ![v1566.toNat, 1024, 0]
def k0_off70 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1575 : Index := Scalar.indexCast v25
  let c1040 : Index := 1040#32
  let c0_265 : Index := 0#32
  ![v1575.toNat, 1040, 0]
def k0_off71 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1584 : Index := Scalar.indexCast v25
  let c1056 : Index := 1056#32
  let c0_268 : Index := 0#32
  ![v1584.toNat, 1056, 0]
def k0_off72 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1593 : Index := Scalar.indexCast v25
  let c1072 : Index := 1072#32
  let c0_271 : Index := 0#32
  ![v1593.toNat, 1072, 0]
def k0_off73 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1602 : Index := Scalar.indexCast v25
  let c1088 : Index := 1088#32
  let c0_274 : Index := 0#32
  ![v1602.toNat, 1088, 0]
def k0_off74 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1611 : Index := Scalar.indexCast v25
  let c1104 : Index := 1104#32
  let c0_277 : Index := 0#32
  ![v1611.toNat, 1104, 0]
def k0_off75 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1620 : Index := Scalar.indexCast v25
  let c1120 : Index := 1120#32
  let c0_280 : Index := 0#32
  ![v1620.toNat, 1120, 0]
def k0_off76 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1629 : Index := Scalar.indexCast v25
  let c1136 : Index := 1136#32
  let c0_283 : Index := 0#32
  ![v1629.toNat, 1136, 0]
def k0_off77 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1638 : Index := Scalar.indexCast v25
  let c1152 : Index := 1152#32
  let c0_286 : Index := 0#32
  ![v1638.toNat, 1152, 0]
def k0_off78 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1647 : Index := Scalar.indexCast v25
  let c1168 : Index := 1168#32
  let c0_289 : Index := 0#32
  ![v1647.toNat, 1168, 0]
def k0_off79 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1656 : Index := Scalar.indexCast v25
  let c1184 : Index := 1184#32
  let c0_292 : Index := 0#32
  ![v1656.toNat, 1184, 0]
def k0_off80 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1665 : Index := Scalar.indexCast v25
  let c1200 : Index := 1200#32
  let c0_295 : Index := 0#32
  ![v1665.toNat, 1200, 0]
def k0_off81 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1674 : Index := Scalar.indexCast v25
  let c1216 : Index := 1216#32
  let c0_298 : Index := 0#32
  ![v1674.toNat, 1216, 0]
def k0_off82 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1683 : Index := Scalar.indexCast v25
  let c1232 : Index := 1232#32
  let c0_301 : Index := 0#32
  ![v1683.toNat, 1232, 0]
def k0_off83 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1692 : Index := Scalar.indexCast v25
  let c1248 : Index := 1248#32
  let c0_304 : Index := 0#32
  ![v1692.toNat, 1248, 0]
def k0_off84 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1701 : Index := Scalar.indexCast v25
  let c1264 : Index := 1264#32
  let c0_307 : Index := 0#32
  ![v1701.toNat, 1264, 0]
def k0_off85 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1710 : Index := Scalar.indexCast v25
  let c1280 : Index := 1280#32
  let c0_310 : Index := 0#32
  ![v1710.toNat, 1280, 0]
def k0_off86 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1719 : Index := Scalar.indexCast v25
  let c1296 : Index := 1296#32
  let c0_313 : Index := 0#32
  ![v1719.toNat, 1296, 0]
def k0_off87 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1728 : Index := Scalar.indexCast v25
  let c1312 : Index := 1312#32
  let c0_316 : Index := 0#32
  ![v1728.toNat, 1312, 0]
def k0_off88 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1737 : Index := Scalar.indexCast v25
  let c1328 : Index := 1328#32
  let c0_319 : Index := 0#32
  ![v1737.toNat, 1328, 0]
def k0_off89 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1746 : Index := Scalar.indexCast v25
  let c1344 : Index := 1344#32
  let c0_322 : Index := 0#32
  ![v1746.toNat, 1344, 0]
def k0_off90 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1755 : Index := Scalar.indexCast v25
  let c1360 : Index := 1360#32
  let c0_325 : Index := 0#32
  ![v1755.toNat, 1360, 0]
def k0_off91 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1764 : Index := Scalar.indexCast v25
  let c1376 : Index := 1376#32
  let c0_328 : Index := 0#32
  ![v1764.toNat, 1376, 0]
def k0_off92 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1773 : Index := Scalar.indexCast v25
  let c1392 : Index := 1392#32
  let c0_331 : Index := 0#32
  ![v1773.toNat, 1392, 0]
def k0_off93 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1782 : Index := Scalar.indexCast v25
  let c1408 : Index := 1408#32
  let c0_334 : Index := 0#32
  ![v1782.toNat, 1408, 0]
def k0_off94 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1791 : Index := Scalar.indexCast v25
  let c1424 : Index := 1424#32
  let c0_337 : Index := 0#32
  ![v1791.toNat, 1424, 0]
def k0_off95 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1800 : Index := Scalar.indexCast v25
  let c1440 : Index := 1440#32
  let c0_340 : Index := 0#32
  ![v1800.toNat, 1440, 0]
def k0_off96 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1809 : Index := Scalar.indexCast v25
  let c1456 : Index := 1456#32
  let c0_343 : Index := 0#32
  ![v1809.toNat, 1456, 0]
def k0_off97 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1818 : Index := Scalar.indexCast v25
  let c1472 : Index := 1472#32
  let c0_346 : Index := 0#32
  ![v1818.toNat, 1472, 0]
def k0_off98 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1827 : Index := Scalar.indexCast v25
  let c1488 : Index := 1488#32
  let c0_349 : Index := 0#32
  ![v1827.toNat, 1488, 0]
def k0_off99 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1836 : Index := Scalar.indexCast v25
  let c1504 : Index := 1504#32
  let c0_352 : Index := 0#32
  ![v1836.toNat, 1504, 0]
def k0_off100 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1845 : Index := Scalar.indexCast v25
  let c1520 : Index := 1520#32
  let c0_355 : Index := 0#32
  ![v1845.toNat, 1520, 0]
def k0_off101 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v1995 : Index := Scalar.indexCast v25
  let c1536_367 : Index := 1536#32
  let c0_368 : Index := 0#32
  ![v1995.toNat, 1536, 0]
def k0_off102 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2004 : Index := Scalar.indexCast v25
  let c1552 : Index := 1552#32
  let c0_371 : Index := 0#32
  ![v2004.toNat, 1552, 0]
def k0_off103 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2013 : Index := Scalar.indexCast v25
  let c1568 : Index := 1568#32
  let c0_374 : Index := 0#32
  ![v2013.toNat, 1568, 0]
def k0_off104 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2022 : Index := Scalar.indexCast v25
  let c1584 : Index := 1584#32
  let c0_377 : Index := 0#32
  ![v2022.toNat, 1584, 0]
def k0_off105 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2031 : Index := Scalar.indexCast v25
  let c1600 : Index := 1600#32
  let c0_380 : Index := 0#32
  ![v2031.toNat, 1600, 0]
def k0_off106 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2040 : Index := Scalar.indexCast v25
  let c1616 : Index := 1616#32
  let c0_383 : Index := 0#32
  ![v2040.toNat, 1616, 0]
def k0_off107 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2049 : Index := Scalar.indexCast v25
  let c1632 : Index := 1632#32
  let c0_386 : Index := 0#32
  ![v2049.toNat, 1632, 0]
def k0_off108 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2058 : Index := Scalar.indexCast v25
  let c1648 : Index := 1648#32
  let c0_389 : Index := 0#32
  ![v2058.toNat, 1648, 0]
def k0_off109 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2067 : Index := Scalar.indexCast v25
  let c1664 : Index := 1664#32
  let c0_392 : Index := 0#32
  ![v2067.toNat, 1664, 0]
def k0_off110 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2076 : Index := Scalar.indexCast v25
  let c1680 : Index := 1680#32
  let c0_395 : Index := 0#32
  ![v2076.toNat, 1680, 0]
def k0_off111 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2085 : Index := Scalar.indexCast v25
  let c1696 : Index := 1696#32
  let c0_398 : Index := 0#32
  ![v2085.toNat, 1696, 0]
def k0_off112 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2094 : Index := Scalar.indexCast v25
  let c1712 : Index := 1712#32
  let c0_401 : Index := 0#32
  ![v2094.toNat, 1712, 0]
def k0_off113 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2103 : Index := Scalar.indexCast v25
  let c1728 : Index := 1728#32
  let c0_404 : Index := 0#32
  ![v2103.toNat, 1728, 0]
def k0_off114 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2112 : Index := Scalar.indexCast v25
  let c1744 : Index := 1744#32
  let c0_407 : Index := 0#32
  ![v2112.toNat, 1744, 0]
def k0_off115 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2121 : Index := Scalar.indexCast v25
  let c1760 : Index := 1760#32
  let c0_410 : Index := 0#32
  ![v2121.toNat, 1760, 0]
def k0_off116 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2130 : Index := Scalar.indexCast v25
  let c1776 : Index := 1776#32
  let c0_413 : Index := 0#32
  ![v2130.toNat, 1776, 0]
def k0_off117 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2139 : Index := Scalar.indexCast v25
  let c1792 : Index := 1792#32
  let c0_416 : Index := 0#32
  ![v2139.toNat, 1792, 0]
def k0_off118 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2148 : Index := Scalar.indexCast v25
  let c1808 : Index := 1808#32
  let c0_419 : Index := 0#32
  ![v2148.toNat, 1808, 0]
def k0_off119 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2157 : Index := Scalar.indexCast v25
  let c1824 : Index := 1824#32
  let c0_422 : Index := 0#32
  ![v2157.toNat, 1824, 0]
def k0_off120 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2166 : Index := Scalar.indexCast v25
  let c1840 : Index := 1840#32
  let c0_425 : Index := 0#32
  ![v2166.toNat, 1840, 0]
def k0_off121 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2175 : Index := Scalar.indexCast v25
  let c1856 : Index := 1856#32
  let c0_428 : Index := 0#32
  ![v2175.toNat, 1856, 0]
def k0_off122 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2184 : Index := Scalar.indexCast v25
  let c1872 : Index := 1872#32
  let c0_431 : Index := 0#32
  ![v2184.toNat, 1872, 0]
def k0_off123 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2193 : Index := Scalar.indexCast v25
  let c1888 : Index := 1888#32
  let c0_434 : Index := 0#32
  ![v2193.toNat, 1888, 0]
def k0_off124 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2202 : Index := Scalar.indexCast v25
  let c1904 : Index := 1904#32
  let c0_437 : Index := 0#32
  ![v2202.toNat, 1904, 0]
def k0_off125 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2211 : Index := Scalar.indexCast v25
  let c1920 : Index := 1920#32
  let c0_440 : Index := 0#32
  ![v2211.toNat, 1920, 0]
def k0_off126 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2220 : Index := Scalar.indexCast v25
  let c1936 : Index := 1936#32
  let c0_443 : Index := 0#32
  ![v2220.toNat, 1936, 0]
def k0_off127 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2229 : Index := Scalar.indexCast v25
  let c1952 : Index := 1952#32
  let c0_446 : Index := 0#32
  ![v2229.toNat, 1952, 0]
def k0_off128 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2238 : Index := Scalar.indexCast v25
  let c1968 : Index := 1968#32
  let c0_449 : Index := 0#32
  ![v2238.toNat, 1968, 0]
def k0_off129 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2247 : Index := Scalar.indexCast v25
  let c1984 : Index := 1984#32
  let c0_452 : Index := 0#32
  ![v2247.toNat, 1984, 0]
def k0_off130 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2256 : Index := Scalar.indexCast v25
  let c2000 : Index := 2000#32
  let c0_455 : Index := 0#32
  ![v2256.toNat, 2000, 0]
def k0_off131 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2265 : Index := Scalar.indexCast v25
  let c2016 : Index := 2016#32
  let c0_458 : Index := 0#32
  ![v2265.toNat, 2016, 0]
def k0_off132 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2274 : Index := Scalar.indexCast v25
  let c2032 : Index := 2032#32
  let c0_461 : Index := 0#32
  ![v2274.toNat, 2032, 0]
def k0_off133 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v2283 : Index := Scalar.indexCast v25
  let c2048 : Index := 2048#32
  let c0_464 : Index := 0#32
  ![v2283.toNat, 2048, 0]
def k0_off134 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_4 : BitVec 32 := 1#32
  let v22 : BitVec 32 := Scalar.andi v21 c1_i32_4
  let v2305 : Index := Scalar.indexCast v22
  let c0_479 : Index := 0#32
  let c512_480 : Index := 512#32
  ![v2305.toNat, 0, 512]
def k0_off135 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_4 : BitVec 32 := 1#32
  let v22 : BitVec 32 := Scalar.andi v21 c1_i32_4
  let v2728 : Index := Scalar.indexCast v22
  let c512_616 : Index := 512#32
  let c512_617 : Index := 512#32
  ![v2728.toNat, 512, 512]
def k0_off136 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_4 : BitVec 32 := 1#32
  let v22 : BitVec 32 := Scalar.andi v21 c1_i32_4
  let v3153 : Index := Scalar.indexCast v22
  let c1024_753 : Index := 1024#32
  let c512_754 : Index := 512#32
  ![v3153.toNat, 1024, 512]
def k0_off137 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_4 : BitVec 32 := 1#32
  let v22 : BitVec 32 := Scalar.andi v21 c1_i32_4
  let v3578 : Index := Scalar.indexCast v22
  let c1536_890 : Index := 1536#32
  let c512_891 : Index := 512#32
  ![v3578.toNat, 1536, 512]
def k0_off138 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4188 : Index := Scalar.indexCast v25
  let c0_1049 : Index := 0#32
  let c512_1050 : Index := 512#32
  ![v4188.toNat, 0, 512]
def k0_off139 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4197 : Index := Scalar.indexCast v25
  let c16_1053 : Index := 16#32
  let c512_1054 : Index := 512#32
  ![v4197.toNat, 16, 512]
def k0_off140 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4206 : Index := Scalar.indexCast v25
  let c32_1057 : Index := 32#32
  let c512_1058 : Index := 512#32
  ![v4206.toNat, 32, 512]
def k0_off141 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4215 : Index := Scalar.indexCast v25
  let c48_1061 : Index := 48#32
  let c512_1062 : Index := 512#32
  ![v4215.toNat, 48, 512]
def k0_off142 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4224 : Index := Scalar.indexCast v25
  let c64_1065 : Index := 64#32
  let c512_1066 : Index := 512#32
  ![v4224.toNat, 64, 512]
def k0_off143 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4233 : Index := Scalar.indexCast v25
  let c80_1069 : Index := 80#32
  let c512_1070 : Index := 512#32
  ![v4233.toNat, 80, 512]
def k0_off144 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4242 : Index := Scalar.indexCast v25
  let c96_1073 : Index := 96#32
  let c512_1074 : Index := 512#32
  ![v4242.toNat, 96, 512]
def k0_off145 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4251 : Index := Scalar.indexCast v25
  let c112_1077 : Index := 112#32
  let c512_1078 : Index := 512#32
  ![v4251.toNat, 112, 512]
def k0_off146 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4260 : Index := Scalar.indexCast v25
  let c128_1081 : Index := 128#32
  let c512_1082 : Index := 512#32
  ![v4260.toNat, 128, 512]
def k0_off147 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4269 : Index := Scalar.indexCast v25
  let c144_1085 : Index := 144#32
  let c512_1086 : Index := 512#32
  ![v4269.toNat, 144, 512]
def k0_off148 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4278 : Index := Scalar.indexCast v25
  let c160_1089 : Index := 160#32
  let c512_1090 : Index := 512#32
  ![v4278.toNat, 160, 512]
def k0_off149 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4287 : Index := Scalar.indexCast v25
  let c176_1093 : Index := 176#32
  let c512_1094 : Index := 512#32
  ![v4287.toNat, 176, 512]
def k0_off150 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4296 : Index := Scalar.indexCast v25
  let c192_1097 : Index := 192#32
  let c512_1098 : Index := 512#32
  ![v4296.toNat, 192, 512]
def k0_off151 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4305 : Index := Scalar.indexCast v25
  let c208_1101 : Index := 208#32
  let c512_1102 : Index := 512#32
  ![v4305.toNat, 208, 512]
def k0_off152 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4314 : Index := Scalar.indexCast v25
  let c224_1105 : Index := 224#32
  let c512_1106 : Index := 512#32
  ![v4314.toNat, 224, 512]
def k0_off153 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4323 : Index := Scalar.indexCast v25
  let c240_1109 : Index := 240#32
  let c512_1110 : Index := 512#32
  ![v4323.toNat, 240, 512]
def k0_off154 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4332 : Index := Scalar.indexCast v25
  let c256_1113 : Index := 256#32
  let c512_1114 : Index := 512#32
  ![v4332.toNat, 256, 512]
def k0_off155 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4341 : Index := Scalar.indexCast v25
  let c272_1117 : Index := 272#32
  let c512_1118 : Index := 512#32
  ![v4341.toNat, 272, 512]
def k0_off156 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4350 : Index := Scalar.indexCast v25
  let c288_1121 : Index := 288#32
  let c512_1122 : Index := 512#32
  ![v4350.toNat, 288, 512]
def k0_off157 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4359 : Index := Scalar.indexCast v25
  let c304_1125 : Index := 304#32
  let c512_1126 : Index := 512#32
  ![v4359.toNat, 304, 512]
def k0_off158 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4368 : Index := Scalar.indexCast v25
  let c320_1129 : Index := 320#32
  let c512_1130 : Index := 512#32
  ![v4368.toNat, 320, 512]
def k0_off159 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4377 : Index := Scalar.indexCast v25
  let c336_1133 : Index := 336#32
  let c512_1134 : Index := 512#32
  ![v4377.toNat, 336, 512]
def k0_off160 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4386 : Index := Scalar.indexCast v25
  let c352_1137 : Index := 352#32
  let c512_1138 : Index := 512#32
  ![v4386.toNat, 352, 512]
def k0_off161 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4395 : Index := Scalar.indexCast v25
  let c368_1141 : Index := 368#32
  let c512_1142 : Index := 512#32
  ![v4395.toNat, 368, 512]
def k0_off162 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4404 : Index := Scalar.indexCast v25
  let c384_1145 : Index := 384#32
  let c512_1146 : Index := 512#32
  ![v4404.toNat, 384, 512]
def k0_off163 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4413 : Index := Scalar.indexCast v25
  let c400_1149 : Index := 400#32
  let c512_1150 : Index := 512#32
  ![v4413.toNat, 400, 512]
def k0_off164 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4422 : Index := Scalar.indexCast v25
  let c416_1153 : Index := 416#32
  let c512_1154 : Index := 512#32
  ![v4422.toNat, 416, 512]
def k0_off165 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4431 : Index := Scalar.indexCast v25
  let c432_1157 : Index := 432#32
  let c512_1158 : Index := 512#32
  ![v4431.toNat, 432, 512]
def k0_off166 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4440 : Index := Scalar.indexCast v25
  let c448_1161 : Index := 448#32
  let c512_1162 : Index := 512#32
  ![v4440.toNat, 448, 512]
def k0_off167 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4449 : Index := Scalar.indexCast v25
  let c464_1165 : Index := 464#32
  let c512_1166 : Index := 512#32
  ![v4449.toNat, 464, 512]
def k0_off168 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4458 : Index := Scalar.indexCast v25
  let c480_1169 : Index := 480#32
  let c512_1170 : Index := 512#32
  ![v4458.toNat, 480, 512]
def k0_off169 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4467 : Index := Scalar.indexCast v25
  let c496_1173 : Index := 496#32
  let c512_1174 : Index := 512#32
  ![v4467.toNat, 496, 512]
def k0_off170 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4613 : Index := Scalar.indexCast v25
  let c512_1186 : Index := 512#32
  let c512_1187 : Index := 512#32
  ![v4613.toNat, 512, 512]
def k0_off171 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4622 : Index := Scalar.indexCast v25
  let c528_1190 : Index := 528#32
  let c512_1191 : Index := 512#32
  ![v4622.toNat, 528, 512]
def k0_off172 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4631 : Index := Scalar.indexCast v25
  let c544_1194 : Index := 544#32
  let c512_1195 : Index := 512#32
  ![v4631.toNat, 544, 512]
def k0_off173 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4640 : Index := Scalar.indexCast v25
  let c560_1198 : Index := 560#32
  let c512_1199 : Index := 512#32
  ![v4640.toNat, 560, 512]
def k0_off174 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4649 : Index := Scalar.indexCast v25
  let c576_1202 : Index := 576#32
  let c512_1203 : Index := 512#32
  ![v4649.toNat, 576, 512]
def k0_off175 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4658 : Index := Scalar.indexCast v25
  let c592_1206 : Index := 592#32
  let c512_1207 : Index := 512#32
  ![v4658.toNat, 592, 512]
def k0_off176 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4667 : Index := Scalar.indexCast v25
  let c608_1210 : Index := 608#32
  let c512_1211 : Index := 512#32
  ![v4667.toNat, 608, 512]
def k0_off177 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4676 : Index := Scalar.indexCast v25
  let c624_1214 : Index := 624#32
  let c512_1215 : Index := 512#32
  ![v4676.toNat, 624, 512]
def k0_off178 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4685 : Index := Scalar.indexCast v25
  let c640_1218 : Index := 640#32
  let c512_1219 : Index := 512#32
  ![v4685.toNat, 640, 512]
def k0_off179 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4694 : Index := Scalar.indexCast v25
  let c656_1222 : Index := 656#32
  let c512_1223 : Index := 512#32
  ![v4694.toNat, 656, 512]
def k0_off180 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4703 : Index := Scalar.indexCast v25
  let c672_1226 : Index := 672#32
  let c512_1227 : Index := 512#32
  ![v4703.toNat, 672, 512]
def k0_off181 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4712 : Index := Scalar.indexCast v25
  let c688_1230 : Index := 688#32
  let c512_1231 : Index := 512#32
  ![v4712.toNat, 688, 512]
def k0_off182 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4721 : Index := Scalar.indexCast v25
  let c704_1234 : Index := 704#32
  let c512_1235 : Index := 512#32
  ![v4721.toNat, 704, 512]
def k0_off183 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4730 : Index := Scalar.indexCast v25
  let c720_1238 : Index := 720#32
  let c512_1239 : Index := 512#32
  ![v4730.toNat, 720, 512]
def k0_off184 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4739 : Index := Scalar.indexCast v25
  let c736_1242 : Index := 736#32
  let c512_1243 : Index := 512#32
  ![v4739.toNat, 736, 512]
def k0_off185 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4748 : Index := Scalar.indexCast v25
  let c752_1246 : Index := 752#32
  let c512_1247 : Index := 512#32
  ![v4748.toNat, 752, 512]
def k0_off186 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4757 : Index := Scalar.indexCast v25
  let c768_1250 : Index := 768#32
  let c512_1251 : Index := 512#32
  ![v4757.toNat, 768, 512]
def k0_off187 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4766 : Index := Scalar.indexCast v25
  let c784_1254 : Index := 784#32
  let c512_1255 : Index := 512#32
  ![v4766.toNat, 784, 512]
def k0_off188 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4775 : Index := Scalar.indexCast v25
  let c800_1258 : Index := 800#32
  let c512_1259 : Index := 512#32
  ![v4775.toNat, 800, 512]
def k0_off189 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4784 : Index := Scalar.indexCast v25
  let c816_1262 : Index := 816#32
  let c512_1263 : Index := 512#32
  ![v4784.toNat, 816, 512]
def k0_off190 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4793 : Index := Scalar.indexCast v25
  let c832_1266 : Index := 832#32
  let c512_1267 : Index := 512#32
  ![v4793.toNat, 832, 512]
def k0_off191 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4802 : Index := Scalar.indexCast v25
  let c848_1270 : Index := 848#32
  let c512_1271 : Index := 512#32
  ![v4802.toNat, 848, 512]
def k0_off192 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4811 : Index := Scalar.indexCast v25
  let c864_1274 : Index := 864#32
  let c512_1275 : Index := 512#32
  ![v4811.toNat, 864, 512]
def k0_off193 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4820 : Index := Scalar.indexCast v25
  let c880_1278 : Index := 880#32
  let c512_1279 : Index := 512#32
  ![v4820.toNat, 880, 512]
def k0_off194 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4829 : Index := Scalar.indexCast v25
  let c896_1282 : Index := 896#32
  let c512_1283 : Index := 512#32
  ![v4829.toNat, 896, 512]
def k0_off195 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4838 : Index := Scalar.indexCast v25
  let c912_1286 : Index := 912#32
  let c512_1287 : Index := 512#32
  ![v4838.toNat, 912, 512]
def k0_off196 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4847 : Index := Scalar.indexCast v25
  let c928_1290 : Index := 928#32
  let c512_1291 : Index := 512#32
  ![v4847.toNat, 928, 512]
def k0_off197 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4856 : Index := Scalar.indexCast v25
  let c944_1294 : Index := 944#32
  let c512_1295 : Index := 512#32
  ![v4856.toNat, 944, 512]
def k0_off198 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4865 : Index := Scalar.indexCast v25
  let c960_1298 : Index := 960#32
  let c512_1299 : Index := 512#32
  ![v4865.toNat, 960, 512]
def k0_off199 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4874 : Index := Scalar.indexCast v25
  let c976_1302 : Index := 976#32
  let c512_1303 : Index := 512#32
  ![v4874.toNat, 976, 512]
def k0_off200 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4883 : Index := Scalar.indexCast v25
  let c992_1306 : Index := 992#32
  let c512_1307 : Index := 512#32
  ![v4883.toNat, 992, 512]
def k0_off201 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v4892 : Index := Scalar.indexCast v25
  let c1008_1310 : Index := 1008#32
  let c512_1311 : Index := 512#32
  ![v4892.toNat, 1008, 512]
def k0_off202 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5038 : Index := Scalar.indexCast v25
  let c1024_1323 : Index := 1024#32
  let c512_1324 : Index := 512#32
  ![v5038.toNat, 1024, 512]
def k0_off203 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5047 : Index := Scalar.indexCast v25
  let c1040_1327 : Index := 1040#32
  let c512_1328 : Index := 512#32
  ![v5047.toNat, 1040, 512]
def k0_off204 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5056 : Index := Scalar.indexCast v25
  let c1056_1331 : Index := 1056#32
  let c512_1332 : Index := 512#32
  ![v5056.toNat, 1056, 512]
def k0_off205 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5065 : Index := Scalar.indexCast v25
  let c1072_1335 : Index := 1072#32
  let c512_1336 : Index := 512#32
  ![v5065.toNat, 1072, 512]
def k0_off206 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5074 : Index := Scalar.indexCast v25
  let c1088_1339 : Index := 1088#32
  let c512_1340 : Index := 512#32
  ![v5074.toNat, 1088, 512]
def k0_off207 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5083 : Index := Scalar.indexCast v25
  let c1104_1343 : Index := 1104#32
  let c512_1344 : Index := 512#32
  ![v5083.toNat, 1104, 512]
def k0_off208 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5092 : Index := Scalar.indexCast v25
  let c1120_1347 : Index := 1120#32
  let c512_1348 : Index := 512#32
  ![v5092.toNat, 1120, 512]
def k0_off209 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5101 : Index := Scalar.indexCast v25
  let c1136_1351 : Index := 1136#32
  let c512_1352 : Index := 512#32
  ![v5101.toNat, 1136, 512]
def k0_off210 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5110 : Index := Scalar.indexCast v25
  let c1152_1355 : Index := 1152#32
  let c512_1356 : Index := 512#32
  ![v5110.toNat, 1152, 512]
def k0_off211 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5119 : Index := Scalar.indexCast v25
  let c1168_1359 : Index := 1168#32
  let c512_1360 : Index := 512#32
  ![v5119.toNat, 1168, 512]
def k0_off212 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5128 : Index := Scalar.indexCast v25
  let c1184_1363 : Index := 1184#32
  let c512_1364 : Index := 512#32
  ![v5128.toNat, 1184, 512]
def k0_off213 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5137 : Index := Scalar.indexCast v25
  let c1200_1367 : Index := 1200#32
  let c512_1368 : Index := 512#32
  ![v5137.toNat, 1200, 512]
def k0_off214 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5146 : Index := Scalar.indexCast v25
  let c1216_1371 : Index := 1216#32
  let c512_1372 : Index := 512#32
  ![v5146.toNat, 1216, 512]
def k0_off215 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5155 : Index := Scalar.indexCast v25
  let c1232_1375 : Index := 1232#32
  let c512_1376 : Index := 512#32
  ![v5155.toNat, 1232, 512]
def k0_off216 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5164 : Index := Scalar.indexCast v25
  let c1248_1379 : Index := 1248#32
  let c512_1380 : Index := 512#32
  ![v5164.toNat, 1248, 512]
def k0_off217 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5173 : Index := Scalar.indexCast v25
  let c1264_1383 : Index := 1264#32
  let c512_1384 : Index := 512#32
  ![v5173.toNat, 1264, 512]
def k0_off218 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5182 : Index := Scalar.indexCast v25
  let c1280_1387 : Index := 1280#32
  let c512_1388 : Index := 512#32
  ![v5182.toNat, 1280, 512]
def k0_off219 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5191 : Index := Scalar.indexCast v25
  let c1296_1391 : Index := 1296#32
  let c512_1392 : Index := 512#32
  ![v5191.toNat, 1296, 512]
def k0_off220 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5200 : Index := Scalar.indexCast v25
  let c1312_1395 : Index := 1312#32
  let c512_1396 : Index := 512#32
  ![v5200.toNat, 1312, 512]
def k0_off221 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5209 : Index := Scalar.indexCast v25
  let c1328_1399 : Index := 1328#32
  let c512_1400 : Index := 512#32
  ![v5209.toNat, 1328, 512]
def k0_off222 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5218 : Index := Scalar.indexCast v25
  let c1344_1403 : Index := 1344#32
  let c512_1404 : Index := 512#32
  ![v5218.toNat, 1344, 512]
def k0_off223 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5227 : Index := Scalar.indexCast v25
  let c1360_1407 : Index := 1360#32
  let c512_1408 : Index := 512#32
  ![v5227.toNat, 1360, 512]
def k0_off224 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5236 : Index := Scalar.indexCast v25
  let c1376_1411 : Index := 1376#32
  let c512_1412 : Index := 512#32
  ![v5236.toNat, 1376, 512]
def k0_off225 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5245 : Index := Scalar.indexCast v25
  let c1392_1415 : Index := 1392#32
  let c512_1416 : Index := 512#32
  ![v5245.toNat, 1392, 512]
def k0_off226 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5254 : Index := Scalar.indexCast v25
  let c1408_1419 : Index := 1408#32
  let c512_1420 : Index := 512#32
  ![v5254.toNat, 1408, 512]
def k0_off227 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5263 : Index := Scalar.indexCast v25
  let c1424_1423 : Index := 1424#32
  let c512_1424 : Index := 512#32
  ![v5263.toNat, 1424, 512]
def k0_off228 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5272 : Index := Scalar.indexCast v25
  let c1440_1427 : Index := 1440#32
  let c512_1428 : Index := 512#32
  ![v5272.toNat, 1440, 512]
def k0_off229 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5281 : Index := Scalar.indexCast v25
  let c1456_1431 : Index := 1456#32
  let c512_1432 : Index := 512#32
  ![v5281.toNat, 1456, 512]
def k0_off230 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5290 : Index := Scalar.indexCast v25
  let c1472_1435 : Index := 1472#32
  let c512_1436 : Index := 512#32
  ![v5290.toNat, 1472, 512]
def k0_off231 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5299 : Index := Scalar.indexCast v25
  let c1488_1439 : Index := 1488#32
  let c512_1440 : Index := 512#32
  ![v5299.toNat, 1488, 512]
def k0_off232 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5308 : Index := Scalar.indexCast v25
  let c1504_1443 : Index := 1504#32
  let c512_1444 : Index := 512#32
  ![v5308.toNat, 1504, 512]
def k0_off233 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5317 : Index := Scalar.indexCast v25
  let c1520_1447 : Index := 1520#32
  let c512_1448 : Index := 512#32
  ![v5317.toNat, 1520, 512]
def k0_off234 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5467 : Index := Scalar.indexCast v25
  let c1536_1460 : Index := 1536#32
  let c512_1461 : Index := 512#32
  ![v5467.toNat, 1536, 512]
def k0_off235 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5476 : Index := Scalar.indexCast v25
  let c1552_1464 : Index := 1552#32
  let c512_1465 : Index := 512#32
  ![v5476.toNat, 1552, 512]
def k0_off236 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5485 : Index := Scalar.indexCast v25
  let c1568_1468 : Index := 1568#32
  let c512_1469 : Index := 512#32
  ![v5485.toNat, 1568, 512]
def k0_off237 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5494 : Index := Scalar.indexCast v25
  let c1584_1472 : Index := 1584#32
  let c512_1473 : Index := 512#32
  ![v5494.toNat, 1584, 512]
def k0_off238 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5503 : Index := Scalar.indexCast v25
  let c1600_1476 : Index := 1600#32
  let c512_1477 : Index := 512#32
  ![v5503.toNat, 1600, 512]
def k0_off239 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5512 : Index := Scalar.indexCast v25
  let c1616_1480 : Index := 1616#32
  let c512_1481 : Index := 512#32
  ![v5512.toNat, 1616, 512]
def k0_off240 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5521 : Index := Scalar.indexCast v25
  let c1632_1484 : Index := 1632#32
  let c512_1485 : Index := 512#32
  ![v5521.toNat, 1632, 512]
def k0_off241 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5530 : Index := Scalar.indexCast v25
  let c1648_1488 : Index := 1648#32
  let c512_1489 : Index := 512#32
  ![v5530.toNat, 1648, 512]
def k0_off242 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5539 : Index := Scalar.indexCast v25
  let c1664_1492 : Index := 1664#32
  let c512_1493 : Index := 512#32
  ![v5539.toNat, 1664, 512]
def k0_off243 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5548 : Index := Scalar.indexCast v25
  let c1680_1496 : Index := 1680#32
  let c512_1497 : Index := 512#32
  ![v5548.toNat, 1680, 512]
def k0_off244 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5557 : Index := Scalar.indexCast v25
  let c1696_1500 : Index := 1696#32
  let c512_1501 : Index := 512#32
  ![v5557.toNat, 1696, 512]
def k0_off245 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5566 : Index := Scalar.indexCast v25
  let c1712_1504 : Index := 1712#32
  let c512_1505 : Index := 512#32
  ![v5566.toNat, 1712, 512]
def k0_off246 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5575 : Index := Scalar.indexCast v25
  let c1728_1508 : Index := 1728#32
  let c512_1509 : Index := 512#32
  ![v5575.toNat, 1728, 512]
def k0_off247 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5584 : Index := Scalar.indexCast v25
  let c1744_1512 : Index := 1744#32
  let c512_1513 : Index := 512#32
  ![v5584.toNat, 1744, 512]
def k0_off248 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5593 : Index := Scalar.indexCast v25
  let c1760_1516 : Index := 1760#32
  let c512_1517 : Index := 512#32
  ![v5593.toNat, 1760, 512]
def k0_off249 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5602 : Index := Scalar.indexCast v25
  let c1776_1520 : Index := 1776#32
  let c512_1521 : Index := 512#32
  ![v5602.toNat, 1776, 512]
def k0_off250 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5611 : Index := Scalar.indexCast v25
  let c1792_1524 : Index := 1792#32
  let c512_1525 : Index := 512#32
  ![v5611.toNat, 1792, 512]
def k0_off251 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5620 : Index := Scalar.indexCast v25
  let c1808_1528 : Index := 1808#32
  let c512_1529 : Index := 512#32
  ![v5620.toNat, 1808, 512]
def k0_off252 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5629 : Index := Scalar.indexCast v25
  let c1824_1532 : Index := 1824#32
  let c512_1533 : Index := 512#32
  ![v5629.toNat, 1824, 512]
def k0_off253 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5638 : Index := Scalar.indexCast v25
  let c1840_1536 : Index := 1840#32
  let c512_1537 : Index := 512#32
  ![v5638.toNat, 1840, 512]
def k0_off254 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5647 : Index := Scalar.indexCast v25
  let c1856_1540 : Index := 1856#32
  let c512_1541 : Index := 512#32
  ![v5647.toNat, 1856, 512]
def k0_off255 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5656 : Index := Scalar.indexCast v25
  let c1872_1544 : Index := 1872#32
  let c512_1545 : Index := 512#32
  ![v5656.toNat, 1872, 512]
def k0_off256 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5665 : Index := Scalar.indexCast v25
  let c1888_1548 : Index := 1888#32
  let c512_1549 : Index := 512#32
  ![v5665.toNat, 1888, 512]
def k0_off257 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5674 : Index := Scalar.indexCast v25
  let c1904_1552 : Index := 1904#32
  let c512_1553 : Index := 512#32
  ![v5674.toNat, 1904, 512]
def k0_off258 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5683 : Index := Scalar.indexCast v25
  let c1920_1556 : Index := 1920#32
  let c512_1557 : Index := 512#32
  ![v5683.toNat, 1920, 512]
def k0_off259 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5692 : Index := Scalar.indexCast v25
  let c1936_1560 : Index := 1936#32
  let c512_1561 : Index := 512#32
  ![v5692.toNat, 1936, 512]
def k0_off260 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5701 : Index := Scalar.indexCast v25
  let c1952_1564 : Index := 1952#32
  let c512_1565 : Index := 512#32
  ![v5701.toNat, 1952, 512]
def k0_off261 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5710 : Index := Scalar.indexCast v25
  let c1968_1568 : Index := 1968#32
  let c512_1569 : Index := 512#32
  ![v5710.toNat, 1968, 512]
def k0_off262 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5719 : Index := Scalar.indexCast v25
  let c1984_1572 : Index := 1984#32
  let c512_1573 : Index := 512#32
  ![v5719.toNat, 1984, 512]
def k0_off263 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5728 : Index := Scalar.indexCast v25
  let c2000_1576 : Index := 2000#32
  let c512_1577 : Index := 512#32
  ![v5728.toNat, 2000, 512]
def k0_off264 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5737 : Index := Scalar.indexCast v25
  let c2016_1580 : Index := 2016#32
  let c512_1581 : Index := 512#32
  ![v5737.toNat, 2016, 512]
def k0_off265 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5746 : Index := Scalar.indexCast v25
  let c2032_1584 : Index := 2032#32
  let c512_1585 : Index := 512#32
  ![v5746.toNat, 2032, 512]
def k0_off266 (i : grid0.Coords) : Fin 3 → Nat :=
  let arg1 : BitVec 32 := BitVec.ofNat 32 (i 1).val
  let c1_i32 : BitVec 32 := 1#32
  let v20 : BitVec 32 := Scalar.muli arg1 c1_i32
  let arg2 : BitVec 32 := BitVec.ofNat 32 (i 2).val
  let v21 : BitVec 32 := Scalar.addi v20 arg2
  let c1_i32_5 : BitVec 32 := 1#32
  let v23 : BitVec 32 := Scalar.shrsi v21 c1_i32_5
  let c1_i32_6 : BitVec 32 := 1#32
  let v24 : BitVec 32 := Scalar.shli v23 c1_i32_6
  let v25 : BitVec 32 := Scalar.subi v21 v24
  let v5755 : Index := Scalar.indexCast v25
  let c2048_1588 : Index := 2048#32
  let c512_1589 : Index := 512#32
  ![v5755.toNat, 2048, 512]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S64 : Shape := ⟨1, ![64]⟩
abbrev S128 : Shape := ⟨1, ![128]⟩
abbrev S16x2048x8x2x64 : Shape := ⟨5, ![16, 2048, 8, 2, 64]⟩
abbrev S16x2048x8x128 : Shape := ⟨4, ![16, 2048, 8, 128]⟩
abbrev S16x8x2x64 : Shape := ⟨4, ![16, 8, 2, 64]⟩
abbrev S16x8x128 : Shape := ⟨3, ![16, 8, 128]⟩
abbrev S_ : Shape := ⟨0, ![]⟩
abbrev S2176 : Shape := ⟨1, ![2176]⟩
abbrev S112x8x2x64 : Shape := ⟨4, ![112, 8, 2, 64]⟩
abbrev S128x8x2x64 : Shape := ⟨4, ![128, 8, 2, 64]⟩
abbrev S1x128x8x2x64 : Shape := ⟨5, ![1, 128, 8, 2, 64]⟩
abbrev S16x128x8x2x64 : Shape := ⟨5, ![16, 128, 8, 2, 64]⟩
abbrev S16x2176x8x2x64 : Shape := ⟨5, ![16, 2176, 8, 2, 64]⟩
abbrev S112x8x128 : Shape := ⟨3, ![112, 8, 128]⟩
abbrev S128x8x128 : Shape := ⟨3, ![128, 8, 128]⟩
abbrev S1x128x8x128 : Shape := ⟨4, ![1, 128, 8, 128]⟩
abbrev S16x128x8x128 : Shape := ⟨4, ![16, 128, 8, 128]⟩
abbrev S16x2176x8x128 : Shape := ⟨4, ![16, 2176, 8, 128]⟩
abbrev S16x8x2x2048x2176 : Shape := ⟨5, ![16, 8, 2, 2048, 2176]⟩
abbrev S1x1x1x1x2176 : Shape := ⟨5, ![1, 1, 1, 1, 2176]⟩
abbrev S16x8x2x2048 : Shape := ⟨4, ![16, 8, 2, 2048]⟩
abbrev S16x8x2x2048x1 : Shape := ⟨5, ![16, 8, 2, 2048, 1]⟩
abbrev S16x8x1x2048x2176 : Shape := ⟨5, ![16, 8, 1, 2048, 2176]⟩
abbrev S16x8x2048x2176 : Shape := ⟨4, ![16, 8, 2048, 2176]⟩
abbrev S16x8x128x2048 : Shape := ⟨4, ![16, 8, 128, 2048]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩
abbrev S16x2048x1024 : Shape := ⟨3, ![16, 2048, 1024]⟩

abbrev nBuf : Space → Nat
  | .hbm => 94
  | .vmem => 0
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S128, .f32⟩
  | .hbm, ⟨5, _⟩ => ⟨S16x2048x8x2x64, .f32⟩
  | .hbm, ⟨6, _⟩ => ⟨S16x2048x8x2x64, .f32⟩
  | .hbm, ⟨7, _⟩ => ⟨S16x2048x8x128, .f32⟩
  | .hbm, ⟨8, _⟩ => ⟨S16x8x2x64, .f32⟩
  | .hbm, ⟨9, _⟩ => ⟨S16x8x128, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2176, .i32⟩
  | .hbm, ⟨22, _⟩ => ⟨S_, .i32⟩
  | .hbm, ⟨23, _⟩ => ⟨S2176, .i32⟩
  | .hbm, ⟨24, _⟩ => ⟨S2176, .i1⟩
  | .hbm, ⟨25, _⟩ => ⟨S_, .f32⟩
  | .hbm, ⟨26, _⟩ => ⟨S112x8x2x64, .f32⟩
  | .hbm, ⟨27, _⟩ => ⟨S128x8x2x64, .f32⟩
  | .hbm, ⟨28, _⟩ => ⟨S1x128x8x2x64, .f32⟩
  | .hbm, ⟨29, _⟩ => ⟨S16x128x8x2x64, .f32⟩
  | .hbm, ⟨30, _⟩ => ⟨S16x2176x8x2x64, .f32⟩
  | .hbm, ⟨31, _⟩ => ⟨S_, .f32⟩
  | .hbm, ⟨32, _⟩ => ⟨S112x8x128, .f32⟩
  | .hbm, ⟨33, _⟩ => ⟨S128x8x128, .f32⟩
  | .hbm, ⟨34, _⟩ => ⟨S1x128x8x128, .f32⟩
  | .hbm, ⟨35, _⟩ => ⟨S16x128x8x128, .f32⟩
  | .hbm, ⟨36, _⟩ => ⟨S16x2176x8x128, .f32⟩
  | .hbm, ⟨37, _⟩ => ⟨S_, .f32⟩
  | .hbm, ⟨38, _⟩ => ⟨S_, .f32⟩
  | .hbm, ⟨39, _⟩ => ⟨S2176, .f32⟩
  | .hbm, ⟨40, _⟩ => ⟨S2176, .f32⟩
  | .hbm, ⟨41, _⟩ => ⟨S2176, .f32⟩
  | .hbm, ⟨42, _⟩ => ⟨S2176, .f32⟩
  | .hbm, ⟨43, _⟩ => ⟨S16x8x2x2048x2176, .f32⟩
  | .hbm, ⟨44, _⟩ => ⟨S_, .f32⟩
  | .hbm, ⟨45, _⟩ => ⟨S16x8x2x2048x2176, .f32⟩
  | .hbm, ⟨46, _⟩ => ⟨S16x8x2x2048x2176, .f32⟩
  | .hbm, ⟨47, _⟩ => ⟨S1x1x1x1x2176, .f32⟩
  | .hbm, ⟨48, _⟩ => ⟨S16x8x2x2048x2176, .f32⟩
  | .hbm, ⟨49, _⟩ => ⟨S16x8x2x2048x2176, .f32⟩
  | .hbm, ⟨50, _⟩ => ⟨S_, .f32⟩
  | .hbm, ⟨51, _⟩ => ⟨S16x8x2x2048, .f32⟩
  | .hbm, ⟨52, _⟩ => ⟨S_, .f32⟩
  | .hbm, ⟨53, _⟩ => ⟨S16x8x2x2048, .f32⟩
  | .hbm, ⟨54, _⟩ => ⟨S16x8x2x2048, .f32⟩
  | .hbm, ⟨55, _⟩ => ⟨S16x8x2x2048x1, .f32⟩
  | .hbm, ⟨56, _⟩ => ⟨S16x8x2x2048x2176, .f32⟩
  | .hbm, ⟨57, _⟩ => ⟨S16x8x2x2048x2176, .f32⟩
  | .hbm, ⟨58, _⟩ => ⟨S16x8x2x2048x2176, .f32⟩
  | .hbm, ⟨59, _⟩ => ⟨S_, .f32⟩
  | .hbm, ⟨60, _⟩ => ⟨S16x8x2x2048, .f32⟩
  | .hbm, ⟨61, _⟩ => ⟨S16x8x2x2048x1, .f32⟩
  | .hbm, ⟨62, _⟩ => ⟨S16x8x2x2048x2176, .f32⟩
  | .hbm, ⟨63, _⟩ => ⟨S16x8x2x2048x2176, .f32⟩
  | .hbm, ⟨64, _⟩ => ⟨S16x8x1x2048x2176, .f32⟩
  | .hbm, ⟨65, _⟩ => ⟨S16x8x2048x2176, .f32⟩
  | .hbm, ⟨66, _⟩ => ⟨S16x8x1x2048x2176, .f32⟩
  | .hbm, ⟨67, _⟩ => ⟨S16x8x2048x2176, .f32⟩
  | .hbm, ⟨68, _⟩ => ⟨S16x8x2048x2176, .f32⟩
  | .hbm, ⟨69, _⟩ => ⟨S16x8x2048x2176, .f32⟩
  | .hbm, ⟨70, _⟩ => ⟨S16x8x2048x2176, .f32⟩
  | .hbm, ⟨71, _⟩ => ⟨S16x8x128x2048, .f32⟩
  | .hbm, ⟨72, _⟩ => ⟨S16x2048x8x128, .f32⟩
  | .hbm, ⟨73, _⟩ => ⟨S16x2048x8x128, .f32⟩
  | .hbm, ⟨74, _⟩ => ⟨S_, .f32⟩
  | .hbm, ⟨75, _⟩ => ⟨S16x2048x8, .f32⟩
  | .hbm, ⟨76, _⟩ => ⟨S16x2048x8x1, .f32⟩
  | .hbm, ⟨77, _⟩ => ⟨S_, .f32⟩
  | .hbm, ⟨78, _⟩ => ⟨S16x2048x8x1, .f32⟩
  | .hbm, ⟨79, _⟩ => ⟨S16x2048x8x1, .f32⟩
  | .hbm, ⟨80, _⟩ => ⟨S_, .f32⟩
  | .hbm, ⟨81, _⟩ => ⟨S16x2048x8x1, .f32⟩
  | .hbm, ⟨82, _⟩ => ⟨S16x2048x8x1, .f32⟩
  | .hbm, ⟨83, _⟩ => ⟨S16x2048x8x1, .f32⟩
  | .hbm, ⟨84, _⟩ => ⟨S16x2048x8x128, .f32⟩
  | .hbm, ⟨85, _⟩ => ⟨S16x2048x8x128, .f32⟩
  | .hbm, ⟨86, _⟩ => ⟨S1x1x1x128, .f32⟩
  | .hbm, ⟨87, _⟩ => ⟨S16x2048x8x128, .f32⟩
  | .hbm, ⟨88, _⟩ => ⟨S16x2048x8x128, .f32⟩
  | .hbm, ⟨89, _⟩ => ⟨S_, .f32⟩
  | .hbm, ⟨90, _⟩ => ⟨S16x2048x8x128, .f32⟩
  | .hbm, ⟨91, _⟩ => ⟨S16x2048x8x128, .f32⟩
  | .hbm, ⟨92, _⟩ => ⟨S16x2048x1024, .f32⟩
  | .hbm, ⟨93, _⟩ => ⟨S16x2048x1024, .bf16⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]
-- ==== KernelMerge.lean ====
abbrev S16x2048x1024 : Shape := ⟨3, ![16, 2048, 1024]⟩
abbrev S16x2048x2048 : Shape := ⟨3, ![16, 2048, 2048]⟩
abbrev S1024x1024 : Shape := ⟨2, ![1024, 1024]⟩
abbrev S1024 : Shape := ⟨1, ![1024]⟩
abbrev S_ : Shape := ⟨0, ![]⟩
abbrev S16x2048x4096 : Shape := ⟨3, ![16, 2048, 4096]⟩
abbrev S16x2048x512 : Shape := ⟨3, ![16, 2048, 512]⟩
abbrev S16x2048x6656 : Shape := ⟨3, ![16, 2048, 6656]⟩
abbrev S32768x1024 : Shape := ⟨2, ![32768, 1024]⟩
abbrev S32768x6656 : Shape := ⟨2, ![32768, 6656]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 25
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x2048, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S_, .f32⟩
  | .hbm, ⟨9, _⟩ => ⟨S16x2048x4096, .f32⟩
  | .hbm, ⟨10, _⟩ => ⟨S_, .f32⟩
  | .hbm, ⟨11, _⟩ => ⟨S16x2048x512, .f32⟩
  | .hbm, ⟨12, _⟩ => ⟨S16x2048x6656, .f32⟩
  | .hbm, ⟨13, _⟩ => ⟨S16x2048x6656, .bf16⟩
  | .hbm, ⟨14, _⟩ => ⟨S32768x1024, .f32⟩
  | .hbm, ⟨15, _⟩ => ⟨S16x2048x1024, .bf16⟩
  | .hbm, ⟨16, _⟩ => ⟨S32768x1024, .bf16⟩
  | .hbm, ⟨17, _⟩ => ⟨S16x2048x1024, .bf16⟩
  | .hbm, ⟨18, _⟩ => ⟨S32768x1024, .bf16⟩
  | .hbm, ⟨19, _⟩ => ⟨S32768x6656, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceMergeIdeal.lean ====
abbrev S16x2048x1024 : Shape := ⟨3, ![16, 2048, 1024]⟩
abbrev S16x2048x2048 : Shape := ⟨3, ![16, 2048, 2048]⟩
abbrev S1024x1024 : Shape := ⟨2, ![1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x2048, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== KernelFfn.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S1024x1024 : Shape := ⟨2, ![1024, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 11
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfnIdeal.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x5632, .f32⟩
  | .hbm, ⟨22, _⟩ => ⟨S16x2048x2816, .f32⟩
  | .hbm, ⟨23, _⟩ => ⟨S16x2048x2816, .f32⟩
  | .hbm, ⟨24, _⟩ => ⟨S16x2048x2816, .f32⟩
  | .hbm, ⟨25, _⟩ => ⟨S_, .f32⟩
  | .hbm, ⟨26, _⟩ => ⟨S16x2048x2816, .f32⟩
  | .hbm, ⟨27, _⟩ => ⟨S16x2048x2816, .f32⟩
  | .hbm, ⟨28, _⟩ => ⟨S_, .f32⟩
  | .hbm, ⟨29, _⟩ => ⟨S16x2048x2816, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S16x2048x2816, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S16x2048x1, .f32⟩
  | .hbm, ⟨46, _⟩ => ⟨S16x2048x1024, .f32⟩
  | .hbm, ⟨47, _⟩ => ⟨S16x2048x1024, .f32⟩
  | .hbm, ⟨48, _⟩ => ⟨S1x1x1024, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== KernelInproj.lean ====
abbrev S16x2048x1024 : Shape := ⟨3, ![16, 2048, 1024]⟩
abbrev S1024 : Shape := ⟨1, ![1024]⟩
abbrev S1024x6656 : Shape := ⟨2, ![1024, 6656]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S128 : Shape := ⟨1, ![128]⟩
abbrev S128x1 : Shape := ⟨2, ![128, 1]⟩
abbrev S2048x128 : Shape := ⟨2, ![2048, 128]⟩
abbrev S32768x1024 : Shape := ⟨2, ![32768, 1024]⟩
abbrev S1x1024 : Shape := ⟨2, ![1, 1024]⟩
abbrev S1024x1024 : Shape := ⟨2, ![1024, 1024]⟩
abbrev S1024x256 : Shape := ⟨2, ![1024, 256]⟩
abbrev S1024x5120 : Shape := ⟨2, ![1024, 5120]⟩
abbrev S1x2048 : Shape := ⟨2, ![1, 2048]⟩
abbrev S32768x6656 : Shape := ⟨2, ![32768, 6656]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1024x512 : Shape := ⟨2, ![1024, 512]⟩
abbrev S512x512 : Shape := ⟨2, ![512, 512]⟩
abbrev S1x128 : Shape := ⟨2, ![1, 128]⟩

abbrev nBuf : Space → Nat
  | .hbm => 139
  | .vmem => 13
  | .smem => 0
  | _ => 0

abbrev hbmTy0_0 (i : Nat) : BufTy := match i % 128 with
  | 0 => ⟨S16x2048x1024, .f32⟩
  | 1 => ⟨S1024, .f32⟩
  | 2 => ⟨S1024x6656, .f32⟩
  | 3 => ⟨S2048, .f32⟩
  | 4 => ⟨S2048, .i32⟩
  | 5 => ⟨S_, .i32⟩
  | 6 => ⟨S2048, .i32⟩
  | 7 => ⟨S2048, .i32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S2048, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S128, .i32⟩
  | 29 => ⟨S2048x32, .f32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S128, .i32⟩
  | 37 => ⟨S128, .i32⟩
  | 38 => ⟨S_, .i32⟩
  | 39 => ⟨S128, .i32⟩
  | 40 => ⟨S128, .i1⟩
  | 41 => ⟨S_, .i32⟩
  | 42 => ⟨S128, .i32⟩
  | 43 => ⟨S128, .i1⟩
  | 44 => ⟨S_, .i32⟩
  | 45 => ⟨S_, .i1⟩
  | 46 => ⟨S128, .i1⟩
  | 47 => ⟨S128, .i1⟩
  | 48 => ⟨S128, .i1⟩
  | 49 => ⟨S128, .i32⟩
  | 50 => ⟨S128, .i32⟩
  | 51 => ⟨S128, .i32⟩
  | 52 => ⟨S_, .i32⟩
  | 53 => ⟨S128, .i32⟩
  | 54 => ⟨S128, .i1⟩
  | 55 => ⟨S_, .i32⟩
  | 56 => ⟨S128, .i32⟩
  | 57 => ⟨S128, .i32⟩
  | 58 => ⟨S128, .i32⟩
  | 59 => ⟨S128x1, .i32⟩
  | 60 => ⟨S2048x128, .f32⟩
  | 61 => ⟨S2048x32, .f32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S128, .i32⟩
  | 69 => ⟨S128, .i32⟩
  | 70 => ⟨S_, .i32⟩
  | 71 => ⟨S128, .i32⟩
  | 72 => ⟨S128, .i1⟩
  | 73 => ⟨S_, .i32⟩
  | 74 => ⟨S128, .i32⟩
  | 75 => ⟨S128, .i1⟩
  | 76 => ⟨S_, .i32⟩
  | 77 => ⟨S_, .i1⟩
  | 78 => ⟨S128, .i1⟩
  | 79 => ⟨S128, .i1⟩
  | 80 => ⟨S128, .i1⟩
  | 81 => ⟨S128, .i32⟩
  | 82 => ⟨S128, .i32⟩
  | 83 => ⟨S128, .i32⟩
  | 84 => ⟨S_, .i32⟩
  | 85 => ⟨S128, .i32⟩
  | 86 => ⟨S128, .i1⟩
  | 87 => ⟨S_, .i32⟩
  | 88 => ⟨S128, .i32⟩
  | 89 => ⟨S128, .i32⟩
  | 90 => ⟨S128, .i32⟩
  | 91 => ⟨S128x1, .i32⟩
  | 92 => ⟨S2048x128, .f32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S128, .i32⟩
  | 100 => ⟨S128, .i32⟩
  | 101 => ⟨S_, .i32⟩
  | 102 => ⟨S128, .i32⟩
  | 103 => ⟨S128, .i1⟩
  | 104 => ⟨S_, .i32⟩
  | 105 => ⟨S128, .i32⟩
  | 106 => ⟨S128, .i1⟩
  | 107 => ⟨S_, .i32⟩
  | 108 => ⟨S_, .i1⟩
  | 109 => ⟨S128, .i1⟩
  | 110 => ⟨S128, .i1⟩
  | 111 => ⟨S128, .i1⟩
  | 112 => ⟨S128, .i32⟩
  | 113 => ⟨S128, .i32⟩
  | 114 => ⟨S128, .i32⟩
  | 115 => ⟨S_, .i32⟩
  | 116 => ⟨S128, .i32⟩
  | 117 => ⟨S128, .i1⟩
  | 118 => ⟨S2048x128, .f32⟩
  | 119 => ⟨S_, .f32⟩
  | 120 => ⟨S_, .f32⟩
  | 121 => ⟨S2048x128, .i1⟩
  | 122 => ⟨S2048x128, .f32⟩
  | 123 => ⟨S2048x128, .f32⟩
  | 124 => ⟨S_, .f32⟩
  | 125 => ⟨S_, .f32⟩
  | 126 => ⟨S2048x128, .i1⟩
  | 127 => ⟨S2048x128, .f32⟩
  | _ => ⟨S16x2048x1024, .f32⟩

abbrev hbmTy0_1 (i : Nat) : BufTy := match i % 128 with
  | 0 => ⟨S2048x128, .f32⟩
  | 1 => ⟨S32768x1024, .f32⟩
  | 2 => ⟨S1x1024, .f32⟩
  | 3 => ⟨S1024x1024, .f32⟩
  | 4 => ⟨S1024x256, .f32⟩
  | 5 => ⟨S1024x256, .f32⟩
  | 6 => ⟨S1024x5120, .f32⟩
  | 7 => ⟨S1024x6656, .f32⟩
  | 8 => ⟨S1024x6656, .bf16⟩
  | 9 => ⟨S1x2048, .f32⟩
  | 10 => ⟨S32768x6656, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x6656, .bf16⟩
  | .local _ .vmem, ⟨4, _⟩ => ⟨S1x2048, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x6656, .bf16⟩
  | .local _ .vmem, ⟨12, _⟩ => ⟨S1024x6656, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_call0_v0 : Ref sig .tc := ⟨.hbm, 31, rfl⟩
abbrev main_call0_c : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_c_1 : Ref sig .tc := ⟨.hbm, 38, rfl⟩
abbrev main_call0_v5 : Ref sig .tc := ⟨.hbm, 39, rfl⟩
abbrev main_call0_v6 : Ref sig .tc := ⟨.hbm, 40, rfl⟩
abbrev main_call0_c_2 : Ref sig .tc := ⟨.hbm, 41, rfl⟩
abbrev main_call0_v7 : Ref sig .tc := ⟨.hbm, 42, rfl⟩
abbrev main_call0_v8 : Ref sig .tc := ⟨.hbm, 43, rfl⟩
abbrev main_call0_c_3 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_6 : Ref sig .tc := ⟨.hbm, 62, rfl⟩
abbrev main_call1_v0 : Ref sig .tc := ⟨.hbm, 63, rfl⟩
abbrev main_call1_c : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_c_1 : Ref sig .tc := ⟨.hbm, 70, rfl⟩
abbrev main_call1_v5 : Ref sig .tc := ⟨.hbm, 71, rfl⟩
abbrev main_call1_v6 : Ref sig .tc := ⟨.hbm, 72, rfl⟩
abbrev main_call1_c_2 : Ref sig .tc := ⟨.hbm, 73, rfl⟩
abbrev main_call1_v7 : Ref sig .tc := ⟨.hbm, 74, rfl⟩
abbrev main_call1_v8 : Ref sig .tc := ⟨.hbm, 75, rfl⟩
abbrev main_call1_c_3 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_v30 : Ref sig .tc := ⟨.hbm, 83, rfl⟩
abbrev main_c_7 : Ref sig .tc := ⟨.hbm, 84, rfl⟩
abbrev main_v31 : Ref sig .tc := ⟨.hbm, 85, rfl⟩
abbrev main_v32 : Ref sig .tc := ⟨.hbm, 86, rfl⟩
abbrev main_c_8 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_c_9 : Ref sig .tc := ⟨.hbm, 93, rfl⟩
abbrev main_call2_v0 : Ref sig .tc := ⟨.hbm, 94, rfl⟩
abbrev main_call2_c : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_c_1 : Ref sig .tc := ⟨.hbm, 101, rfl⟩
abbrev main_call2_v5 : Ref sig .tc := ⟨.hbm, 102, rfl⟩
abbrev main_call2_v6 : Ref sig .tc := ⟨.hbm, 103, rfl⟩
abbrev main_call2_c_2 : Ref sig .tc := ⟨.hbm, 104, rfl⟩
abbrev main_call2_v7 : Ref sig .tc := ⟨.hbm, 105, rfl⟩
abbrev main_call2_v8 : Ref sig .tc := ⟨.hbm, 106, rfl⟩
abbrev main_call2_c_3 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_v38 : Ref sig .tc := ⟨.hbm, 114, rfl⟩
abbrev main_c_10 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_cst_11 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v42 : Ref sig .tc := ⟨.hbm, 123, rfl⟩
abbrev main_cst_12 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x6656 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceInprojIdeal.lean ====
abbrev S16x2048x1024 : Shape := ⟨3, ![16, 2048, 1024]⟩
abbrev S1024 : Shape := ⟨1, ![1024]⟩
abbrev S1024x6656 : Shape := ⟨2, ![1024, 6656]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x6656 : Shape := ⟨3, ![16, 2048, 6656]⟩
abbrev S16x2048x256 : Shape := ⟨3, ![16, 2048, 256]⟩
abbrev S16x2048x2048 : Shape := ⟨3, ![16, 2048, 2048]⟩
abbrev S16x2048x16x64 : Shape := ⟨4, ![16, 2048, 16, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S16x2048x16x32 : Shape := ⟨4, ![16, 2048, 16, 32]⟩
abbrev S16x2048x4x64 : Shape := ⟨4, ![16, 2048, 4, 64]⟩
abbrev S16x2048x4x32 : Shape := ⟨4, ![16, 2048, 4, 32]⟩
abbrev S16x2048x8x2x64 : Shape := ⟨5, ![16, 2048, 8, 2, 64]⟩
abbrev S1x2048x1x1x32 : Shape := ⟨5, ![1, 2048, 1, 1, 32]⟩
abbrev S16x2048x8x2x32 : Shape := ⟨5, ![16, 2048, 8, 2, 32]⟩
abbrev S1x1x2048 : Shape := ⟨3, ![1, 1, 2048]⟩
abbrev S32768x1024 : Shape := ⟨2, ![32768, 1024]⟩
abbrev S32768x2048 : Shape := ⟨2, ![32768, 2048]⟩
abbrev S32768x256 : Shape := ⟨2, ![32768, 256]⟩
abbrev S32768x6656 : Shape := ⟨2, ![32768, 6656]⟩

abbrev nBuf : Space → Nat
  | .hbm => 210
  | .vmem => 0
  | .smem => 0
  | _ => 0

abbrev hbmTy0_0 (i : Nat) : BufTy := match i % 128 with
  | 0 => ⟨S16x2048x1024, .f32⟩
  | 1 => ⟨S1024, .f32⟩
  | 2 => ⟨S1024x6656, .f32⟩
  | 3 => ⟨S2048, .f32⟩
  | 4 => ⟨S2048, .i32⟩
  | 5 => ⟨S_, .i32⟩
  | 6 => ⟨S2048, .i32⟩
  | 7 => ⟨S2048, .i32⟩
  | 8 => ⟨S16x2048x1024, .f32⟩
  | 9 => ⟨S_, .f32⟩
  | 10 => ⟨S16x2048, .f32⟩
  | 11 => ⟨S16x2048x1, .f32⟩
  | 12 => ⟨S_, .f32⟩
  | 13 => ⟨S16x2048x1, .f32⟩
  | 14 => ⟨S16x2048x1, .f32⟩
  | 15 => ⟨S_, .f32⟩
  | 16 => ⟨S16x2048x1, .f32⟩
  | 17 => ⟨S16x2048x1, .f32⟩
  | 18 => ⟨S16x2048x1, .f32⟩
  | 19 => ⟨S16x2048x1024, .f32⟩
  | 20 => ⟨S16x2048x1024, .f32⟩
  | 21 => ⟨S1x1x1024, .f32⟩
  | 22 => ⟨S16x2048x1024, .f32⟩
  | 23 => ⟨S16x2048x1024, .f32⟩
  | 24 => ⟨S16x2048x6656, .f32⟩
  | 25 => ⟨S16x2048x1024, .f32⟩
  | 26 => ⟨S16x2048x256, .f32⟩
  | 27 => ⟨S16x2048x256, .f32⟩
  | 28 => ⟨S16x2048x1024, .f32⟩
  | 29 => ⟨S16x2048x1024, .f32⟩
  | 30 => ⟨S16x2048x1024, .f32⟩
  | 31 => ⟨S16x2048x2048, .f32⟩
  | 32 => ⟨S16x2048x16x64, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S2048, .f32⟩
  | 48 => ⟨S2048x1, .f32⟩
  | 49 => ⟨S1x32, .f32⟩
  | 50 => ⟨S2048x32, .f32⟩
  | 51 => ⟨S2048x32, .f32⟩
  | 52 => ⟨S2048x32, .f32⟩
  | 53 => ⟨S2048x32, .f32⟩
  | 54 => ⟨S1x2048x1x32, .f32⟩
  | 55 => ⟨S2048x32, .f32⟩
  | 56 => ⟨S1x2048x1x32, .f32⟩
  | 57 => ⟨S16x2048x16x32, .f32⟩
  | 58 => ⟨S16x2048x16x32, .f32⟩
  | 59 => ⟨S16x2048x16x32, .f32⟩
  | 60 => ⟨S16x2048x16x32, .f32⟩
  | 61 => ⟨S16x2048x16x32, .f32⟩
  | 62 => ⟨S16x2048x16x32, .f32⟩
  | 63 => ⟨S16x2048x16x32, .f32⟩
  | 64 => ⟨S16x2048x16x32, .f32⟩
  | 65 => ⟨S16x2048x16x32, .f32⟩
  | 66 => ⟨S16x2048x16x32, .f32⟩
  | 67 => ⟨S16x2048x16x32, .f32⟩
  | 68 => ⟨S16x2048x16x32, .f32⟩
  | 69 => ⟨S16x2048x16x64, .f32⟩
  | 70 => ⟨S16x2048x4x64, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S2048, .f32⟩
  | 86 => ⟨S2048x1, .f32⟩
  | 87 => ⟨S1x32, .f32⟩
  | 88 => ⟨S2048x32, .f32⟩
  | 89 => ⟨S2048x32, .f32⟩
  | 90 => ⟨S2048x32, .f32⟩
  | 91 => ⟨S2048x32, .f32⟩
  | 92 => ⟨S1x2048x1x32, .f32⟩
  | 93 => ⟨S2048x32, .f32⟩
  | 94 => ⟨S1x2048x1x32, .f32⟩
  | 95 => ⟨S16x2048x4x32, .f32⟩
  | 96 => ⟨S16x2048x4x32, .f32⟩
  | 97 => ⟨S16x2048x4x32, .f32⟩
  | 98 => ⟨S16x2048x4x32, .f32⟩
  | 99 => ⟨S16x2048x4x32, .f32⟩
  | 100 => ⟨S16x2048x4x32, .f32⟩
  | 101 => ⟨S16x2048x4x32, .f32⟩
  | 102 => ⟨S16x2048x4x32, .f32⟩
  | 103 => ⟨S16x2048x4x32, .f32⟩
  | 104 => ⟨S16x2048x4x32, .f32⟩
  | 105 => ⟨S16x2048x4x32, .f32⟩
  | 106 => ⟨S16x2048x4x32, .f32⟩
  | 107 => ⟨S16x2048x4x64, .f32⟩
  | 108 => ⟨S16x2048x8x2x64, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S2048, .f32⟩
  | 124 => ⟨S2048x1, .f32⟩
  | 125 => ⟨S1x32, .f32⟩
  | 126 => ⟨S2048x32, .f32⟩
  | 127 => ⟨S2048x32, .f32⟩
  | _ => ⟨S16x2048x1024, .f32⟩

abbrev hbmTy0_1 (i : Nat) : BufTy := match i % 128 with
  | 0 => ⟨S2048x32, .f32⟩
  | 1 => ⟨S2048x32, .f32⟩
  | 2 => ⟨S1x2048x1x1x32, .f32⟩
  | 3 => ⟨S2048x32, .f32⟩
  | 4 => ⟨S1x2048x1x1x32, .f32⟩
  | 5 => ⟨S16x2048x8x2x32, .f32⟩
  | 6 => ⟨S16x2048x8x2x32, .f32⟩
  | 7 => ⟨S16x2048x8x2x32, .f32⟩
  | 8 => ⟨S16x2048x8x2x32, .f32⟩
  | 9 => ⟨S16x2048x8x2x32, .f32⟩
  | 10 => ⟨S16x2048x8x2x32, .f32⟩
  | 11 => ⟨S16x2048x8x2x32, .f32⟩
  | 12 => ⟨S16x2048x8x2x32, .f32⟩
  | 13 => ⟨S16x2048x8x2x32, .f32⟩
  | 14 => ⟨S16x2048x8x2x32, .f32⟩
  | 15 => ⟨S16x2048x8x2x32, .f32⟩
  | 16 => ⟨S16x2048x8x2x32, .f32⟩
  | 17 => ⟨S16x2048x8x2x64, .f32⟩
  | 18 => ⟨S16x2048x8x2x64, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S2048, .f32⟩
  | 34 => ⟨S2048x1, .f32⟩
  | 35 => ⟨S1x32, .f32⟩
  | 36 => ⟨S2048x32, .f32⟩
  | 37 => ⟨S2048x32, .f32⟩
  | 38 => ⟨S2048x32, .f32⟩
  | 39 => ⟨S2048x32, .f32⟩
  | 40 => ⟨S1x2048x1x1x32, .f32⟩
  | 41 => ⟨S2048x32, .f32⟩
  | 42 => ⟨S1x2048x1x1x32, .f32⟩
  | 43 => ⟨S16x2048x8x2x32, .f32⟩
  | 44 => ⟨S16x2048x8x2x32, .f32⟩
  | 45 => ⟨S16x2048x8x2x32, .f32⟩
  | 46 => ⟨S16x2048x8x2x32, .f32⟩
  | 47 => ⟨S16x2048x8x2x32, .f32⟩
  | 48 => ⟨S16x2048x8x2x32, .f32⟩
  | 49 => ⟨S16x2048x8x2x32, .f32⟩
  | 50 => ⟨S16x2048x8x2x32, .f32⟩
  | 51 => ⟨S16x2048x8x2x32, .f32⟩
  | 52 => ⟨S16x2048x8x2x32, .f32⟩
  | 53 => ⟨S16x2048x8x2x32, .f32⟩
  | 54 => ⟨S16x2048x8x2x32, .f32⟩
  | 55 => ⟨S16x2048x8x2x64, .f32⟩
  | 56 => ⟨S1x1x2048, .f32⟩
  | 57 => ⟨S16x2048x2048, .f32⟩
  | 58 => ⟨S16x2048x2048, .f32⟩
  | 59 => ⟨S16x2048x2048, .f32⟩
  | 60 => ⟨S16x2048x2048, .f32⟩
  | 61 => ⟨S_, .f32⟩
  | 62 => ⟨S16x2048x2048, .f32⟩
  | 63 => ⟨S16x2048x2048, .f32⟩
  | 64 => ⟨S_, .f32⟩
  | 65 => ⟨S16x2048x2048, .f32⟩
  | 66 => ⟨S16x2048x2048, .f32⟩
  | 67 => ⟨S32768x1024, .f32⟩
  | 68 => ⟨S_, .f32⟩
  | 69 => ⟨S32768x1024, .f32⟩
  | 70 => ⟨S32768x1024, .f32⟩
  | 71 => ⟨S32768x1024, .f32⟩
  | 72 => ⟨S_, .f32⟩
  | 73 => ⟨S32768x1024, .f32⟩
  | 74 => ⟨S32768x1024, .f32⟩
  | 75 => ⟨S32768x1024, .f32⟩
  | 76 => ⟨S32768x1024, .f32⟩
  | 77 => ⟨S32768x2048, .f32⟩
  | 78 => ⟨S32768x256, .f32⟩
  | 79 => ⟨S32768x256, .f32⟩
  | 80 => ⟨S32768x6656, .f32⟩
  | 81 => ⟨S32768x6656, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_8 : Ref sig .tc := ⟨.hbm, 79, rfl⟩
abbrev main_v65 : Ref sig .tc := ⟨.hbm, 80, rfl⟩
abbrev main_v66 : Ref sig .tc := ⟨.hbm, 81, rfl⟩
abbrev main_cst_9 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_10 : Ref sig .tc := ⟨.hbm, 110, rfl⟩
abbrev main_v94 : Ref sig .tc := ⟨.hbm, 111, rfl⟩
abbrev main_v95 : Ref sig .tc := ⟨.hbm, 112, rfl⟩
abbrev main_cst_11 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_cst_12 : Ref sig .tc := ⟨.hbm, 117, rfl⟩
abbrev main_v99 : Ref sig .tc := ⟨.hbm, 118, rfl⟩
abbrev main_v100 : Ref sig .tc := ⟨.hbm, 119, rfl⟩
abbrev main_cst_13 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_cst_14 : Ref sig .tc := ⟨.hbm, 148, rfl⟩
abbrev main_v128 : Ref sig .tc := ⟨.hbm, 149, rfl⟩
abbrev main_v129 : Ref sig .tc := ⟨.hbm, 150, rfl⟩
abbrev main_cst_15 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_cst_16 : Ref sig .tc := ⟨.hbm, 155, rfl⟩
abbrev main_v133 : Ref sig .tc := ⟨.hbm, 156, rfl⟩
abbrev main_v134 : Ref sig .tc := ⟨.hbm, 157, rfl⟩
abbrev main_cst_17 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_cst_18 : Ref sig .tc := ⟨.hbm, 189, rfl⟩
abbrev main_v165 : Ref sig .tc := ⟨.hbm, 190, rfl⟩
abbrev main_v166 : Ref sig .tc := ⟨.hbm, 191, rfl⟩
abbrev main_cst_19 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_cst_20 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_cst_21 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩

abbrev nD : Nat := 1
abbrev τ : Topo := Topo.v7x

variable {F : FTy → Type} [FloatOps F]
-- ==== Proof.Body.lean ====
/-
  The differential-attention kernel's body, laid out by what it does: the keys and values prepared, then four parts of 512 query
  rows, two score maps each, every map's scores written a chunk of keys at a time while the exponentials of the map before are
  taken sixteen rows at a time. `body_eq` says the printed body is this one.
-/
module

public import proofs.«01_k».proof.Proof.Gen.KernelIdeal.Launch
public import proofs.«01_k».proof.Proof.Gen.KernelIdeal.Points

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F]

/-- A stretch of the kernel's body up to its end. -/
abbrev TP (F : FTy → Type) [FloatOps F] := Prog (TpuEff nD τ sig (Elt F) Λ₀ .tc) PUnit

/-! ## The body's operands -/

/-- The fourteen operands the body is handed. -/
structure Bufs where
  lam : Memref sig .tc .vmem S4x64 .f32
  hlam : lam.IsWhole
  gain : Memref sig .tc .vmem S1x128 .f32
  hgain : gain.IsWhole
  q : Memref sig .tc .vmem S1x2048x128 .bf16
  hq : q.IsWhole
  k : Memref sig .tc .vmem S1x2048x128 .bf16
  hk : k.IsWhole
  v : Memref sig .tc .vmem S1x2048x128 .bf16
  hv : v.IsWhole
  km : Memref sig .tc .vmem S128x128 .bf16
  hkm : km.IsWhole
  vm : Memref sig .tc .vmem S128x128 .bf16
  hvm : vm.IsWhole
  out : Memref sig .tc .vmem S1x2048x128 .bf16
  hout : out.IsWhole
  kx : Memref sig .tc .vmem S2x2064x128 .bf16
  hkx : kx.IsWhole
  vt : Memref sig .tc .vmem S144x2176 .bf16
  hvt : vt.IsWhole
  s0 : Memref sig .tc .vmem S2x2064x1024 .f32
  hs0 : s0.IsWhole
  s1 : Memref sig .tc .vmem S2x2064x1024 .f32
  hs1 : s1.IsWhole
  e0 : Memref sig .tc .vmem S2176x1024 .bf16
  he0 : e0.IsWhole
  e1 : Memref sig .tc .vmem S2176x1024 .bf16
  he1 : e1.IsWhole

/-- The score scratch of a map, -/
def Bufs.s (B : Bufs) : Bool → Memref sig .tc .vmem S2x2064x1024 .f32 | false => B.s0 | true => B.s1
theorem Bufs.hs (B : Bufs) : ∀ mp, (B.s mp).IsWhole | false => B.hs0 | true => B.hs1
/-- and its exponentials'. -/
def Bufs.e (B : Bufs) : Bool → Memref sig .tc .vmem S2176x1024 .bf16 | false => B.e0 | true => B.e1
theorem Bufs.he (B : Bufs) : ∀ mp, (B.e mp).IsWhole | false => B.he0 | true => B.he1

/-! ## A load, and a store that follows a load of the same elements -/

def ld {s : Shape} {e : EltTy} (M : Memref sig .tc .vmem s e) (r : Rect s) (hr : 0 < r.shape.numel)
    (k : (r.shape.Idx → Elt F e) → TP F) : TP F :=
  .op (.load M r.toLoadRect (View.loadsAt_vmem hr)) k

def st {s : Shape} {e : EltTy} (M : Memref sig .tc .vmem s e) (hM : M.IsWhole) (r : Rect s) (hr : 0 < r.shape.numel)
    (hp : r.PackedRows e.packing) (hs : ∀ a, r.stride a = 1) (w : r.shape.Idx → Elt F e) (k : TP F) : TP F :=
  .op (.load M r.toLoadRect (View.loadsAt_vmem hr)) fun _ =>
    .op (.store M r w Finset.univ (View.stores_vmem hr (hM.storeExact_slice rfl _ hp) fun _ => rfl) (.inl rfl)) fun _ => k

theorem inb2 {o s S : Fin 2 → Nat} (h0 : o 0 + s 0 ≤ S 0) (h1 : o 1 + s 1 ≤ S 1) : ∀ a, o a + s a ≤ S a
  | 0 => h0 | 1 => h1
theorem inb3 {o s S : Fin 3 → Nat} (h0 : o 0 + s 0 ≤ S 0) (h1 : o 1 + s 1 ≤ S 1) (h2 : o 2 + s 2 ≤ S 2) : ∀ a, o a + s a ≤ S a
  | 0 => h0 | 1 => h1 | 2 => h2

theorem bool_le : ∀ mp : Bool, mp.toNat + 1 ≤ 2 | false => Nat.le_of_ble_eq_true rfl | true => Nat.le_refl 2

/-- Packed rows: of a rank-two array of 16-bit elements, -/
theorem packed2 {n m : Nat} {o s : Fin 2 → Nat} (inb) (h0 : 2 ∣ o 0) (h1 : 2 ∣ s 0) :
    (Rect.unit (s := ⟨2, ![n, m]⟩) o s inb).PackedRows (EltTy.packing .bf16) :=
  Or.inr ⟨Nat.le_refl 2, rfl, Or.inl ⟨h0, h1⟩⟩
/-- of a rank-three one, -/
theorem packed3 {l n m : Nat} {o s : Fin 3 → Nat} (inb) (h0 : 2 ∣ o 1) (h1 : 2 ∣ s 1) :
    (Rect.unit (s := ⟨3, ![l, n, m]⟩) o s inb).PackedRows (EltTy.packing .bf16) :=
  Or.inr ⟨Nat.le_of_ble_eq_true rfl, rfl, Or.inl ⟨h0, h1⟩⟩
/-- and of one of 32-bit elements. -/
theorem packed3f {l n m : Nat} {o s : Fin 3 → Nat} (inb) :
    (Rect.unit (s := ⟨3, ![l, n, m]⟩) o s inb).PackedRows (EltTy.packing .f32) :=
  Or.inr ⟨Nat.le_of_ble_eq_true rfl, rfl, Or.inl ⟨Nat.one_dvd _, Nat.one_dvd _⟩⟩

/-! ## The rectangles -/

/-- Which half of the score scratch the scores go to, and which they are read back from. -/
def hSt (i : grid0.Coords) : Nat := k0_off1 i 0
def hLd (i : grid0.Coords) : Nat := k0_off5 i 0
theorem hSt_lt (i : grid0.Coords) : hSt i + 1 ≤ 2 := Facts₀.k0.k0_off1_inb i 0
theorem hLd_lt (i : grid0.Coords) : hLd i + 1 ≤ 2 := Facts₀.k0.k0_off5_inb i 0

/-- The column a part of the query rows uses: parts alternate between the two halves of the columns. -/
abbrev col (p : Fin 4) : Nat := 512 * (p.val % 2)

/-- 512 query rows. -/
abbrev rQ (p : Fin 4) : Rect S1x2048x128 := Rect.unit ![0, 512 * p.val, 0] S1x512x128.size
  (inb3 (Nat.le_refl 1) (by show 512 * p.val + 512 ≤ 2048; omega) (Nat.le_refl 128))
/-- 256 value rows, -/
abbrev rV (c : Fin 8) : Rect S1x2048x128 := Rect.unit ![0, 256 * c.val, 0] S1x256x128.size
  (inb3 (Nat.le_refl 1) (by show 256 * c.val + 256 ≤ 2048; omega) (Nat.le_refl 128))
/-- and their columns once transposed. -/
abbrev rVt (c : Fin 8) : Rect S144x2176 := Rect.unit ![0, 256 * c.val] S128x256.size
  (inb2 (Nat.le_of_ble_eq_true rfl) (by show 256 * c.val + 256 ≤ 2176; omega))
/-- 512 rows of a map's keys; -/
abbrev rK (mp : Bool) (c : Fin 4) : Rect S2x2064x128 := Rect.unit ![mp.toNat, 512 * c.val, 0] S1x512x128.size
  (inb3 (bool_le mp) (by show 512 * c.val + 512 ≤ 2064; omega) (Nat.le_refl 128))
/-- the sixteen leading rows, kept after the others; -/
abbrev rKm (mp : Bool) : Rect S2x2064x128 := Rect.unit ![mp.toNat, 2048, 0] S1x16x128.size
  (inb3 (bool_le mp) (Nat.le_of_ble_eq_true rfl) (Nat.le_refl 128))
/-- the last chunk's 528 rows. -/
abbrev rK4 (mp : Bool) : Rect S2x2064x128 := Rect.unit ![mp.toNat, 1536, 0] S1x528x128.size
  (inb3 (bool_le mp) (Nat.le_of_ble_eq_true rfl) (Nat.le_refl 128))
/-- A chunk's scores, -/
abbrev rS (i : grid0.Coords) (p : Fin 4) (c : Fin 3) : Rect S2x2064x1024 := Rect.unit ![hSt i, 512 * c.val, col p] S1x512x512.size
  (inb3 (hSt_lt i) (by show 512 * c.val + 512 ≤ 2064; omega) (by show 512 * (p.val % 2) + 512 ≤ 1024; omega))
/-- the last chunk's, -/
abbrev rS4 (i : grid0.Coords) (p : Fin 4) : Rect S2x2064x1024 := Rect.unit ![hSt i, 1536, col p] S1x528x512.size
  (inb3 (hSt_lt i) (Nat.le_of_ble_eq_true rfl) (by show 512 * (p.val % 2) + 512 ≤ 1024; omega))
/-- and sixteen rows of them read back. -/
abbrev rL (i : grid0.Coords) (p : Fin 4) (j : Nat) (hj : j < 129) : Rect S2x2064x1024 := Rect.unit ![hLd i, 16 * j, col p] S1x16x512.size
  (inb3 (hLd_lt i) (by show 16 * j + 16 ≤ 2064; omega) (by show 512 * (p.val % 2) + 512 ≤ 1024; omega))
/-- Where sixteen rows of exponentials go. -/
abbrev rE (p : Fin 4) (j : Nat) (hj : j < 129) : Rect S2176x1024 := Rect.unit ![16 * j + 112 * (j / 128), col p] S16x512.size
  (inb2 (by show 16 * j + 112 * (j / 128) + 16 ≤ 2176; omega) (by show 512 * (p.val % 2) + 512 ≤ 1024; omega))
/-- A map's exponentials, whole. -/
abbrev rEall (p : Fin 4) : Rect S2176x1024 := Rect.unit ![0, col p] S2176x512.size
  (inb2 (Nat.le_refl 2176) (by show 512 * (p.val % 2) + 512 ≤ 1024; omega))
abbrev rLam : Rect S4x64 := Rect.unit ![0, 0] S4x64.size (inb2 (Nat.le_refl 4) (Nat.le_refl 64))
abbrev rGain : Rect S1x128 := Rect.unit ![0, 0] S1x128.size (inb2 (Nat.le_refl 1) (Nat.le_refl 128))
abbrev rKmIn : Rect S128x128 := Rect.unit ![112, 0] S16x128.size (inb2 (Nat.le_refl 128) (Nat.le_refl 128))
abbrev rVmIn : Rect S128x128 := Rect.unit ![0, 0] S128x128.size (inb2 (Nat.le_refl 128) (Nat.le_refl 128))
abbrev rVtm : Rect S144x2176 := Rect.unit ![0, 2048] S128x128.size (inb2 (by decide) (Nat.le_refl 2176))
abbrev rVt1 : Rect S144x2176 := Rect.unit ![128, 0] S16x2176.size (inb2 (Nat.le_refl 144) (Nat.le_refl 2176))
abbrev rVtAll : Rect S144x2176 := Rect.unit ![0, 0] S144x2176.size (inb2 (Nat.le_refl 144) (Nat.le_refl 2176))
abbrev rEz : Rect S2176x1024 := Rect.unit ![2048, 0] S112x1024.size (inb2 (by decide) (Nat.le_refl 1024))

/-! ## The tiles -/

def loMask : IVec S1x128 1 := cmpi .slt (iota .tc S1x128 32 [1] iota_S1x128_d1_w32) (broadcast S1x128 64#32)
def kMask : IVec S512x128 1 := broadcastTo S512x128 (shapeCast S1x128 loMask shapeCasts_S1x128_S1x128) broadcasts_S1x128_S512x128
def kMask16 : IVec S16x128 1 := broadcastTo S16x128 (shapeCast S1x128 loMask shapeCasts_S1x128_S1x128) broadcasts_S1x128_S16x128
/-- Keys of one map: the other map's columns zeroed. -/
def kTile (mp : Bool) (x : FVec F S1x512x128 .bf16) : FVec F S1x512x128 .bf16 :=
  shapeCast S1x512x128 (match mp with
    | false => select kMask (shapeCast S512x128 x shapeCasts_S1x512x128_S512x128) (broadcast S512x128 (Scalar.ofBits .bf16 0x0000#16))
    | true => select kMask (broadcast S512x128 (Scalar.ofBits .bf16 0x0000#16)) (shapeCast S512x128 x shapeCasts_S1x512x128_S512x128))
    shapeCasts_S512x128_S1x512x128
def kmTile (mp : Bool) (x : FVec F S16x128 .bf16) : FVec F S1x16x128 .bf16 :=
  shapeCast S1x16x128 (match mp with
    | false => select kMask16 (shapeCast S16x128 x shapeCasts_S16x128_S16x128) (broadcast S16x128 (Scalar.ofBits .bf16 0x0000#16))
    | true => select kMask16 (broadcast S16x128 (Scalar.ofBits .bf16 0x0000#16)) (shapeCast S16x128 x shapeCasts_S16x128_S16x128))
    shapeCasts_S16x128_S1x16x128
/-- Values transposed. -/
def vTile (x : FVec F S1x256x128 .bf16) : FVec F S128x256 .bf16 :=
  shapeCast S128x256 (truncf .bf16 (transpose S128x256 [1, 0] (extf .f32 (shapeCast S256x128 x shapeCasts_S1x256x128_S256x128) bitsLt_bf16_f32)
    transposes_S256x128_p1_0_S128x256) bitsLt_bf16_f32) shapeCasts_S128x256_S128x256
def vmTile (x : FVec F S128x128 .bf16) : FVec F S128x128 .bf16 :=
  shapeCast S128x128 (truncf .bf16 (transpose S128x128 [1, 0] (extf .f32 (shapeCast S128x128 x shapeCasts_S128x128_S128x128) bitsLt_bf16_f32)
    transposes_S128x128_p1_0_S128x128) bitsLt_bf16_f32) shapeCasts_S128x128_S128x128
def onesTile : FVec F S16x2176 .bf16 := shapeCast S16x2176 (broadcast S16x2176 (Scalar.ofBits .bf16 0x3F80#16)) shapeCasts_S16x2176_S16x2176
def zeroTile : FVec F S112x1024 .bf16 := shapeCast S112x1024 (broadcast S112x1024 (Scalar.ofBits .bf16 0x0000#16)) shapeCasts_S112x1024_S112x1024

/-- `λ`, from its four vectors. -/
def lamTile (x : FVec F S4x64 .f32) : FVec F S1x1 .f32 :=
  addf (subf
    (exp (shapeCast S1x1 (multiReduction .add [1] S1 (mulf
      (extractStridedSlice S1x64 ![0, 0] (shapeCast S4x64 x shapeCasts_S4x64_S4x64) slices_S4x64_o0_0_S1x64)
      (extractStridedSlice S1x64 ![1, 0] (shapeCast S4x64 x shapeCasts_S4x64_S4x64) slices_S4x64_o1_0_S1x64))
      0x00000000#32 reduces_S1x64_S1 (.inl rfl) rfl) shapeCasts_S1_S1x1))
    (exp (shapeCast S1x1 (multiReduction .add [1] S1 (mulf
      (extractStridedSlice S1x64 ![2, 0] (shapeCast S4x64 x shapeCasts_S4x64_S4x64) slices_S4x64_o2_0_S1x64)
      (extractStridedSlice S1x64 ![3, 0] (shapeCast S4x64 x shapeCasts_S4x64_S4x64) slices_S4x64_o3_0_S1x64))
      0x00000000#32 reduces_S1x64_S1 (.inl rfl) rfl) shapeCasts_S1_S1x1)))
    (broadcast S1x1 (Scalar.ofBits .f32 0x3E4CCCCD#32))

/-- A chunk's scores, keys by queries. -/
def sTile (a b : FVec F S1x512x128 .bf16) : FVec F S512x512 .f32 :=
  matmul dot_S512x128_S512x128_S512x512_1_1_0_0_n_n none (shapeCast S512x128 a shapeCasts_S1x512x128_S512x128)
    (shapeCast S512x128 b shapeCasts_S1x512x128_S512x128) (constant S512x512 .f32 0x00000000#32)
def sTile4 (a : FVec F S1x528x128 .bf16) (b : FVec F S1x512x128 .bf16) : FVec F S528x512 .f32 :=
  matmul dot_S528x128_S512x128_S528x512_1_1_0_0_n_n none (shapeCast S528x128 a shapeCasts_S1x528x128_S528x128)
    (shapeCast S512x128 b shapeCasts_S1x512x128_S512x128) (constant S528x512 .f32 0x00000000#32)

/-- The `n`-th eight rows of a chunk's scores. -/
def piece (t : FVec F S512x512 .f32) (n : Nat) : FVec F S8x512 .f32 :=
  extractStridedSlice S8x512 ![8 * (n % 64), 0] t ⟨rfl, inb2 (by show 8 * (n % 64) + 8 ≤ 512; omega) (Nat.le_refl 512)⟩
def piece4 (t : FVec F S528x512 .f32) (n : Nat) : FVec F S8x512 .f32 :=
  extractStridedSlice S8x512 ![8 * (n % 66), 0] t ⟨rfl, inb2 (by show 8 * (n % 66) + 8 ≤ 528; omega) (Nat.le_refl 512)⟩
/-- The running maximum of a family of pieces. -/
def maxes (f : Nat → FVec F S8x512 .f32) (a : FVec F S8x512 .f32) : Nat → FVec F S8x512 .f32
  | 0 => a
  | n + 1 => maximumf (maxes f a n) (f n)
/-- The even (or odd) pieces' maximum over the four chunks. -/
def accMax (o : Nat) (t0 t1 t2 : FVec F S512x512 .f32) (t3 : FVec F S528x512 .f32) : FVec F S8x512 .f32 :=
  maxes (fun n => piece4 t3 (2 * n + o)) (maxes (fun n => piece t2 (2 * n + o)) (maxes (fun n => piece t1 (2 * n + o))
    (maxes (fun n => piece t0 (2 * (n + 1) + o)) (piece t0 o) 31) 32) 32) 33
/-- The scores' maximum in each column. -/
def colMax (t0 t1 t2 : FVec F S512x512 .f32) (t3 : FVec F S528x512 .f32) : FVec F S16x512 .f32 :=
  broadcastTo S16x512 (shapeCast S1x512 (shapeCast S1x512
    (multiReduction .maximumf [0] S512 (maximumf (accMax 0 t0 t1 t2 t3) (accMax 1 t0 t1 t2 t3)) 0xFF800000#32 reduces_S8x512_S512 (.inl rfl) rfl)
    shapeCasts_S512_S1x512) shapeCasts_S1x512_S1x512) broadcasts_S1x512_S16x512

/-- Sixteen rows of exponentials. -/
def eTile (mx : FVec F S16x512 .f32) (x : FVec F S1x16x512 .f32) : FVec F S16x512 .bf16 :=
  shapeCast S16x512 (exp2 (truncf .bf16 (subf (shapeCast S16x512 x shapeCasts_S1x16x512_S16x512) mx) bitsLt_bf16_f32)) shapeCasts_S16x512_S16x512

/-- The values weighed, and the weights' sum under them. -/
def oTile (v : FVec F S144x2176 .bf16) (x : FVec F S2176x512 .bf16) : FVec F S144x512 .f32 :=
  matmul dot_S144x2176_S2176x512_S144x512_1_0_0_1_n_n none v x (constant S144x512 .f32 0x00000000#32)

/-- The two maps' difference, queries by features, -/
def diffTile (lam : FVec F S1x1 .f32) (o1 o2 : FVec F S144x512 .f32) : FVec F S512x128 .f32 :=
  transpose S512x128 [1, 0] (subf
    (mulf (extractStridedSlice S128x512 ![0, 0] o1 slices_S144x512_o0_0_S128x512)
      (broadcastTo S128x512 (divf (broadcast S1x512 (Scalar.ofBits .f32 0x3F800000#32))
        (extractStridedSlice S1x512 ![128, 0] o1 slices_S144x512_o128_0_S1x512)) broadcasts_S1x512_S128x512))
    (mulf (extractStridedSlice S128x512 ![0, 0] o2 slices_S144x512_o0_0_S128x512)
      (broadcastTo S128x512 (divf (broadcastTo S1x512 lam broadcasts_S1x1_S1x512)
        (extractStridedSlice S1x512 ![128, 0] o2 slices_S144x512_o128_0_S1x512)) broadcasts_S1x512_S128x512)))
    transposes_S128x512_p1_0_S512x128
/-- and normalised. -/
def finTile (g : FVec F S1x128 .f32) (o : FVec F S512x128 .f32) : FVec F S1x512x128 .bf16 :=
  shapeCast S1x512x128 (truncf .bf16 (mulf (mulf (mulf o
    (broadcastTo S512x128 (rsqrt (addf (divf (shapeCast S512x1 (multiReduction .add [1] S512 (mulf o o) 0x00000000#32 reduces_S512x128_S512 (.inl rfl) rfl)
      shapeCasts_S512_S512x1) (broadcast S512x1 (Scalar.ofBits .f32 0x43000000#32))) (broadcast S512x1 (Scalar.ofBits .f32 0x358637BD#32))))
      broadcasts_S512x1_S512x128))
    (broadcastTo S512x128 (shapeCast S1x128 g shapeCasts_S1x128_S1x128) broadcasts_S1x128_S512x128))
    (broadcast S512x128 (Scalar.ofBits .f32 0x3F4CCCCD#32))) bitsLt_bf16_f32) shapeCasts_S512x128_S1x512x128

/-! ## The body -/

variable (B : Bufs) (i : grid0.Coords)

/-- Keys and values of 512 rows prepared. -/
def prepChunk (c : Fin 4) (k : TP F) : TP F :=
  ld B.k (rQ c) h_S1x512x128 fun x =>
  st B.kx B.hkx (rK false c) h_S1x512x128 (packed3 _ (by show 2 ∣ 512 * c.val; omega) (by decide)) (fun _ => rfl) (kTile false x) <|
  st B.kx B.hkx (rK true c) h_S1x512x128 (packed3 _ (by show 2 ∣ 512 * c.val; omega) (by decide)) (fun _ => rfl) (kTile true x) <|
  ld B.v (rV ⟨2 * c.val, by omega⟩) h_S1x256x128 fun y =>
  st B.vt B.hvt (rVt ⟨2 * c.val, by omega⟩) h_S128x256 (packed2 _ (Nat.dvd_zero 2) (by decide)) (fun _ => rfl) (vTile y) <|
  ld B.v (rV ⟨2 * c.val + 1, by omega⟩) h_S1x256x128 fun z =>
  st B.vt B.hvt (rVt ⟨2 * c.val + 1, by omega⟩) h_S128x256 (packed2 _ (Nat.dvd_zero 2) (by decide)) (fun _ => rfl) (vTile z) k

/-- Everything prepared. -/
def prep (k : TP F) : TP F :=
  prepChunk B 0 <| prepChunk B 1 <| prepChunk B 2 <| prepChunk B 3 <|
  ld B.km rKmIn h_S16x128 fun x =>
  st B.kx B.hkx (rKm false) h_S1x16x128 (packed3 _ (by decide) (by decide)) (fun _ => rfl) (kmTile false x) <|
  st B.kx B.hkx (rKm true) h_S1x16x128 (packed3 _ (by decide) (by decide)) (fun _ => rfl) (kmTile true x) <|
  ld B.vm rVmIn h_S128x128 fun y =>
  st B.vt B.hvt rVtm h_S128x128 (packed2 _ (by decide) (by decide)) (fun _ => rfl) (vmTile y) <|
  st B.vt B.hvt rVt1 h_S16x2176 (packed2 _ (by decide) (by decide)) (fun _ => rfl) onesTile <|
  st B.e0 B.he0 rEz h_S112x1024 (packed2 _ (by decide) (by decide)) (fun _ => rfl) zeroTile <|
  st B.e1 B.he1 rEz h_S112x1024 (packed2 _ (by decide) (by decide)) (fun _ => rfl) zeroTile k

/-- A chunk's scores of a part and a map. -/
def score (p : Fin 4) (mp : Bool) (c : Fin 3) (k : FVec F S512x512 .f32 → TP F) : TP F :=
  ld B.kx (rK mp ⟨c.val, by omega⟩) h_S1x512x128 fun a =>
  ld B.q (rQ p) h_S1x512x128 fun b =>
  st (B.s mp) (B.hs mp) (rS i p c) h_S1x512x512 (packed3f _) (fun _ => rfl)
    (shapeCast S1x512x512 (sTile a b) shapeCasts_S512x512_S1x512x512) (k (sTile a b))
def score4 (p : Fin 4) (mp : Bool) (k : FVec F S528x512 .f32 → TP F) : TP F :=
  ld B.kx (rK4 mp) h_S1x528x128 fun a =>
  ld B.q (rQ p) h_S1x512x128 fun b =>
  st (B.s mp) (B.hs mp) (rS4 i p) h_S1x528x512 (packed3f _) (fun _ => rfl)
    (shapeCast S1x528x512 (sTile4 a b) shapeCasts_S528x512_S1x528x512) (k (sTile4 a b))

/-- Exponentials of a part and a map: the `n` pieces of sixteen rows before piece `b`. -/
def exps (p : Fin 4) (mp : Bool) (mx : FVec F S16x512 .f32) (b : Nat) (hb : b ≤ 129) (k : TP F) : (n : Nat) → TP F
  | 0 => k
  | n + 1 =>
    ld (B.s mp) (rL i p (b - (n + 1)) (by omega)) h_S1x16x512 fun x =>
    st (B.e mp) (B.he mp) (rE p (b - (n + 1)) (by omega)) h_S16x512
      (packed2 _ (by show 2 ∣ 16 * (b - (n + 1)) + 112 * ((b - (n + 1)) / 128); omega) (by decide)) (fun _ => rfl)
      (eTile mx x) (exps p mp mx b hb k n)

/-- The first map's scores, -/
def first (p : Fin 4) (mp : Bool) (k : FVec F S16x512 .f32 → TP F) : TP F :=
  score B i p mp 0 fun t0 => score B i p mp 1 fun t1 => score B i p mp 2 fun t2 => score4 B i p mp fun t3 => k (colMax t0 t1 t2 t3)
/-- a map's scores between the exponentials of the map before, -/
def mid (p : Fin 4) (mp : Bool) (p' : Fin 4) (mp' : Bool) (mx : FVec F S16x512 .f32) (k : FVec F S16x512 .f32 → TP F) : TP F :=
  score B i p mp 0 fun t0 => exps B i p' mp' mx 32 (by decide) (
  score B i p mp 1 fun t1 => exps B i p' mp' mx 64 (by decide) (
  score B i p mp 2 fun t2 => exps B i p' mp' mx 96 (by decide) (
  score4 B i p mp fun t3 => exps B i p' mp' mx 129 (by decide) (k (colMax t0 t1 t2 t3)) 33) 32) 32) 32
/-- the last map's exponentials, -/
def last (p' : Fin 4) (mp' : Bool) (mx : FVec F S16x512 .f32) (k : TP F) : TP F := exps B i p' mp' mx 129 (by decide) k 129
/-- a map's values, -/
def values (p : Fin 4) (mp : Bool) (k : FVec F S144x512 .f32 → TP F) : TP F :=
  ld B.vt rVtAll h_S144x2176 fun v => ld (B.e mp) (rEall p) h_S2176x512 fun x => k (oTile v x)
/-- and a part's result. -/
def finish (p : Fin 4) (lam : FVec F S1x1 .f32) (o1 o2 : FVec F S144x512 .f32) (k : TP F) : TP F :=
  ld B.gain rGain h_S1x128 fun g =>
  st B.out B.hout (rQ p) h_S1x512x128 (packed3 _ (by show 2 ∣ 512 * p.val; omega) (by decide)) (fun _ => rfl) (finTile g (diffTile lam o1 o2)) k

/-- A part, its scores of the first map taken. -/
def pair (p : Fin 3) (lam : FVec F S1x1 .f32) (m : FVec F S16x512 .f32) (k : FVec F S16x512 .f32 → TP F) : TP F :=
  mid B i p.castSucc true p.castSucc false m fun m1 => values B p.castSucc false fun o1 =>
  mid B i p.succ false p.castSucc true m1 fun m2 => values B p.castSucc true fun o2 =>
  finish B p.castSucc lam o1 o2 (k m2)

def lastPair (lam : FVec F S1x1 .f32) (m : FVec F S16x512 .f32) (k : TP F) : TP F :=
  mid B i 3 true 3 false m fun m1 => values B 3 false fun o1 =>
  last B i 3 true m1 <| values B 3 true fun o2 =>
  finish B 3 lam o1 o2 k

def body : TP F :=
  prep B <| ld B.lam rLam h_S4x64 fun l =>
  first B i 0 false fun m0 => pair B i 0 (lamTile l) m0 fun m1 => pair B i 1 (lamTile l) m1 fun m2 => pair B i 2 (lamTile l) m2 fun m3 =>
  lastPair B i (lamTile l) m3 (.ret ⟨⟩)

end Cert.KernelIdeal.Hand

end
-- ==== Proof.BodyEq.lean ====
/-
  The printed body of the differential-attention kernel is the body of `Body.lean`: at a point whose last coordinate is zero (every
  point: that axis has one) both unfold to the same sequence of loads and stores.
-/
module

public import proofs.«01_k».proof.Proof.Body
public import Idealize.ShloMosaic.Lib.Pipeline.Regions

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F]

/-- The point of a batch and a head. -/
def co (b : Fin 16) (h : Fin 8) : grid0.Coords := fun | 0 => b | 1 => h | 2 => (0 : Fin 1)

theorem body_eq (B : Bufs) (b : Fin 16) (h : Fin 8) :
    (cc0_diff_attn (F := F) (co b h) B.lam B.hlam B.gain B.hgain B.q B.hq B.k B.hk B.v B.hv B.km B.hkm B.vm B.hvm B.out B.hout
      B.kx B.hkx B.vt B.hvt B.s0 B.hs0 B.s1 B.hs1 B.e0 B.he0 B.e1 B.he1) = body B (co b h) := by
  chain_rfl

end Cert.KernelIdeal.Hand

end
-- ==== Proof.Steps.lean ====
/-
  The rules the body's run is written with: a load through a rectangle of a memref held at known contents, and a store there, each
  taking the memref's contents as a function of its whole shape.
-/
module

public import proofs.«01_k».proof.Proof.Body
public import proofs.«01_k».proof.Proof.Gen.KernelIdeal.Frame
public import Idealize.ShloMosaic.Lib.Memref
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Contents overwritten on a rectangle -/

open Classical in
/-- `X` with the elements of `r` replaced by `w`. -/
def upd {s : Shape} {α : Type} (r : Rect s) (w : r.shape.Idx → α) (X : s.Idx → α) : s.Idx → α :=
  fun y => if h : ∃ x, r.idx x = y then w h.choose else X y

theorem upd_idx {s : Shape} {α : Type} (r : Rect s) (w : r.shape.Idx → α) (X : s.Idx → α) (x : r.shape.Idx) :
    upd r w X (r.idx x) = w x := by
  have h : ∃ x', r.idx x' = r.idx x := ⟨x, rfl⟩
  unfold upd
  rw [dif_pos h]
  exact congrArg w (r.emb.injective h.choose_spec)

theorem upd_of_ne {s : Shape} {α : Type} (r : Rect s) (w : r.shape.Idx → α) (X : s.Idx → α) (y : s.Idx) (h : ∀ x, r.idx x ≠ y) :
    upd r w X y = X y := by
  unfold upd
  exact dif_neg fun ⟨x, hx⟩ => h x hx

variable (c : Dev nD)

/-- A program's weakest precondition on core `c`. -/
abbrev WP (e : TP F) (Q : PUnit → sProp 𝕄) : sProp 𝕄 := wp frame (wpE (defs₀ (F := F)) Variants.none (c : Thread nD τ) none) Set.univ e Q

theorem ld_owns {s : Shape} {e : EltTy} (M : Memref sig .tc .vmem s e) (r : Rect s) (hr : 0 < r.shape.numel)
    (X : s.Idx → Elt F e) (k : (r.shape.Idx → Elt F e) → TP F) (Q : PUnit → sProp 𝕄) :
    (owns (c : Thread nD τ) M fullShare X : sProp 𝕄)
      ⊢ iprop((owns (c : Thread nD τ) M fullShare X -∗ WP c (k fun x => X (r.idx x)) Q) -∗ WP c (ld M r hr k) Q) := by
  unfold owns ld
  iintro ⟨%f, %hf, H⟩ Hk
  subst hf
  iapply (wp_load (Val := Elt F) Variants.none (c : Thread nD τ) none Set.univ (M.view.setOn_subset_set r.toLoadRect.set)) $$ [H]
  · iexact H
  iintro H
  iapply Hk
  iexists f
  isplitr
  · ipureintro; rfl
  iexact H

theorem st_owns {s : Shape} {e : EltTy} (M : Memref sig .tc .vmem s e) (hM : M.IsWhole) (r : Rect s) (hr : 0 < r.shape.numel)
    (hp : r.PackedRows e.packing) (hs : ∀ a, r.stride a = 1) (w : r.shape.Idx → Elt F e)
    (X : s.Idx → Elt F e) (k : TP F) (Q : PUnit → sProp 𝕄) :
    (owns (c : Thread nD τ) M fullShare X : sProp 𝕄)
      ⊢ iprop((owns (c : Thread nD τ) M fullShare (upd r w X) -∗ WP c k Q) -∗ WP c (st M hM r hr hp hs w k) Q) := by
  unfold owns st
  iintro ⟨%f, %hf, H⟩ Hk
  subst hf
  iapply (wp_load (Val := Elt F) Variants.none (c : Thread nD τ) none Set.univ (M.view.setOn_subset_set r.toLoadRect.set)) $$ [H]
  · iexact H
  iintro H
  iapply (wp_store (Val := Elt F) Variants.none (c : Thread nD τ) none Set.univ (w := w) (Mk := Finset.univ) (M.view.set_slice_subset r)) $$ [H]
  · iexact H
  iintro H
  iapply Hk
  iexists _
  isplitr
  swap
  · iexact H
  ipureintro
  funext y
  by_cases h : ∃ x, r.idx x = y
  · obtain ⟨x, rfl⟩ := h
    rw [upd_idx]
    exact View.read_slice_write_emb r f w (Finset.mem_univ x)
  · rw [upd_of_ne r w _ y fun x hx => h ⟨x, hx⟩]
    refine View.read_slice_write_of_not_mem r f w Finset.univ fun hm => ?_
    obtain ⟨x, -, hx⟩ := Finset.mem_map.mp hm
    exact h ⟨x, hx⟩

end Cert.KernelIdeal.Hand

end
-- ==== Proof.Facts.lean ====
/-
  What the scratch holds: each buffer's contents as a function of the seven input blocks, and that every store brings the buffer one
  piece nearer to it.
-/
module

public import proofs.«01_k».proof.Proof.Steps
public import Idealize.ShloMosaic.Lib.Pipeline.Value
public import Idealize.ShloMosaic.Lib.Pipeline.ValueKit.Tiles

@[expose] public section

noncomputable section

namespace Cert.KernelIdeal.Hand

open Cert.KernelIdeal Cert.KernelIdeal.Gen
open Idealize.ShloMosaic Idealize.ShloMosaic.TcCoe

variable {F : FTy → Type} [FloatOps F]

/-- The input blocks' contents. -/
structure Ins (F : FTy → Type) where
  lam : S4x64.Idx → Elt F .f32
  gain : S1x128.Idx → Elt F .f32
  q : S1x2048x128.Idx → Elt F .bf16
  k : S1x2048x128.Idx → Elt F .bf16
  v : S1x2048x128.Idx → Elt F .bf16
  km : S128x128.Idx → Elt F .bf16
  vm : S128x128.Idx → Elt F .bf16

def mk2 {n m : Nat} (a : Fin n) (b : Fin m) : (⟨2, ![n, m]⟩ : Shape).Idx | 0 => a | 1 => b
def mk3 {l n m : Nat} (a : Fin l) (b : Fin n) (c : Fin m) : (⟨3, ![l, n, m]⟩ : Shape).Idx | 0 => a | 1 => b | 2 => c

theorem eq_mk2 {n m : Nat} (x : (⟨2, ![n, m]⟩ : Shape).Idx) (a : Fin n) (b : Fin m) (h0 : (x 0).val = a.val) (h1 : (x 1).val = b.val) :
    x = mk2 a b := funext fun | 0 => Fin.ext h0 | 1 => Fin.ext h1
theorem eq_mk3 {l n m : Nat} (x : (⟨3, ![l, n, m]⟩ : Shape).Idx) (a : Fin l) (b : Fin n) (c : Fin m) (h0 : (x 0).val = a.val)
    (h1 : (x 1).val = b.val) (h2 : (x 2).val = c.val) : x = mk3 a b c := funext fun | 0 => Fin.ext h0 | 1 => Fin.ext h1 | 2 => Fin.ext h2

/-- Where a rectangle places an index. -/
theorem at2 {n m : Nat} (o s : Fin 2 → Nat) (inb) (x : (Rect.unit (s := ⟨2, ![n, m]⟩) o s inb).shape.Idx) :
    ((Rect.unit (s := ⟨2, ![n, m]⟩) o s inb).idx x 0).val = o 0 + (x 0).val ∧ ((Rect.unit (s := ⟨2, ![n, m]⟩) o s inb).idx x 1).val = o 1 + (x 1).val :=
  ⟨Rect.idx_unit_val (s := ⟨2, ![n, m]⟩) o s inb x (0 : Fin 2), Rect.idx_unit_val (s := ⟨2, ![n, m]⟩) o s inb x (1 : Fin 2)⟩
theorem at3 {l n m : Nat} (o s : Fin 3 → Nat) (inb) (x : (Rect.unit (s := ⟨3, ![l, n, m]⟩) o s inb).shape.Idx) :
    ((Rect.unit (s := ⟨3, ![l, n, m]⟩) o s inb).idx x 0).val = o 0 + (x 0).val ∧ ((Rect.unit (s := ⟨3, ![l, n, m]⟩) o s inb).idx x 1).val = o 1 + (x 1).val ∧
      ((Rect.unit (s := ⟨3, ![l, n, m]⟩) o s inb).idx x 2).val = o 2 + (x 2).val :=
  ⟨Rect.idx_unit_val (s := ⟨3, ![l, n, m]⟩) o s inb x (0 : Fin 3), Rect.idx_unit_val (s := ⟨3, ![l, n, m]⟩) o s inb x (1 : Fin 3),
    Rect.idx_unit_val (s := ⟨3, ![l, n, m]⟩) o s inb x (2 : Fin 3)⟩

/-- A buffer overwritten on a rectangle, at an index: within it, or outside it. -/
theorem upd2 {n m : Nat} {α : Type} (o s : Fin 2 → Nat) (inb) (w : (Rect.unit (s := ⟨2, ![n, m]⟩) o s inb).shape.Idx → α)
    (X : (⟨2, ![n, m]⟩ : Shape).Idx → α) (y : (⟨2, ![n, m]⟩ : Shape).Idx) (z : α)
    (hi : ∀ x : (Rect.unit (s := ⟨2, ![n, m]⟩) o s inb).shape.Idx, (y 0).val = o 0 + (x 0).val → (y 1).val = o 1 + (x 1).val →
      (x 0).val < s 0 → (x 1).val < s 1 → w x = z)
    (ho : ((y 0).val < o 0 ∨ o 0 + s 0 ≤ (y 0).val ∨ (y 1).val < o 1 ∨ o 1 + s 1 ≤ (y 1).val) → X y = z) :
    upd (Rect.unit (s := ⟨2, ![n, m]⟩) o s inb) w X y = z := by
  by_cases h : (o 0 ≤ (y 0).val ∧ (y 0).val < o 0 + s 0) ∧ o 1 ≤ (y 1).val ∧ (y 1).val < o 1 + s 1
  · let x : (Rect.unit (s := ⟨2, ![n, m]⟩) o s inb).shape.Idx := fun
      | 0 => ⟨(y 0).val - o 0, by show _ < s 0; omega⟩ | 1 => ⟨(y 1).val - o 1, by show _ < s 1; omega⟩
    have e0 : (y 0).val = o 0 + (x 0).val := by show _ = o 0 + ((y 0).val - o 0); omega
    have e1 : (y 1).val = o 1 + (x 1).val := by show _ = o 1 + ((y 1).val - o 1); omega
    have hx : (Rect.unit (s := ⟨2, ![n, m]⟩) o s inb).idx x = y := by
      funext a
      apply Fin.ext
      rw [Rect.idx_unit_val]
      match a with
      | 0 => exact e0.symm
      | 1 => exact e1.symm
    rw [← hx, upd_idx]
    exact hi x e0 e1 (x 0).isLt (x 1).isLt
  · rw [upd_of_ne]
    · exact ho (by omega)
    · rintro x rfl
      obtain ⟨h0, h1⟩ := at2 o s inb x
      have b0 : (x 0).val < s 0 := (x 0).isLt
      have b1 : (x 1).val < s 1 := (x 1).isLt
      exact h (by omega)

theorem upd3 {l n m : Nat} {α : Type} (o s : Fin 3 → Nat) (inb) (w : (Rect.unit (s := ⟨3, ![l, n, m]⟩) o s inb).shape.Idx → α)
    (X : (⟨3, ![l, n, m]⟩ : Shape).Idx → α) (y : (⟨3, ![l, n, m]⟩ : Shape).Idx) (z : α)
    (hi : ∀ x : (Rect.unit (s := ⟨3, ![l, n, m]⟩) o s inb).shape.Idx, (y 0).val = o 0 + (x 0).val → (y 1).val = o 1 + (x 1).val →
      (y 2).val = o 2 + (x 2).val → (x 0).val < s 0 → (x 1).val < s 1 → (x 2).val < s 2 → w x = z)
    (ho : ((y 0).val < o 0 ∨ o 0 + s 0 ≤ (y 0).val ∨ (y 1).val < o 1 ∨ o 1 + s 1 ≤ (y 1).val ∨ (y 2).val < o 2 ∨ o 2 + s 2 ≤ (y 2).val) →
      X y = z) :
    upd (Rect.unit (s := ⟨3, ![l, n, m]⟩) o s inb) w X y = z := by
  by_cases h : ((o 0 ≤ (y 0).val ∧ (y 0).val < o 0 + s 0) ∧ o 1 ≤ (y 1).val ∧ (y 1).val < o 1 + s 1) ∧ o 2 ≤ (y 2).val ∧ (y 2).val < o 2 + s 2
  · let x : (Rect.unit (s := ⟨3, ![l, n, m]⟩) o s inb).shape.Idx := fun
      | 0 => ⟨(y 0).val - o 0, by show _ < s 0; omega⟩ | 1 => ⟨(y 1).val - o 1, by show _ < s 1; omega⟩
      | 2 => ⟨(y 2).val - o 2, by show _ < s 2; omega⟩
    have e0 : (y 0).val = o 0 + (x 0).val := by show _ = o 0 + ((y 0).val - o 0); omega
    have e1 : (y 1).val = o 1 + (x 1).val := by show _ = o 1 + ((y 1).val - o 1); omega
    have e2 : (y 2).val = o 2 + (x 2).val := by show _ = o 2 + ((y 2).val - o 2); omega
    have hx : (Rect.unit (s := ⟨3, ![l, n, m]⟩) o s inb).idx x = y := by
      funext a
      apply Fin.ext
      rw [Rect.idx_unit_val]
      match a with
      | 0 => exact e0.symm
      | 1 => exact e1.symm
      | 2 => exact e2.symm
    rw [← hx, upd_idx]
    exact hi x e0 e1 e2 (x 0).isLt (x 1).isLt (x 2).isLt
  · rw [upd_of_ne]
    · exact ho (by omega)
    · rintro x rfl
      obtain ⟨h0, h1, h2⟩ := at3 o s inb x
      have b0 : (x 0).val < s 0 := (x 0).isLt
      have b1 : (x 1).val < s 1 := (x 1).isLt
      have b2 : (x 2).val < s 2 := (x 2).isLt
      exact h (by omega)

variable (I : Ins F)

/-! ## Contents -/

/-- 512 rows of the queries, of the keys; 256 of the values. -/
def qIn (p : Fin 4) : FVec F S1x512x128 .bf16 := fun z => I.q ((rQ p).idx z)
def kIn (c : Fin 4) : FVec F S1x512x128 .bf16 := fun z => I.k ((rQ c).idx z)
def vIn (c : Fin 8) : FVec F S1x256x128 .bf16 := fun z => I.v ((rV c).idx z)
def kmIn : FVec F S16x128 .bf16 := fun z => I.km (rKmIn.idx z)
def vmIn : FVec F S128x128 .bf16 := fun z => I.vm (rVmIn.idx z)
def lamIn : FVec F S4x64 .f32 := fun z => I.lam (rLam.idx z)
def gainIn : FVec F S1x128 .f32 := fun z => I.gain (rGain.idx z)

/-- The keys of a map. -/
def kxAt (mp : Bool) (r : Nat) (d : Fin 128) : Elt F .bf16 :=
  if r < 2048 then kTile mp (kIn I ⟨r / 512 % 4, by omega⟩) (mk3 0 ⟨r % 512, by omega⟩ d)
  else kmTile mp (kmIn I) (mk3 0 ⟨(r - 2048) % 16, by omega⟩ d)
/-- The values transposed, a row of ones under them. -/
def vtAt (e c : Nat) : Elt F .bf16 :=
  if 128 ≤ e then Scalar.ofBits .bf16 0x3F80#16
  else if c < 2048 then vTile (vIn I ⟨c / 256 % 8, by omega⟩) (mk2 ⟨e % 128, by omega⟩ ⟨c % 256, by omega⟩)
  else vmTile (vmIn I) (mk2 ⟨e % 128, by omega⟩ ⟨(c - 2048) % 128, by omega⟩)
/-- A chunk's scores. -/
def tT (p : Fin 4) (mp : Bool) (c : Fin 3) : FVec F S512x512 .f32 :=
  sTile (fun z => kxAt I mp (512 * c.val + (z 1).val) (z 2)) (qIn I p)
def tT4 (p : Fin 4) (mp : Bool) : FVec F S528x512 .f32 := sTile4 (fun z => kxAt I mp (1536 + (z 1).val) (z 2)) (qIn I p)
def mxT (p : Fin 4) (mp : Bool) : FVec F S16x512 .f32 := colMax (tT I p mp 0) (tT I p mp 1) (tT I p mp 2) (tT4 I p mp)
def sAt (p : Fin 4) (mp : Bool) (r c : Nat) : Elt F .f32 :=
  if r < 1536 then tT I p mp ⟨r / 512 % 3, by omega⟩ (mk2 ⟨r % 512, by omega⟩ ⟨c % 512, by omega⟩)
  else tT4 I p mp (mk2 ⟨(r - 1536) % 528, by omega⟩ ⟨c % 512, by omega⟩)
/-- Sixteen rows of exponentials. -/
def eT (p : Fin 4) (mp : Bool) (j : Nat) : FVec F S16x512 .bf16 :=
  eTile (mxT I p mp) fun z => sAt I p mp (16 * j + (z 1).val) (z 2).val
def eAt (p : Fin 4) (mp : Bool) (r c : Nat) : Elt F .bf16 :=
  if r < 2048 then eT I p mp (r / 16) (mk2 ⟨r % 16, by omega⟩ ⟨c % 512, by omega⟩)
  else if r < 2160 then Scalar.ofBits .bf16 0x0000#16
  else eT I p mp 128 (mk2 ⟨(r - 2160) % 16, by omega⟩ ⟨c % 512, by omega⟩)
/-- A map's values. -/
def oT (p : Fin 4) (mp : Bool) : FVec F S144x512 .f32 := oTile (fun z => vtAt I (z 0).val (z 1).val) (fun z => eAt I p mp (z 0).val (z 1).val)
/-- A part's result. -/
def fT (p : Fin 4) : FVec F S1x512x128 .bf16 := finTile (gainIn I) (diffTile (lamTile (lamIn I)) (oT I p false) (oT I p true))
def outFull : S1x2048x128.Idx → Elt F .bf16 := fun y => fT I ⟨(y 1).val / 512 % 4, by omega⟩ (mk3 0 ⟨(y 1).val % 512, by omega⟩ (y 2))

/-! ## How far a buffer has got -/

def isKx (n : Nat) (X : S2x2064x128.Idx → Elt F .bf16) : Prop :=
  ∀ (mp : Bool) (y : S2x2064x128.Idx), (y 0).val = mp.toNat → (y 1).val < n → X y = kxAt I mp (y 1).val (y 2)
def isVt (n : Nat) (X : S144x2176.Idx → Elt F .bf16) : Prop :=
  ∀ y : S144x2176.Idx, (y 1).val < n → (y 0).val < 128 → X y = vtAt I (y 0).val (y 1).val
def isVtAll (X : S144x2176.Idx → Elt F .bf16) : Prop := ∀ y : S144x2176.Idx, X y = vtAt I (y 0).val (y 1).val
def isS (i : grid0.Coords) (p : Fin 4) (mp : Bool) (n : Nat) (X : S2x2064x1024.Idx → Elt F .f32) : Prop :=
  ∀ y : S2x2064x1024.Idx, (y 0).val = hSt i → (y 1).val < n → col p ≤ (y 2).val → (y 2).val < col p + 512 →
    X y = sAt I p mp (y 1).val ((y 2).val - col p)
def isZ (X : S2176x1024.Idx → Elt F .bf16) : Prop :=
  ∀ y : S2176x1024.Idx, 2048 ≤ (y 0).val → (y 0).val < 2160 → X y = Scalar.ofBits .bf16 0x0000#16
def isE (p : Fin 4) (mp : Bool) (n : Nat) (X : S2176x1024.Idx → Elt F .bf16) : Prop :=
  isZ X ∧ ∀ y : S2176x1024.Idx, ((y 0).val < 2048 ∧ (y 0).val < 16 * n) ∨ (2160 ≤ (y 0).val ∧ 128 < n) →
    col p ≤ (y 1).val → (y 1).val < col p + 512 → X y = eAt I p mp (y 0).val ((y 1).val - col p)
def isOut (n : Nat) (X : S1x2048x128.Idx → Elt F .bf16) : Prop := ∀ y : S1x2048x128.Idx, (y 1).val < 512 * n → X y = outFull I y

/-! ## Every store's step -/

theorem isKx_step (c : Fin 4) (X) (h : isKx I (512 * c.val) X) :
    isKx I (512 * (c.val + 1)) (upd (rK true c) (kTile true (kIn I c)) (upd (rK false c) (kTile false (kIn I c)) X)) := by
  intro mp y h0 h1
  have key : ∀ mp' (x : S1x512x128.Idx), (y 1).val = 512 * c.val + (x 1).val → (x 0).val < 1 → (x 1).val < 512 → (y 2).val = 0 + (x 2).val →
      kTile mp' (kIn I c) x = kxAt I mp' (y 1).val (y 2) := by
    intro mp' x e1 l0 l1 e2
    unfold kxAt
    rw [if_pos (by omega)]
    have hc : (⟨(y 1).val / 512 % 4, by omega⟩ : Fin 4) = c := Fin.ext (by show (y 1).val / 512 % 4 = c.val; omega)
    rw [hc, eq_mk3 x 0 ⟨(y 1).val % 512, by omega⟩ (y 2) (by show _ = 0; omega) (by show _ = (y 1).val % 512; omega) (by omega)]
  refine upd3 _ _ _ _ _ y _ (fun x e0 e1 e2 l0 l1 l2 => ?_) fun ho => upd3 _ _ _ _ _ y _ (fun x e0 e1 e2 l0 l1 l2 => ?_) fun ho' => h mp y h0 ?_
  · obtain rfl : mp = true := by
      cases mp
      · exact absurd (h0.symm.trans e0) (by show ¬ (0 = 1 + _); omega)
      · rfl
    exact key true x e1 l0 l1 e2
  · obtain rfl : mp = false := by
      cases mp
      · rfl
      · exact absurd (h0.symm.trans e0) (by have : (x 0).val < 1 := l0; show ¬ (1 = 0 + _); omega)
    exact key false x e1 l0 l1 e2
  · have b2 : (y 2).val < 128 := (y 2).isLt
    have ho2 : (y 0).val < 1 ∨ 1 + 1 ≤ (y 0).val ∨ (y 1).val < 512 * c.val ∨ 512 * c.val + 512 ≤ (y 1).val ∨ (y 2).val < 0 ∨ 0 + 128 ≤ (y 2).val := ho
    have ho3 : (y 0).val < 0 ∨ 0 + 1 ≤ (y 0).val ∨ (y 1).val < 512 * c.val ∨ 512 * c.val + 512 ≤ (y 1).val ∨ (y 2).val < 0 ∨ 0 + 128 ≤ (y 2).val := ho'
    have : (y 0).val < 2 := (y 0).isLt
    omega

theorem isKx_last (X) (h : isKx I 2048 X) :
    isKx I 2064 (upd (rKm true) (kmTile true (kmIn I)) (upd (rKm false) (kmTile false (kmIn I)) X)) := by
  intro mp y h0 h1
  have key : ∀ mp' (x : S1x16x128.Idx), (y 1).val = 2048 + (x 1).val → (x 0).val < 1 → (x 1).val < 16 → (y 2).val = 0 + (x 2).val →
      kmTile mp' (kmIn I) x = kxAt I mp' (y 1).val (y 2) := by
    intro mp' x e1 l0 l1 e2
    unfold kxAt
    rw [if_neg (by omega), eq_mk3 x 0 ⟨((y 1).val - 2048) % 16, by omega⟩ (y 2) (by show _ = 0; omega) (by show _ = ((y 1).val - 2048) % 16; omega) (by omega)]
  refine upd3 _ _ _ _ _ y _ (fun x e0 e1 e2 l0 l1 l2 => ?_) fun ho => upd3 _ _ _ _ _ y _ (fun x e0 e1 e2 l0 l1 l2 => ?_) fun ho' => h mp y h0 ?_
  · obtain rfl : mp = true := by
      cases mp
      · exact absurd (h0.symm.trans e0) (by show ¬ (0 = 1 + _); omega)
      · rfl
    exact key true x e1 l0 l1 e2
  · obtain rfl : mp = false := by
      cases mp
      · rfl
      · exact absurd (h0.symm.trans e0) (by have : (x 0).val < 1 := l0; show ¬ (1 = 0 + _); omega)
    exact key false x e1 l0 l1 e2
  · have b2 : (y 2).val < 128 := (y 2).isLt
    have ho2 : (y 0).val < 1 ∨ 1 + 1 ≤ (y 0).val ∨ (y 1).val < 2048 ∨ 2048 + 16 ≤ (y 1).val ∨ (y 2).val < 0 ∨ 0 + 128 ≤ (y 2).val := ho
    have ho3 : (y 0).val < 0 ∨ 0 + 1 ≤ (y 0).val ∨ (y 1).val < 2048 ∨ 2048 + 16 ≤ (y 1).val ∨ (y 2).val < 0 ∨ 0 + 128 ≤ (y 2).val := ho'
    have : (y 0).val < 2 := (y 0).isLt
    omega

theorem isVt_step (c : Fin 8) (n : Nat) (hn : n = 256 * c.val) (X) (h : isVt I n X) : isVt I (n + 256) (upd (rVt c) (vTile (vIn I c)) X) := by
  subst hn
  intro y h1 h0
  refine upd2 _ _ _ _ _ y _ (fun x e0 e1 l0 l1 => ?_) fun ho => h y ?_ h0
  · have e0 : (y 0).val = 0 + (x 0).val := e0
    have e1 : (y 1).val = 256 * c.val + (x 1).val := e1
    have l1 : (x 1).val < 256 := l1
    unfold vtAt
    rw [if_neg (by omega), if_pos (by omega)]
    have hc : (⟨(y 1).val / 256 % 8, by omega⟩ : Fin 8) = c := Fin.ext (by show (y 1).val / 256 % 8 = c.val; omega)
    rw [hc, eq_mk2 x ⟨(y 0).val % 128, by omega⟩ ⟨(y 1).val % 256, by omega⟩ (by show _ = (y 0).val % 128; omega) (by show _ = (y 1).val % 256; omega)]
  · have ho2 : (y 0).val < 0 ∨ 0 + 128 ≤ (y 0).val ∨ (y 1).val < 256 * c.val ∨ 256 * c.val + 256 ≤ (y 1).val := ho
    omega

theorem isVt_all (X) (h : isVt I 2048 X) : isVtAll I (upd rVt1 onesTile (upd rVtm (vmTile (vmIn I)) X)) := by
  intro y
  have b0 : (y 0).val < 144 := (y 0).isLt
  have b1 : (y 1).val < 2176 := (y 1).isLt
  refine upd2 _ _ _ _ _ y _ (fun x e0 e1 l0 l1 => ?_) fun ho => upd2 _ _ _ _ _ y _ (fun x e0 e1 l0 l1 => ?_) fun ho' => h y ?_ ?_
  · have e0 : (y 0).val = 128 + (x 0).val := e0
    unfold vtAt
    rw [if_pos (by omega)]
    rfl
  · have e0 : (y 0).val = 0 + (x 0).val := e0
    have e1 : (y 1).val = 2048 + (x 1).val := e1
    have l0 : (x 0).val < 128 := l0
    unfold vtAt
    rw [if_neg (by omega), if_neg (by omega),
      eq_mk2 x ⟨(y 0).val % 128, by omega⟩ ⟨((y 1).val - 2048) % 128, by omega⟩ (by show _ = (y 0).val % 128; omega) (by show _ = ((y 1).val - 2048) % 128; omega)]
  · have ho2 : (y 0).val < 128 ∨ 128 + 16 ≤ (y 0).val ∨ (y 1).val < 0 ∨ 0 + 2176 ≤ (y 1).val := ho
    have ho3 : (y 0).val < 0 ∨ 0 + 128 ≤ (y 0).val ∨ (y 1).val < 2048 ∨ 2048 + 128 ≤ (y 1).val := ho'
    omega
  · have ho2 : (y 0).val < 128 ∨ 128 + 16 ≤ (y 0).val ∨ (y 1).val < 0 ∨ 0 + 2176 ≤ (y 1).val := ho
    omega

theorem isZ_init (X) : isZ (F := F) (upd rEz zeroTile X) := by
  intro y h0 h1
  have b1 : (y 1).val < 1024 := (y 1).isLt
  refine upd2 _ _ _ _ _ y _ (fun x e0 e1 l0 l1 => rfl) fun ho => ?_
  have ho2 : (y 0).val < 2048 ∨ 2048 + 112 ≤ (y 0).val ∨ (y 1).val < 0 ∨ 0 + 1024 ≤ (y 1).val := ho
  omega

theorem isS_step (i : grid0.Coords) (p : Fin 4) (mp : Bool) (c : Fin 3) (X) (h : isS I i p mp (512 * c.val) X) :
    isS I i p mp (512 * c.val + 512) (upd (rS i p c) (shapeCast S1x512x512 (tT I p mp c) shapeCasts_S512x512_S1x512x512) X) := by
  intro y h0 h1 h2 h3
  refine upd3 _ _ _ _ _ y _ (fun x e0 e1 e2 l0 l1 l2 => ?_) fun ho => h y h0 ?_ h2 h3
  · have e1 : (y 1).val = 512 * c.val + (x 1).val := e1
    have e2 : (y 2).val = col p + (x 2).val := e2
    have l1 : (x 1).val < 512 := l1
    unfold sAt
    rw [if_pos (by omega)]
    have hc : (⟨(y 1).val / 512 % 3, by omega⟩ : Fin 3) = c := Fin.ext (by show (y 1).val / 512 % 3 = c.val; omega)
    rw [hc]
    refine (Idealize.ShloMosaic.shapeCast_addUnit_apply ![512, 512] _ _ x).trans (congrArg _ ?_)
    exact eq_mk2 _ _ _ (by show (x 1).val = (y 1).val % 512; omega) (by show (x 2).val = ((y 2).val - col p) % 512; omega)
  · have ho2 : (y 0).val < hSt i ∨ hSt i + 1 ≤ (y 0).val ∨ (y 1).val < 512 * c.val ∨ 512 * c.val + 512 ≤ (y 1).val ∨ (y 2).val < col p ∨ col p + 512 ≤ (y 2).val := ho
    omega

theorem isS_last (i : grid0.Coords) (p : Fin 4) (mp : Bool) (X) (h : isS I i p mp 1536 X) :
    isS I i p mp 2064 (upd (rS4 i p) (shapeCast S1x528x512 (tT4 I p mp) shapeCasts_S528x512_S1x528x512) X) := by
  intro y h0 h1 h2 h3
  refine upd3 _ _ _ _ _ y _ (fun x e0 e1 e2 l0 l1 l2 => ?_) fun ho => h y h0 ?_ h2 h3
  · have e1 : (y 1).val = 1536 + (x 1).val := e1
    have e2 : (y 2).val = col p + (x 2).val := e2
    unfold sAt
    rw [if_neg (by omega)]
    refine (Idealize.ShloMosaic.shapeCast_addUnit_apply ![528, 512] _ _ x).trans (congrArg _ ?_)
    exact eq_mk2 _ _ _ (by show (x 1).val = ((y 1).val - 1536) % 528; omega) (by show (x 2).val = ((y 2).val - col p) % 512; omega)
  · have ho2 : (y 0).val < hSt i ∨ hSt i + 1 ≤ (y 0).val ∨ (y 1).val < 1536 ∨ 1536 + 528 ≤ (y 1).val ∨ (y 2).val < col p ∨ col p + 512 ≤ (y 2).val := ho
    omega

theorem isE_zero (p : Fin 4) (mp : Bool) (X) (h : isZ X) : isE I p mp 0 X := ⟨h, fun y h0 => by omega⟩

theorem isE_step (p : Fin 4) (mp : Bool) (j : Nat) (hj : j < 129) (X) (h : isE I p mp j X) : isE I p mp (j + 1) (upd (rE p j hj) (eT I p mp j) X) := by
  refine ⟨fun y h0 h1 => ?_, fun y h0 h1 h2 => ?_⟩
  · refine upd2 _ _ _ _ _ y _ (fun x e0 e1 l0 l1 => ?_) fun ho => h.1 y h0 h1
    have e0 : (y 0).val = 16 * j + 112 * (j / 128) + (x 0).val := e0
    have l0 : (x 0).val < 16 := l0
    omega
  · refine upd2 _ _ _ _ _ y _ (fun x e0 e1 l0 l1 => ?_) fun ho => h.2 y ?_ h1 h2
    · have e0 : (y 0).val = 16 * j + 112 * (j / 128) + (x 0).val := e0
      have e1 : (y 1).val = col p + (x 1).val := e1
      have l0 : (x 0).val < 16 := l0
      have l1 : (x 1).val < 512 := l1
      unfold eAt
      by_cases hr : (y 0).val < 2048
      · have hjj : (y 0).val / 16 = j := by omega
        rw [if_pos hr, hjj, eq_mk2 x ⟨(y 0).val % 16, by omega⟩ ⟨((y 1).val - col p) % 512, by omega⟩ (by show _ = (y 0).val % 16; omega)
          (by show _ = ((y 1).val - col p) % 512; omega)]
      · obtain rfl : j = 128 := by omega
        rw [if_neg hr, if_neg (by omega), eq_mk2 x ⟨((y 0).val - 2160) % 16, by omega⟩ ⟨((y 1).val - col p) % 512, by omega⟩
          (by show _ = ((y 0).val - 2160) % 16; omega) (by show _ = ((y 1).val - col p) % 512; omega)]
    · have ho2 : (y 0).val < 16 * j + 112 * (j / 128) ∨ 16 * j + 112 * (j / 128) + 16 ≤ (y 0).val ∨ (y 1).val < col p ∨ col p + 512 ≤ (y 1).val := ho
      have b0 : (y 0).val < 2176 := (y 0).isLt
      omega

theorem isOut_step (p : Fin 4) (X) (h : isOut I p.val X) : isOut I (p.val + 1) (upd (rQ p) (fT I p) X) := by
  intro y h1
  refine upd3 _ _ _ _ _ y _ (fun x e0 e1 e2 l0 l1 l2 => ?_) fun ho => h y ?_
  · have e1 : (y 1).val = 512 * p.val + (x 1).val := e1
    have e2 : (y 2).val = 0 + (x 2).val := e2
    have l0 : (x 0).val < 1 := l0
    have l1 : (x 1).val < 512 := l1
    unfold outFull
    have hc : (⟨(y 1).val / 512 % 4, by omega⟩ : Fin 4) = p := Fin.ext (by show (y 1).val / 512 % 4 = p.val; omega)
    rw [hc]
    exact congrArg _ (eq_mk3 x _ _ _ (by show _ = 0; omega) (by show _ = (y 1).val % 512; omega) (by omega))
  · have ho2 : (y 0).val < 0 ∨ 0 + 1 ≤ (y 0).val ∨ (y 1).val < 512 * p.val ∨ 512 * p.val + 512 ≤ (y 1).val ∨ (y 2).val < 0 ∨ 0 + 128 ≤ (y 2).val := ho
    have b0 : (y 0).val < 1 := (y 0).isLt
    have b2 : (y 2).val < 128 := (y 2).isLt
    omega

/-! ## What the loads read -/

theorem rK_read (X) (h : isKx I 2064 X) (mp : Bool) (c : Fin 3) :
    (fun x : S1x512x128.Idx => X ((rK mp ⟨c.val, by omega⟩).idx x)) = fun z => kxAt I mp (512 * c.val + (z 1).val) (z 2) := by
  funext x
  have e0 : ((rK mp ⟨c.val, by omega⟩).idx x 0).val = mp.toNat + (x 0).val := (at3 _ _ _ x).1
  have e1 : ((rK mp ⟨c.val, by omega⟩).idx x 1).val = 512 * c.val + (x 1).val := (at3 _ _ _ x).2.1
  have e2 : ((rK mp ⟨c.val, by omega⟩).idx x 2).val = 0 + (x 2).val := (at3 _ _ _ x).2.2
  have l0 : (x 0).val < 1 := (x 0).isLt
  have l1 : (x 1).val < 512 := (x 1).isLt
  refine (h mp _ (by omega) (by omega)).trans ?_
  exact congr (congrArg (kxAt I mp) e1) (Fin.ext (by omega))

theorem rK4_read (X) (h : isKx I 2064 X) (mp : Bool) :
    (fun x : S1x528x128.Idx => X ((rK4 mp).idx x)) = fun z => kxAt I mp (1536 + (z 1).val) (z 2) := by
  funext x
  have e0 : ((rK4 mp).idx x 0).val = mp.toNat + (x 0).val := (at3 _ _ _ x).1
  have e1 : ((rK4 mp).idx x 1).val = 1536 + (x 1).val := (at3 _ _ _ x).2.1
  have e2 : ((rK4 mp).idx x 2).val = 0 + (x 2).val := (at3 _ _ _ x).2.2
  have l0 : (x 0).val < 1 := (x 0).isLt
  have l1 : (x 1).val < 528 := (x 1).isLt
  refine (h mp _ (by omega) (by omega)).trans ?_
  exact congr (congrArg (kxAt I mp) e1) (Fin.ext (by omega))

theorem rL_read (i : grid0.Coords) (hi : hLd i = hSt i) (p : Fin 4) (mp : Bool) (n : Nat) (X) (h : isS I i p mp n X) (j : Nat) (hj : j < 129)
    (hn : 16 * (j + 1) ≤ n) :
    (fun x : S1x16x512.Idx => X ((rL i p j hj).idx x)) = fun z => sAt I p mp (16 * j + (z 1).val) (z 2).val := by
  funext x
  have e0 : ((rL i p j hj).idx x 0).val = hLd i + (x 0).val := (at3 _ _ _ x).1
  have e1 : ((rL i p j hj).idx x 1).val = 16 * j + (x 1).val := (at3 _ _ _ x).2.1
  have e2 : ((rL i p j hj).idx x 2).val = col p + (x 2).val := (at3 _ _ _ x).2.2
  have l0 : (x 0).val < 1 := (x 0).isLt
  have l1 : (x 1).val < 16 := (x 1).isLt
  have l2 : (x 2).val < 512 := (x 2).isLt
  refine (h _ (by omega) (by omega) (by omega) (by omega)).trans ?_
  rw [e1, e2, Nat.add_sub_cancel_left]

theorem rVtAll_read (X) (h : isVtAll I X) : (fun x : S144x2176.Idx => X (rVtAll.idx x)) = fun z => vtAt I (z 0).val (z 1).val := by
  funext x
  have e0 : (rVtAll.idx x 0).val = 0 + (x 0).val := (at2 _ _ _ x).1
  have e1 : (rVtAll.idx x 1).val = 0 + (x 1).val := (at2 _ _ _ x).2
  rw [h, e0, e1, Nat.zero_add, Nat.zero_add]

theorem rEall_read (p : Fin 4) (mp : Bool) (X) (h : isE I p mp 129 X) :
    (fun x : S2176x512.Idx => X ((rEall p).idx x)) = fun z => eAt I p mp (z 0).val (z 1).val := by
  funext x
  have e0 : ((rEall p).idx x 0).val = 0 + (x 0).val := (at2 _ _ _ x).1
  have e1 : ((rEall p).idx x 1).val = col p + (x 1).val := (at2 _ _ _ x).2
  have l0 : (x 0).val < 2176 := (x 0).isLt
  have l1 : (x 1).val < 512 := (x 1).isLt
  by_cases hz : 2048 ≤ (x 0).val ∧ (x 0).val < 2160
  · refine (h.1 _ (by omega) (by omega)).trans ?_
    unfold eAt
    rw [if_neg (by omega), if_pos (by omega)]
  · refine (h.2 _ (by omega) (by omega) (by omega)).trans ?_
    rw [e0, e1, Nat.add_sub_cancel_left, Nat.zero_add]

theorem out_read (X) (h : isOut I 4 X) : X = outFull I := funext fun y => h y (by have : (y 1).val < 2048 := (y 1).isLt; omega)

end Cert.KernelIdeal.Hand

end
-- ==== Proof.Run.lean ====
/-
  The body run piece by piece: from the seven input blocks at given contents it leaves its result's block at `outFull`.
-/
module

public import proofs.«01_k».proof.Proof.Facts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (B : Bufs) (I : Ins F) (i : grid0.Coords)

/-- A memref held whole at contents satisfying `P`. -/
def hold {s : Shape} {e : EltTy} (M : Memref sig .tc .vmem s e) (P : (s.Idx → Elt F e) → Prop) : sProp 𝕄 :=
  iprop(∃ X, ⌜P X⌝ ∗ owns (c : Thread nD τ) M fullShare X)

theorem hold_intro {s : Shape} {e : EltTy} (M : Memref sig .tc .vmem s e) (P : (s.Idx → Elt F e) → Prop) (X) (h : P X) :
    (owns (c : Thread nD τ) M fullShare X : sProp 𝕄) ⊢ hold c M P := by
  unfold hold
  iintro H
  iexists X
  isplitr
  · ipureintro; exact h
  iexact H

/-- A load from a held memref: what is read is given with what is known of it; -/
theorem ld_hold {s : Shape} {e : EltTy} (M : Memref sig .tc .vmem s e) (P : (s.Idx → Elt F e) → Prop) (r : Rect s) (hr : 0 < r.shape.numel)
    (w : r.shape.Idx → Elt F e) (hw : ∀ X, P X → (fun x => X (r.idx x)) = w) (k : (r.shape.Idx → Elt F e) → TP F) (Q : PUnit → sProp 𝕄) :
    (hold c M P : sProp 𝕄) ⊢ iprop((hold c M P -∗ WP c (k w) Q) -∗ WP c (ld M r hr k) Q) := by
  conv => lhs; unfold hold
  iintro ⟨%X, %hX, H⟩ Hk
  iapply (ld_owns c M r hr X k Q) $$ [H]
  · iexact H
  iintro H
  rw [hw X hX]
  iapply Hk
  iapply (hold_intro c M P X hX)
  iexact H

/-- a store to one. -/
theorem st_hold {s : Shape} {e : EltTy} (M : Memref sig .tc .vmem s e) (hM : M.IsWhole) (P P' : (s.Idx → Elt F e) → Prop) (r : Rect s)
    (hr : 0 < r.shape.numel) (hp : r.PackedRows e.packing) (hs : ∀ a, r.stride a = 1) (w : r.shape.Idx → Elt F e)
    (hP : ∀ X, P X → P' (upd r w X)) (k : TP F) (Q : PUnit → sProp 𝕄) :
    (hold c M P : sProp 𝕄) ⊢ iprop((hold c M P' -∗ WP c k Q) -∗ WP c (st M hM r hr hp hs w k) Q) := by
  conv => lhs; unfold hold
  iintro ⟨%X, %hX, H⟩ Hk
  iapply (st_owns c M hM r hr hp hs w X k Q) $$ [H]
  · iexact H
  iintro H
  iapply Hk
  iapply (hold_intro c M P' _ (hP X hX))
  iexact H

/-! ## The pieces -/

theorem prepChunk_run (j : Fin 4) (k : TP F) (Q : PUnit → sProp 𝕄) :
    (hold c B.k (· = I.k) : sProp 𝕄) ⊢ iprop(hold c B.v (· = I.v) -∗ hold c B.kx (isKx I (512 * j.val)) -∗ hold c B.vt (isVt I (512 * j.val)) -∗
      (hold c B.k (· = I.k) -∗ hold c B.v (· = I.v) -∗ hold c B.kx (isKx I (512 * (j.val + 1))) -∗ hold c B.vt (isVt I (512 * (j.val + 1))) -∗ WP c k Q) -∗
      WP c (prepChunk B j k) Q) := by
  unfold prepChunk
  iintro HK HV HX HT Hk
  iapply (ld_hold c B.k (· = I.k) _ _ (kIn I j) (fun X h => by subst h; rfl)) $$ [HK]
  · iexact HK
  iintro HK
  iapply (st_hold c B.kx B.hkx _ (fun X => ∃ Y, isKx I (512 * j.val) Y ∧ X = upd (rK false j) (kTile false (kIn I j)) Y) _ _ _ _ _
    (fun X h => ⟨X, h, rfl⟩)) $$ [HX]
  · iexact HX
  iintro HX
  iapply (st_hold c B.kx B.hkx (fun X => ∃ Y, isKx I (512 * j.val) Y ∧ X = upd (rK false j) (kTile false (kIn I j)) Y) (isKx I (512 * (j.val + 1))) _ _ _ _ _ (fun X h => by
    obtain ⟨Y, hY, rfl⟩ := h; exact isKx_step I j Y hY)) $$ [HX]
  · iexact HX
  iintro HX
  iapply (ld_hold c B.v (· = I.v) _ _ (vIn I ⟨2 * j.val, by omega⟩) (fun X h => by subst h; rfl)) $$ [HV]
  · iexact HV
  iintro HV
  iapply (st_hold c B.vt B.hvt _ (isVt I (512 * j.val + 256)) _ _ _ _ _
    (fun X h => isVt_step I ⟨2 * j.val, by omega⟩ _ (by show _ = 256 * (2 * j.val); omega) X h)) $$ [HT]
  · iexact HT
  iintro HT
  iapply (ld_hold c B.v (· = I.v) _ _ (vIn I ⟨2 * j.val + 1, by omega⟩) (fun X h => by subst h; rfl)) $$ [HV]
  · iexact HV
  iintro HV
  iapply (st_hold c B.vt B.hvt _ (isVt I (512 * (j.val + 1))) _ _ _ _ _
    (fun X h => isVt_step I ⟨2 * j.val + 1, by omega⟩ (512 * j.val + 256) (by show _ = 256 * (2 * j.val + 1); omega) X h)) $$ [HT]
  · iexact HT
  iintro HT
  iapply Hk $$ [HK] [HV] [HX] [HT]
  · iexact HK
  · iexact HV
  · iexact HX
  · iexact HT

theorem score_run (p : Fin 4) (mp : Bool) (j : Fin 3) (k : FVec F S512x512 .f32 → TP F) (Q : PUnit → sProp 𝕄) :
    (hold c B.kx (isKx I 2064) : sProp 𝕄) ⊢ iprop(hold c B.q (· = I.q) -∗ hold c (B.s mp) (isS I i p mp (512 * j.val)) -∗
      (hold c B.kx (isKx I 2064) -∗ hold c B.q (· = I.q) -∗ hold c (B.s mp) (isS I i p mp (512 * j.val + 512)) -∗ WP c (k (tT I p mp j)) Q) -∗
      WP c (score B i p mp j k) Q) := by
  unfold score
  iintro HX HQ HS Hk
  iapply (ld_hold c B.kx _ _ _ _ (fun X h => rK_read I X h mp j)) $$ [HX]
  · iexact HX
  iintro HX
  iapply (ld_hold c B.q (· = I.q) _ _ (qIn I p) (fun X h => by subst h; rfl)) $$ [HQ]
  · iexact HQ
  iintro HQ
  iapply (st_hold c (B.s mp) (B.hs mp) _ (isS I i p mp (512 * j.val + 512)) _ _ _ _ _ (fun X h => isS_step I i p mp j X h)) $$ [HS]
  · iexact HS
  iintro HS
  iapply Hk $$ [HX] [HQ] [HS]
  · iexact HX
  · iexact HQ
  · iexact HS

theorem score4_run (p : Fin 4) (mp : Bool) (k : FVec F S528x512 .f32 → TP F) (Q : PUnit → sProp 𝕄) :
    (hold c B.kx (isKx I 2064) : sProp 𝕄) ⊢ iprop(hold c B.q (· = I.q) -∗ hold c (B.s mp) (isS I i p mp 1536) -∗
      (hold c B.kx (isKx I 2064) -∗ hold c B.q (· = I.q) -∗ hold c (B.s mp) (isS I i p mp 2064) -∗ WP c (k (tT4 I p mp)) Q) -∗
      WP c (score4 B i p mp k) Q) := by
  unfold score4
  iintro HX HQ HS Hk
  iapply (ld_hold c B.kx _ _ _ _ (fun X h => rK4_read I X h mp)) $$ [HX]
  · iexact HX
  iintro HX
  iapply (ld_hold c B.q (· = I.q) _ _ (qIn I p) (fun X h => by subst h; rfl)) $$ [HQ]
  · iexact HQ
  iintro HQ
  iapply (st_hold c (B.s mp) (B.hs mp) _ (isS I i p mp 2064) _ _ _ _ _ (fun X h => isS_last I i p mp X h)) $$ [HS]
  · iexact HS
  iintro HS
  iapply Hk $$ [HX] [HQ] [HS]
  · iexact HX
  · iexact HQ
  · iexact HS

theorem exps_run (hi : hLd i = hSt i) (p : Fin 4) (mp : Bool) (b : Nat) (hb : b ≤ 129) (k : TP F) (Q : PUnit → sProp 𝕄) (n : Nat) (hn : n ≤ b) :
    (hold c (B.s mp) (isS I i p mp 2064) : sProp 𝕄) ⊢ iprop(hold c (B.e mp) (isE I p mp (b - n)) -∗
      (hold c (B.s mp) (isS I i p mp 2064) -∗ hold c (B.e mp) (isE I p mp b) -∗ WP c k Q) -∗
      WP c (exps B i p mp (mxT I p mp) b hb k n) Q) := by
  induction n with
  | zero =>
    iintro HS HE Hk
    unfold exps
    iapply Hk $$ [HS] [HE]
    · iexact HS
    · iexact HE
  | succ n ih =>
    iintro HS HE Hk
    unfold exps
    iapply (ld_hold c (B.s mp) _ _ _ _ (fun X h => rL_read I i hi p mp 2064 X h (b - (n + 1)) (by omega) (by omega))) $$ [HS]
    · iexact HS
    iintro HS
    iapply (st_hold c (B.e mp) (B.he mp) _ (isE I p mp (b - n)) _ _ _ _ _ (fun X h => by
      have := isE_step I p mp (b - (n + 1)) (by omega) X h
      rwa [show b - (n + 1) + 1 = b - n by omega] at this)) $$ [HE]
    · iexact HE
    iintro HE
    iapply (ih (by omega)) $$ [HS] [HE]
    · iexact HS
    · iexact HE
    iexact Hk

theorem first_run (p : Fin 4) (mp : Bool) (k : FVec F S16x512 .f32 → TP F) (Q : PUnit → sProp 𝕄) :
    (hold c B.kx (isKx I 2064) : sProp 𝕄) ⊢ iprop(hold c B.q (· = I.q) -∗ hold c (B.s mp) (isS I i p mp 0) -∗
      (hold c B.kx (isKx I 2064) -∗ hold c B.q (· = I.q) -∗ hold c (B.s mp) (isS I i p mp 2064) -∗ WP c (k (mxT I p mp)) Q) -∗
      WP c (first B i p mp k) Q) := by
  unfold first
  iintro HX HQ HS Hk
  iapply (score_run c B I i p mp 0) $$ [HX] [HQ] [HS]
  · iexact HX
  · iexact HQ
  · iexact HS
  iintro HX HQ HS
  iapply (score_run c B I i p mp 1) $$ [HX] [HQ] [HS]
  · iexact HX
  · iexact HQ
  · iexact HS
  iintro HX HQ HS
  iapply (score_run c B I i p mp 2) $$ [HX] [HQ] [HS]
  · iexact HX
  · iexact HQ
  · iexact HS
  iintro HX HQ HS
  iapply (score4_run c B I i p mp) $$ [HX] [HQ] [HS]
  · iexact HX
  · iexact HQ
  · iexact HS
  iintro HX HQ HS
  iapply Hk $$ [HX] [HQ] [HS]
  · iexact HX
  · iexact HQ
  · iexact HS

/-- Any contents of the scores' scratch hold no rows yet, of any part. -/
theorem hold_s0 (p : Fin 4) (mp : Bool) (P : (S2x2064x1024.Idx → Elt F .f32) → Prop) :
    (hold c (B.s mp) P : sProp 𝕄) ⊢ hold c (B.s mp) (isS I i p mp 0) := by
  conv => lhs; unfold hold
  iintro ⟨%X, %hX, H⟩
  iapply (hold_intro c (B.s mp) (isS I i p mp 0) X (fun y h0 h1 => by omega))
  iexact H
theorem hold_e0 (p : Fin 4) (mp : Bool) (P : (S2176x1024.Idx → Elt F .bf16) → Prop) (hP : ∀ X, P X → isZ X) :
    (hold c (B.e mp) P : sProp 𝕄) ⊢ hold c (B.e mp) (isE I p mp 0) := by
  conv => lhs; unfold hold
  iintro ⟨%X, %hX, H⟩
  iapply (hold_intro c (B.e mp) (isE I p mp 0) X (isE_zero I p mp X (hP X hX)))
  iexact H

theorem mid_run (hi : hLd i = hSt i) (p : Fin 4) (mp : Bool) (p' : Fin 4) (mp' : Bool) (P : (S2x2064x1024.Idx → Elt F .f32) → Prop)
    (k : FVec F S16x512 .f32 → TP F) (Q : PUnit → sProp 𝕄) :
    (hold c B.kx (isKx I 2064) : sProp 𝕄) ⊢ iprop(hold c B.q (· = I.q) -∗ hold c (B.s mp) P -∗
      hold c (B.s mp') (isS I i p' mp' 2064) -∗ hold c (B.e mp') isZ -∗
      (hold c B.kx (isKx I 2064) -∗ hold c B.q (· = I.q) -∗ hold c (B.s mp) (isS I i p mp 2064) -∗
        hold c (B.s mp') (isS I i p' mp' 2064) -∗ hold c (B.e mp') (isE I p' mp' 129) -∗ WP c (k (mxT I p mp)) Q) -∗
      WP c (mid B i p mp p' mp' (mxT I p' mp') k) Q) := by
  unfold mid
  iintro HX HQ HS HS' HE Hk
  ihave HS := (hold_s0 c B I i p mp P) $$ HS
  ihave HE := (hold_e0 c B I p' mp' isZ (fun _ h => h)) $$ HE
  iapply (score_run c B I i p mp 0) $$ [HX] [HQ] [HS]
  · iexact HX
  · iexact HQ
  · iexact HS
  iintro HX HQ HS
  iapply (exps_run c B I i hi p' mp' 32 _ _ _ 32 (by decide)) $$ [HS'] [HE]
  · iexact HS'
  · iexact HE
  iintro HS' HE
  iapply (score_run c B I i p mp 1) $$ [HX] [HQ] [HS]
  · iexact HX
  · iexact HQ
  · iexact HS
  iintro HX HQ HS
  iapply (exps_run c B I i hi p' mp' 64 _ _ _ 32 (by decide)) $$ [HS'] [HE]
  · iexact HS'
  · iexact HE
  iintro HS' HE
  iapply (score_run c B I i p mp 2) $$ [HX] [HQ] [HS]
  · iexact HX
  · iexact HQ
  · iexact HS
  iintro HX HQ HS
  iapply (exps_run c B I i hi p' mp' 96 _ _ _ 32 (by decide)) $$ [HS'] [HE]
  · iexact HS'
  · iexact HE
  iintro HS' HE
  iapply (score4_run c B I i p mp) $$ [HX] [HQ] [HS]
  · iexact HX
  · iexact HQ
  · iexact HS
  iintro HX HQ HS
  iapply (exps_run c B I i hi p' mp' 129 _ _ _ 33 (by decide)) $$ [HS'] [HE]
  · iexact HS'
  · iexact HE
  iintro HS' HE
  iapply Hk $$ [HX] [HQ] [HS] [HS'] [HE]
  · iexact HX
  · iexact HQ
  · iexact HS
  · iexact HS'
  · iexact HE

/-- A map's values; what is kept of its exponentials' scratch is its zero rows. -/
theorem values_run (p : Fin 4) (mp : Bool) (k : FVec F S144x512 .f32 → TP F) (Q : PUnit → sProp 𝕄) :
    (hold c B.vt (isVtAll I) : sProp 𝕄) ⊢ iprop(hold c (B.e mp) (isE I p mp 129) -∗
      (hold c B.vt (isVtAll I) -∗ hold c (B.e mp) isZ -∗ WP c (k (oT I p mp)) Q) -∗ WP c (values B p mp k) Q) := by
  unfold values
  iintro HT HE Hk
  iapply (ld_hold c B.vt _ _ _ _ (fun X h => rVtAll_read I X h)) $$ [HT]
  · iexact HT
  iintro HT
  iapply (ld_hold c (B.e mp) _ _ _ _ (fun X h => rEall_read I p mp X h)) $$ [HE]
  · iexact HE
  iintro HE
  iapply Hk $$ [HT] [HE]
  · iexact HT
  · unfold hold
    icases HE with ⟨%X, %hX, H⟩
    iexists X
    isplitr
    · ipureintro; exact hX.1
    iexact H

theorem finish_run (p : Fin 4) (k : TP F) (Q : PUnit → sProp 𝕄) :
    (hold c B.gain (· = I.gain) : sProp 𝕄) ⊢ iprop(hold c B.out (isOut I p.val) -∗
      (hold c B.gain (· = I.gain) -∗ hold c B.out (isOut I (p.val + 1)) -∗ WP c k Q) -∗
      WP c (finish B p (lamTile (lamIn I)) (oT I p false) (oT I p true) k) Q) := by
  unfold finish
  iintro HG HO Hk
  iapply (ld_hold c B.gain (· = I.gain) _ _ (gainIn I) (fun X h => by subst h; rfl)) $$ [HG]
  · iexact HG
  iintro HG
  iapply (st_hold c B.out B.hout _ (isOut I (p.val + 1)) _ _ _ _ _ (fun X h => isOut_step I p X h)) $$ [HO]
  · iexact HO
  iintro HO
  iapply Hk $$ [HG] [HO]
  · iexact HG
  · iexact HO

theorem hold_mono {s : Shape} {e : EltTy} (M : Memref sig .tc .vmem s e) (P P' : (s.Idx → Elt F e) → Prop) (h : ∀ X, P X → P' X) :
    (hold c M P : sProp 𝕄) ⊢ hold c M P' := by
  conv => lhs; unfold hold
  iintro ⟨%X, %hX, H⟩
  iapply (hold_intro c M P' X (h X hX))
  iexact H

/-- What the parts hand on: the keys, the queries, the transposed values, the gain, and the exponentials' zero rows. -/
def base : sProp 𝕄 :=
  iprop(hold c B.kx (isKx I 2064) ∗ hold c B.q (· = I.q) ∗ hold c B.vt (isVtAll I) ∗ hold c B.gain (· = I.gain) ∗
    hold c (B.e false) isZ ∗ hold c (B.e true) isZ)

theorem pair_run (hi : hLd i = hSt i) (p : Fin 3) (k : FVec F S16x512 .f32 → TP F) (Q : PUnit → sProp 𝕄) :
    (base c B I : sProp 𝕄) ⊢ iprop(hold c (B.s false) (isS I i p.castSucc false 2064) -∗ hold c (B.s true) (fun _ => True) -∗
      hold c B.out (isOut I p.val) -∗
      (base c B I -∗ hold c (B.s false) (isS I i p.succ false 2064) -∗ hold c (B.s true) (fun _ => True) -∗
        hold c B.out (isOut I (p.val + 1)) -∗ WP c (k (mxT I p.succ false)) Q) -∗
      WP c (pair B i p (lamTile (lamIn I)) (mxT I p.castSucc false) k) Q) := by
  unfold base pair
  iintro ⟨HX, HQ, HT, HG, HE, HE'⟩ HS HS' HO Hk
  iapply (mid_run c B I i hi p.castSucc true p.castSucc false (fun _ => True)) $$ [HX] [HQ] [HS'] [HS] [HE]
  · iexact HX
  · iexact HQ
  · iexact HS'
  · iexact HS
  · iexact HE
  iintro HX HQ HS' HS HE
  iapply (values_run c B I p.castSucc false) $$ [HT] [HE]
  · iexact HT
  · iexact HE
  iintro HT HE
  iapply (mid_run c B I i hi p.succ false p.castSucc true _) $$ [HX] [HQ] [HS] [HS'] [HE']
  · iexact HX
  · iexact HQ
  · iexact HS
  · iexact HS'
  · iexact HE'
  iintro HX HQ HS HS' HE'
  iapply (values_run c B I p.castSucc true) $$ [HT] [HE']
  · iexact HT
  · iexact HE'
  iintro HT HE'
  iapply (finish_run c B I p.castSucc) $$ [HG] [HO]
  · iexact HG
  · iexact HO
  iintro HG HO
  iapply Hk $$ [HX HQ HT HG HE HE'] [HS] [HS'] [HO]
  · isplitl [HX]; · iexact HX
    isplitl [HQ]; · iexact HQ
    isplitl [HT]; · iexact HT
    isplitl [HG]; · iexact HG
    isplitl [HE]; · iexact HE
    iexact HE'
  · iexact HS
  · iapply (hold_mono c (B.s true) _ _ (fun _ _ => trivial)) $$ HS'
  · iexact HO

theorem lastPair_run (hi : hLd i = hSt i) (k : TP F) (Q : PUnit → sProp 𝕄) :
    (base c B I : sProp 𝕄) ⊢ iprop(hold c (B.s false) (isS I i 3 false 2064) -∗ hold c (B.s true) (fun _ => True) -∗
      hold c B.out (isOut I 3) -∗
      (base c B I -∗ hold c (B.s false) (fun _ => True) -∗ hold c (B.s true) (fun _ => True) -∗
        hold c B.out (isOut I 4) -∗ WP c k Q) -∗
      WP c (lastPair B i (lamTile (lamIn I)) (mxT I 3 false) k) Q) := by
  unfold base lastPair last
  iintro ⟨HX, HQ, HT, HG, HE, HE'⟩ HS HS' HO Hk
  iapply (mid_run c B I i hi 3 true 3 false (fun _ => True)) $$ [HX] [HQ] [HS'] [HS] [HE]
  · iexact HX
  · iexact HQ
  · iexact HS'
  · iexact HS
  · iexact HE
  iintro HX HQ HS' HS HE
  iapply (values_run c B I 3 false) $$ [HT] [HE]
  · iexact HT
  · iexact HE
  iintro HT HE
  ihave HE' := (hold_e0 c B I 3 true isZ (fun _ h => h)) $$ HE'
  iapply (exps_run c B I i hi 3 true 129 _ _ _ 129 (by decide)) $$ [HS'] [HE']
  · iexact HS'
  · iexact HE'
  iintro HS' HE'
  iapply (values_run c B I 3 true) $$ [HT] [HE']
  · iexact HT
  · iexact HE'
  iintro HT HE'
  iapply (finish_run c B I 3) $$ [HG] [HO]
  · iexact HG
  · iexact HO
  iintro HG HO
  iapply Hk $$ [HX HQ HT HG HE HE'] [HS] [HS'] [HO]
  · isplitl [HX]; · iexact HX
    isplitl [HQ]; · iexact HQ
    isplitl [HT]; · iexact HT
    isplitl [HG]; · iexact HG
    isplitl [HE]; · iexact HE
    iexact HE'
  · iapply (hold_mono c (B.s false) _ _ (fun _ _ => trivial)) $$ HS
  · iapply (hold_mono c (B.s true) _ _ (fun _ _ => trivial)) $$ HS'
  · iexact HO

theorem prep_run (k : TP F) (Q : PUnit → sProp 𝕄) :
    (hold c B.k (· = I.k) : sProp 𝕄) ⊢ iprop(hold c B.v (· = I.v) -∗ hold c B.km (· = I.km) -∗ hold c B.vm (· = I.vm) -∗
      hold c B.kx (fun _ => True) -∗ hold c B.vt (fun _ => True) -∗ hold c (B.e false) (fun _ => True) -∗ hold c (B.e true) (fun _ => True) -∗
      (hold c B.k (· = I.k) -∗ hold c B.v (· = I.v) -∗ hold c B.km (· = I.km) -∗ hold c B.vm (· = I.vm) -∗
        hold c B.kx (isKx I 2064) -∗ hold c B.vt (isVtAll I) -∗ hold c (B.e false) isZ -∗ hold c (B.e true) isZ -∗ WP c k Q) -∗
      WP c (prep B k) Q) := by
  unfold prep
  iintro HK HV HKm HVm HX HT HE HE' Hk
  ihave HX := (hold_mono c B.kx _ (isKx I (512 * (0 : Fin 4).val)) (fun X _ mp y h0 h1 => absurd h1 (Nat.not_lt_zero _))) $$ HX
  ihave HT := (hold_mono c B.vt _ (isVt I (512 * (0 : Fin 4).val)) (fun X _ y h1 h0 => absurd h1 (Nat.not_lt_zero _))) $$ HT
  iapply (prepChunk_run c B I 0) $$ [HK] [HV] [HX] [HT]
  · iexact HK
  · iexact HV
  · iexact HX
  · iexact HT
  iintro HK HV HX HT
  iapply (prepChunk_run c B I 1) $$ [HK] [HV] [HX] [HT]
  · iexact HK
  · iexact HV
  · iexact HX
  · iexact HT
  iintro HK HV HX HT
  iapply (prepChunk_run c B I 2) $$ [HK] [HV] [HX] [HT]
  · iexact HK
  · iexact HV
  · iexact HX
  · iexact HT
  iintro HK HV HX HT
  iapply (prepChunk_run c B I 3) $$ [HK] [HV] [HX] [HT]
  · iexact HK
  · iexact HV
  · iexact HX
  · iexact HT
  iintro HK HV HX HT
  iapply (ld_hold c B.km (· = I.km) _ _ (kmIn I) (fun X h => by subst h; rfl)) $$ [HKm]
  · iexact HKm
  iintro HKm
  iapply (st_hold c B.kx B.hkx _ (fun X => ∃ Y, isKx I 2048 Y ∧ X = upd (rKm false) (kmTile false (kmIn I)) Y) _ _ _ _ _
    (fun X h => ⟨X, h, rfl⟩)) $$ [HX]
  · iexact HX
  iintro HX
  iapply (st_hold c B.kx B.hkx (fun X => ∃ Y, isKx I 2048 Y ∧ X = upd (rKm false) (kmTile false (kmIn I)) Y) (isKx I 2064) _ _ _ _ _ (fun X h => by
    obtain ⟨Y, hY, rfl⟩ := h; exact isKx_last I Y hY)) $$ [HX]
  · iexact HX
  iintro HX
  iapply (ld_hold c B.vm (· = I.vm) _ _ (vmIn I) (fun X h => by subst h; rfl)) $$ [HVm]
  · iexact HVm
  iintro HVm
  iapply (st_hold c B.vt B.hvt _ (fun X => ∃ Y, isVt I 2048 Y ∧ X = upd rVtm (vmTile (vmIn I)) Y) _ _ _ _ _
    (fun X h => ⟨X, h, rfl⟩)) $$ [HT]
  · iexact HT
  iintro HT
  iapply (st_hold c B.vt B.hvt (fun X => ∃ Y, isVt I 2048 Y ∧ X = upd rVtm (vmTile (vmIn I)) Y) (isVtAll I) _ _ _ _ _ (fun X h => by
    obtain ⟨Y, hY, rfl⟩ := h; exact isVt_all I Y hY)) $$ [HT]
  · iexact HT
  iintro HT
  iapply (st_hold c (B.e false) B.he0 _ isZ _ _ _ _ _ (fun X _ => isZ_init X)) $$ [HE]
  · iexact HE
  iintro HE
  iapply (st_hold c (B.e true) B.he1 _ isZ _ _ _ _ _ (fun X _ => isZ_init X)) $$ [HE']
  · iexact HE'
  iintro HE'
  iapply Hk $$ [HK] [HV] [HKm] [HVm] [HX] [HT] [HE] [HE']
  · iexact HK
  · iexact HV
  · iexact HKm
  · iexact HVm
  · iexact HX
  · iexact HT
  · iexact HE
  · iexact HE'

/-- THE BODY: handed its operands, it returns them, the result's block at `outFull`. -/
theorem body_run (hi : hLd i = hSt i) (Q : PUnit → sProp 𝕄) :
    (hold c B.lam (· = I.lam) : sProp 𝕄) ⊢ iprop(hold c B.gain (· = I.gain) -∗ hold c B.q (· = I.q) -∗ hold c B.k (· = I.k) -∗
      hold c B.v (· = I.v) -∗ hold c B.km (· = I.km) -∗ hold c B.vm (· = I.vm) -∗ hold c B.out (fun _ => True) -∗
      hold c B.kx (fun _ => True) -∗ hold c B.vt (fun _ => True) -∗ hold c (B.s false) (fun _ => True) -∗ hold c (B.s true) (fun _ => True) -∗
      hold c (B.e false) (fun _ => True) -∗ hold c (B.e true) (fun _ => True) -∗
      (hold c B.lam (· = I.lam) -∗ hold c B.gain (· = I.gain) -∗ hold c B.q (· = I.q) -∗ hold c B.k (· = I.k) -∗
        hold c B.v (· = I.v) -∗ hold c B.km (· = I.km) -∗ hold c B.vm (· = I.vm) -∗ hold c B.out (· = outFull I) -∗
        hold c B.kx (fun _ => True) -∗ hold c B.vt (fun _ => True) -∗ hold c (B.s false) (fun _ => True) -∗ hold c (B.s true) (fun _ => True) -∗
        hold c (B.e false) (fun _ => True) -∗ hold c (B.e true) (fun _ => True) -∗ Q ⟨⟩) -∗
      WP c (body B i) Q) := by
  unfold body
  iintro HL HG HQ HK HV HKm HVm HO HX HT HS HS' HE HE' Hk
  iapply (prep_run c B I) $$ [HK] [HV] [HKm] [HVm] [HX] [HT] [HE] [HE']
  · iexact HK
  · iexact HV
  · iexact HKm
  · iexact HVm
  · iexact HX
  · iexact HT
  · iexact HE
  · iexact HE'
  iintro HK HV HKm HVm HX HT HE HE'
  iapply (ld_hold c B.lam (· = I.lam) _ _ (lamIn I) (fun X h => by subst h; rfl)) $$ [HL]
  · iexact HL
  iintro HL
  ihave HS := (hold_s0 c B I i 0 false _) $$ HS
  iapply (first_run c B I i 0 false) $$ [HX] [HQ] [HS]
  · iexact HX
  · iexact HQ
  · iexact HS
  iintro HX HQ HS
  ihave HO := (hold_mono c B.out _ (isOut I (0 : Fin 3).val) (fun X _ y h => absurd h (Nat.not_lt_zero _))) $$ HO
  iapply (pair_run c B I i hi 0) $$ [HX HQ HT HG HE HE'] [HS] [HS'] [HO]
  · unfold base
    isplitl [HX]; · iexact HX
    isplitl [HQ]; · iexact HQ
    isplitl [HT]; · iexact HT
    isplitl [HG]; · iexact HG
    isplitl [HE]; · iexact HE
    iexact HE'
  · iexact HS
  · iexact HS'
  · iexact HO
  iintro HB HS HS' HO
  iapply (pair_run c B I i hi 1) $$ [HB] [HS] [HS'] [HO]
  · iexact HB
  · iexact HS
  · iexact HS'
  · iexact HO
  iintro HB HS HS' HO
  iapply (pair_run c B I i hi 2) $$ [HB] [HS] [HS'] [HO]
  · iexact HB
  · iexact HS
  · iexact HS'
  · iexact HO
  iintro HB HS HS' HO
  iapply (lastPair_run c B I i hi) $$ [HB] [HS] [HS'] [HO]
  · iexact HB
  · iexact HS
  · iexact HS'
  · iexact HO
  iintro HB HS HS' HO
  unfold base
  icases HB with ⟨HX, HQ, HT, HG, HE, HE'⟩
  ihave HO := (hold_mono c B.out _ (· = outFull I) (fun X h => out_read I X h)) $$ HO
  ihave HX := (hold_mono c B.kx _ (fun _ => True) (fun X h => trivial)) $$ HX
  ihave HT := (hold_mono c B.vt _ (fun _ => True) (fun X h => trivial)) $$ HT
  ihave HE := (hold_mono c (B.e false) _ (fun _ => True) (fun X h => trivial)) $$ HE
  ihave HE' := (hold_mono c (B.e true) _ (fun _ => True) (fun X h => trivial)) $$ HE'
  ihave HQQ := Hk $$ [HL] [HG] [HQ] [HK] [HV] [HKm] [HVm] [HO] [HX] [HT] [HS] [HS'] [HE] [HE']
  · iexact HL
  · iexact HG
  · iexact HQ
  · iexact HK
  · iexact HV
  · iexact HKm
  · iexact HVm
  · iexact HO
  · iexact HX
  · iexact HT
  · iexact HS
  · iexact HS'
  · iexact HE
  · iexact HE'
  unfold WP
  sl_step
  iexact HQQ

end Cert.KernelIdeal.Hand

end
-- ==== Proof.Dats.lean ====
/-
  The call's run: the proof data of its one pipeline, the body's obligation from the body's run, and @main's run.
-/
module

public import proofs.«01_k».proof.Proof.BodyEq
public import proofs.«01_k».proof.Proof.Run
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks at point `t`. -/
def ins (c : Dev nD) (t : Fin cfg0.N) : Ins F where
  lam := iblk m c 0 t
  gain := iblk m c 1 t
  q := iblk m c 2 t
  k := iblk m c 3 t
  v := iblk m c 4 t
  km := iblk m c 5 t
  vm := iblk m c 6 t

/-- The proof data: every input block as fetched, the result's block `outFull` of them. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => outFull (ins m c t)
  Φ _ := Pipeline.ΦA spec0 c
  q w := Pipeline.shareOf spec0 w
  owed _ := 0

/-- The operands at point `t`. -/
def bufs (t : Fin cfg0.N) : Bufs where
  lam := win0_0.stage (cfg0.slots t 0)
  hlam := hstage0_0 ((cfg0.slots t 0).cast nbuf0_0)
  gain := win0_1.stage (cfg0.slots t 1)
  hgain := hstage0_1 ((cfg0.slots t 1).cast nbuf0_1)
  q := win0_2.stage (cfg0.slots t 2)
  hq := hstage0_2 ((cfg0.slots t 2).cast nbuf0_2)
  k := win0_3.stage (cfg0.slots t 3)
  hk := hstage0_3 ((cfg0.slots t 3).cast nbuf0_3)
  v := win0_4.stage (cfg0.slots t 4)
  hv := hstage0_4 ((cfg0.slots t 4).cast nbuf0_4)
  km := win0_5.stage (cfg0.slots t 5)
  hkm := hstage0_5 ((cfg0.slots t 5).cast nbuf0_5)
  vm := win0_6.stage (cfg0.slots t 6)
  hvm := hstage0_6 ((cfg0.slots t 6).cast nbuf0_6)
  out := win0_7.stage (cfg0.slots t 7)
  hout := hstage0_7 ((cfg0.slots t 7).cast nbuf0_7)
  kx := Memref.whole cc0_scratch0
  hkx := Memref.isWhole_whole _
  vt := Memref.whole cc0_scratch1
  hvt := Memref.isWhole_whole _
  s0 := Memref.whole cc0_scratch2
  hs0 := Memref.isWhole_whole _
  s1 := Memref.whole cc0_scratch3
  hs1 := Memref.isWhole_whole _
  e0 := Memref.whole cc0_scratch4
  he0 := Memref.isWhole_whole _
  e1 := Memref.whole cc0_scratch5
  he1 := Memref.isWhole_whole _

/-- A grid point's third coordinate is zero. -/
theorem coords_co (i : grid0.Coords) : ∃ (b : Fin 16) (h : Fin 8), i = co b h :=
  ⟨i 0, i 1, funext fun | 0 => rfl | 1 => rfl | 2 => Subsingleton.elim (α := Fin 1) _ _⟩

/-- The scores are read back from the half they were stored in. -/
theorem half_eq (b : Fin 16) (h : Fin 8) : hLd (co b h) = hSt (co b h) := by
  have : ∀ h : Fin 8, hLd (co 0 h) = hSt (co 0 h) := by decide +kernel
  exact this h

theorem bodyAt_eq (t : Fin cfg0.N) : bodyAt0 (F := F) t = body (bufs t) (grid0.coords t) ∧ hLd (grid0.coords t) = hSt (grid0.coords t) := by
  obtain ⟨b, h, hbh⟩ := coords_co (grid0.coords t)
  unfold bodyAt0
  rw [hbh]
  exact ⟨body_eq (bufs t) b h, half_eq b h⟩

/-- A whole scratch buffer at some contents is its memref held at any, and back. -/
theorem hold_whole (c : Dev nD) (b : Ref sig .tc) {e : EltTy} {s : Shape} (M : Memref sig .tc .vmem s e)
    (h : ∀ X : s.Idx → Elt F e, ∃ f : Buf (Elt F) ((c : Thread nD τ).loc b),
      (owns (c : Thread nD τ) M fullShare X : sProp 𝕄) = ((c : Thread nD τ).loc b) ↦{fullShare} f)
    (h' : ∀ f : Buf (Elt F) ((c : Thread nD τ).loc b), ∃ X : s.Idx → Elt F e,
      (owns (c : Thread nD τ) M fullShare X : sProp 𝕄) = ((c : Thread nD τ).loc b) ↦{fullShare} f) :
    (iprop(∃ f : Buf (Elt F) ((c : Thread nD τ).loc b), ((c : Thread nD τ).loc b) ↦{fullShare} f) : sProp 𝕄) ⊣⊢ hold c M (fun _ => True) := by
  unfold hold
  constructor
  · iintro ⟨%f, H⟩
    obtain ⟨X, hX⟩ := h' f
    iexists X
    isplitr
    · ipureintro; trivial
    rw [hX]
    iexact H
  · iintro ⟨%X, -, H⟩
    obtain ⟨f, hf⟩ := h X
    iexists f
    rw [← hf]
    iexact H

theorem own0 (c : Dev nD) : (iprop(∃ f : Buf (Elt F) ((c : Thread nD τ).loc cc0_scratch0), ((c : Thread nD τ).loc cc0_scratch0) ↦{fullShare} f) : sProp 𝕄)
    ⊣⊢ hold c (Memref.whole cc0_scratch0) (fun _ => True) :=
  hold_whole c cc0_scratch0 _ (fun X => ⟨X, owns_whole _ _ _ _⟩) fun f => ⟨f, owns_whole _ _ _ _⟩
theorem own1 (c : Dev nD) : (iprop(∃ f : Buf (Elt F) ((c : Thread nD τ).loc cc0_scratch1), ((c : Thread nD τ).loc cc0_scratch1) ↦{fullShare} f) : sProp 𝕄)
    ⊣⊢ hold c (Memref.whole cc0_scratch1) (fun _ => True) :=
  hold_whole c cc0_scratch1 _ (fun X => ⟨X, owns_whole _ _ _ _⟩) fun f => ⟨f, owns_whole _ _ _ _⟩
theorem own2 (c : Dev nD) : (iprop(∃ f : Buf (Elt F) ((c : Thread nD τ).loc cc0_scratch2), ((c : Thread nD τ).loc cc0_scratch2) ↦{fullShare} f) : sProp 𝕄)
    ⊣⊢ hold c (Memref.whole cc0_scratch2) (fun _ => True) :=
  hold_whole c cc0_scratch2 _ (fun X => ⟨X, owns_whole _ _ _ _⟩) fun f => ⟨f, owns_whole _ _ _ _⟩
theorem own3 (c : Dev nD) : (iprop(∃ f : Buf (Elt F) ((c : Thread nD τ).loc cc0_scratch3), ((c : Thread nD τ).loc cc0_scratch3) ↦{fullShare} f) : sProp 𝕄)
    ⊣⊢ hold c (Memref.whole cc0_scratch3) (fun _ => True) :=
  hold_whole c cc0_scratch3 _ (fun X => ⟨X, owns_whole _ _ _ _⟩) fun f => ⟨f, owns_whole _ _ _ _⟩
theorem own4 (c : Dev nD) : (iprop(∃ f : Buf (Elt F) ((c : Thread nD τ).loc cc0_scratch4), ((c : Thread nD τ).loc cc0_scratch4) ↦{fullShare} f) : sProp 𝕄)
    ⊣⊢ hold c (Memref.whole cc0_scratch4) (fun _ => True) :=
  hold_whole c cc0_scratch4 _ (fun X => ⟨X, owns_whole _ _ _ _⟩) fun f => ⟨f, owns_whole _ _ _ _⟩
theorem own5 (c : Dev nD) : (iprop(∃ f : Buf (Elt F) ((c : Thread nD τ).loc cc0_scratch5), ((c : Thread nD τ).loc cc0_scratch5) ↦{fullShare} f) : sProp 𝕄)
    ⊣⊢ hold c (Memref.whole cc0_scratch5) (fun _ => True) :=
  hold_whole c cc0_scratch5 _ (fun X => ⟨X, owns_whole _ _ _ _⟩) fun f => ⟨f, owns_whole _ _ _ _⟩

theorem back0 (c : Dev nD) (t : Fin cfg0.N) : (hold c (bufs t).kx (fun _ => True) : sProp 𝕄) ⊢
    iprop(∃ f : Buf (Elt F) ((c : Thread nD τ).loc cc0_scratch0), ((c : Thread nD τ).loc cc0_scratch0) ↦{fullShare} f) := (own0 c).2
theorem back1 (c : Dev nD) (t : Fin cfg0.N) : (hold c (bufs t).vt (fun _ => True) : sProp 𝕄) ⊢
    iprop(∃ f : Buf (Elt F) ((c : Thread nD τ).loc cc0_scratch1), ((c : Thread nD τ).loc cc0_scratch1) ↦{fullShare} f) := (own1 c).2
theorem back2 (c : Dev nD) (t : Fin cfg0.N) : (hold c ((bufs t).s false) (fun _ => True) : sProp 𝕄) ⊢
    iprop(∃ f : Buf (Elt F) ((c : Thread nD τ).loc cc0_scratch2), ((c : Thread nD τ).loc cc0_scratch2) ↦{fullShare} f) := (own2 c).2
theorem back3 (c : Dev nD) (t : Fin cfg0.N) : (hold c ((bufs t).s true) (fun _ => True) : sProp 𝕄) ⊢
    iprop(∃ f : Buf (Elt F) ((c : Thread nD τ).loc cc0_scratch3), ((c : Thread nD τ).loc cc0_scratch3) ↦{fullShare} f) := (own3 c).2
theorem back4 (c : Dev nD) (t : Fin cfg0.N) : (hold c ((bufs t).e false) (fun _ => True) : sProp 𝕄) ⊢
    iprop(∃ f : Buf (Elt F) ((c : Thread nD τ).loc cc0_scratch4), ((c : Thread nD τ).loc cc0_scratch4) ↦{fullShare} f) := (own4 c).2
theorem back5 (c : Dev nD) (t : Fin cfg0.N) : (hold c ((bufs t).e true) (fun _ => True) : sProp 𝕄) ⊢
    iprop(∃ f : Buf (Elt F) ((c : Thread nD τ).loc cc0_scratch5), ((c : Thread nD τ).loc cc0_scratch5) ↦{fullShare} f) := (own5 c).2

theorem hold_eq {s : Shape} {e : EltTy} (c : Dev nD) (M : Memref sig .tc .vmem s e) (X : s.Idx → Elt F e) :
    (owns (c : Thread nD τ) M fullShare X : sProp 𝕄) ⊣⊢ hold c M (· = X) := by
  constructor
  · exact hold_intro c M _ X rfl
  · unfold hold
    iintro ⟨%Y, %hY, H⟩
    subst hY
    iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem bef0 (c : Dev nD) (t : Fin cfg0.N) (d) : (dats m 0 c).before 0 t d = iblk m c 0 t :=
  before0_0_of m (dats m 0 c) rfl (fun _ => rfl) t d
theorem bef1 (c : Dev nD) (t : Fin cfg0.N) (d) : (dats m 0 c).before 1 t d = iblk m c 1 t :=
  before0_1_of m (dats m 0 c) rfl (fun _ => rfl) t d
theorem bef2 (c : Dev nD) (t : Fin cfg0.N) (d) : (dats m 0 c).before 2 t d = iblk m c 2 t :=
  before0_2_of m (dats m 0 c) rfl (fun _ => rfl) t d
theorem bef3 (c : Dev nD) (t : Fin cfg0.N) (d) : (dats m 0 c).before 3 t d = iblk m c 3 t :=
  before0_3_of m (dats m 0 c) rfl (fun _ => rfl) t d
theorem bef4 (c : Dev nD) (t : Fin cfg0.N) (d) : (dats m 0 c).before 4 t d = iblk m c 4 t :=
  before0_4_of m (dats m 0 c) rfl (fun _ => rfl) t d
theorem bef5 (c : Dev nD) (t : Fin cfg0.N) (d) : (dats m 0 c).before 5 t d = iblk m c 5 t :=
  before0_5_of m (dats m 0 c) rfl (fun _ => rfl) t d
theorem bef6 (c : Dev nD) (t : Fin cfg0.N) (d) : (dats m 0 c).before 6 t d = iblk m c 6 t :=
  before0_6_of m (dats m 0 c) rfl (fun _ => rfl) t d

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, (bodyAt_eq t).1]
  unfold Pipeline.ΦA
  rw [scopedRest0_eq]
  simp only [bef0, bef1, bef2, bef3, bef4, bef5, bef6]
  iintro ⟨⟨⟨HX, HT, HS, HS', HE, HE'⟩, Hr⟩, HW, ⟨%_, HL⟩, ⟨%_, HG⟩, ⟨%_, HQ⟩, ⟨%_, HK⟩, ⟨%_, HV⟩, ⟨%_, HKm⟩, ⟨%_, HVm⟩, ⟨%_, HO⟩⟩
  iapply (body_run c (bufs t) (ins m c t) (grid0.coords t) (bodyAt_eq (F := F) t).2 _) $$ [HL] [HG] [HQ] [HK] [HV] [HKm] [HVm] [HO] [HX] [HT] [HS] [HS'] [HE] [HE']
  · iapply (hold_eq c _ _).1 $$ HL
  · iapply (hold_eq c _ _).1 $$ HG
  · iapply (hold_eq c _ _).1 $$ HQ
  · iapply (hold_eq c _ _).1 $$ HK
  · iapply (hold_eq c _ _).1 $$ HV
  · iapply (hold_eq c _ _).1 $$ HKm
  · iapply (hold_eq c _ _).1 $$ HVm
  · iapply (hold_intro c _ (fun _ => True) _ trivial) $$ HO
  · iapply (own0 c).1 $$ HX
  · iapply (own1 c).1 $$ HT
  · iapply (own2 c).1 $$ HS
  · iapply (own3 c).1 $$ HS'
  · iapply (own4 c).1 $$ HE
  · iapply (own5 c).1 $$ HE'
  iintro HL HG HQ HK HV HKm HVm HO HX HT HS HS' HE HE'
  isplitl [HX HT HS HS' HE HE' Hr]
  · isplitl [HX HT HS HS' HE HE']
    · isplitl [HX]; · iapply (back0 c t) $$ HX
      isplitl [HT]; · iapply (back1 c t) $$ HT
      isplitl [HS]; · iapply (back2 c t) $$ HS
      isplitl [HS']; · iapply (back3 c t) $$ HS'
      isplitl [HE]; · iapply (back4 c t) $$ HE
      iapply (back5 c t) $$ HE'
    iexact Hr
  isplitl [HW]; · iexact HW
  isplitl [HL]; · iapply (hold_eq c _ _).2 $$ HL
  isplitl [HG]; · iapply (hold_eq c _ _).2 $$ HG
  isplitl [HQ]; · iapply (hold_eq c _ _).2 $$ HQ
  isplitl [HK]; · iapply (hold_eq c _ _).2 $$ HK
  isplitl [HV]; · iapply (hold_eq c _ _).2 $$ HV
  isplitl [HKm]; · iapply (hold_eq c _ _).2 $$ HKm
  isplitl [HVm]; · iapply (hold_eq c _ _).2 $$ HVm
  iapply (hold_eq c _ _).2 $$ HO

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- @main's run, from any memory. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl) (howed := fun _ _ => rfl) (V := V m) (hmain := hmain m Variants.none)
    (hA := fun _ _ => rfl) (hΦ := fun _ _ => rfl)

end Cert.KernelIdeal.Hand

end
-- ==== Proof.Frames.lean ====
/-
  The runs' frames: every argument array ends unchanged and every semaphore counter ends at zero, for the kernel at
  any number type, and for the reference.
-/
module

public import proofs.«01_k».proof.Defs
public import proofs.«01_k».proof.Proof.Gen.Kernel
public import proofs.«01_k».proof.Proof.Gen.ReferenceIdeal.Run
public import proofs.«01_k».proof.Proof.Dats
public import Idealize.ShloMosaic.Lib.Claim
public import Idealize.ShloMosaic.Lib.Pipeline.Regions

@[expose] public section

set_option maxRecDepth 16384

noncomputable section

namespace Cert.Proof

open Idealize.ShloMosaic Idealize.ShloMosaic.TcCoe Idealize.SL.Sem

section
open Cert.KernelIdeal Cert.KernelIdeal.Gen Cert.KernelIdeal.Hand

variable {F : FTy → Type} [FloatOps F]

/-- The kernel's run with the argument arrays and the counters read off. -/
theorem run_args (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_main m ρ)

end

theorem frame_ideal : Cert.quiescent_KernelIdeal := fun m ρ _ => run_args (F := Ideal) m ρ

theorem frame_ideal_pre [Cert.Pre_finite.Facts] : Cert.quiescent_KernelIdeal_pre_finite := fun m ρ _ => run_args (F := Ideal) m ρ

/-- The printed kernel and the one read at any number type are one program. -/
theorem run_eq (m : (ℓ : Loc Cert.Kernel.nD Cert.Kernel.τ Cert.Kernel.sig) → Buf (Elt Bits) ℓ) (g : Dev Cert.Kernel.nD → PrngReg) (Q) :
    θ_run (Cert.Kernel.defs (F := Bits)) (onTc (τ := Cert.Kernel.τ) (Cert.Kernel.main (F := Bits))) ⟨m, fun _ => 0, g⟩ Q
      = θ_run (Cert.KernelIdeal.defs (F := Bits)) (onTc (τ := Cert.KernelIdeal.τ) (Cert.KernelIdeal.main (F := Bits))) ⟨m, fun _ => 0, g⟩ Q := by
  chain_rfl

theorem frame_kernel : Cert.quiescent_Kernel := fun m ρ _ =>
  (run_eq m ρ _).mpr (run_args (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre [Cert.Pre_finite.Facts] : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem pre_facts : Cert.Pre_finite.Facts := ⟨by decide, by decide, by decide, by decide, by decide⟩

end Cert.Proof

end
-- ==== Proof.HostAt.lean ====
/-
  What the host hands the call, over the extended reals, each array read at an index.
-/
module

public import proofs.«01_k».proof.Proof.Gen.KernelIdeal.Frame
public import Idealize.ShloMosaic.Lib.Pointwise
public import Idealize.ShloMosaic.Lib.Claim
public import Idealize.ShloMosaic.Lib.StableHlo.RunRead
public import Idealize.ShloMosaic.Lib.Pipeline.ValueKit
public import Idealize.ShloMosaic.Lib.Tactic.CleanTypes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The factor the queries are scaled by. -/
def hostScale : FVec Ideal S_ .f32 := Host.divf (constant S_ .f32 0x3E000000#32) (Host.log (constant S_ .f32 0x40000000#32))
def hostQ (a5 : FVec Ideal S16x2048x8x2x64 .f32) : FVec Ideal S16x2048x1024 .f32 :=
  mulf (shapeCast S16x2048x1024 a5 shapeCasts_S16x2048x8x2x64_S16x2048x1024) (broadcastInDim S16x2048x1024 ![] bcast_S_S16x2048x1024 hostScale)
def hostK (a6 : FVec Ideal S16x2048x8x2x64 .f32) : FVec Ideal S16x2048x1024 .f32 := shapeCast S16x2048x1024 a6 shapeCasts_S16x2048x8x2x64_S16x2048x1024
def hostV (a7 : FVec Ideal S16x2048x8x128 .f32) : FVec Ideal S16x2048x1024 .f32 := shapeCast S16x2048x1024 a7 shapeCasts_S16x2048x8x128_S16x2048x1024
def zerosA : FVec Ideal S16x2048x1024 .f32 := broadcastInDim S16x2048x1024 ![] bcast_S_S16x2048x1024 (constant S_ .f32 0x00000000#32)
def zerosB : FVec Ideal S16x2048x2560 .f32 := broadcastInDim S16x2048x2560 ![] bcast_S_S16x2048x2560 (constant S_ .f32 0x00000000#32)
def join5 (z q k v : FVec Ideal S16x2048x1024 .f32) (y : FVec Ideal S16x2048x2560 .f32) : FVec Ideal S16x2048x6656 .bf16 :=
  truncf .bf16 (concatenate S16x2048x6656 2 [⟨S16x2048x1024, z⟩, ⟨S16x2048x1024, q⟩, ⟨S16x2048x1024, k⟩, ⟨S16x2048x1024, v⟩, ⟨S16x2048x2560, y⟩]
    concatenates_S16x2048x1024_S16x2048x1024_S16x2048x1024_S16x2048x1024_S16x2048x2560_S16x2048x6656_d2 : FVec Ideal S16x2048x6656 .f32) bitsLt_bf16_f32

def metaK (a8 : FVec Ideal S16x8x2x64 .f32) : FVec Ideal S16x1024 .f32 := shapeCast S16x1024 a8 shapeCasts_S16x8x2x64_S16x1024
def metaV (a9 : FVec Ideal S16x8x128 .f32) : FVec Ideal S16x1024 .f32 := shapeCast S16x1024 a9 shapeCasts_S16x8x128_S16x1024
def zerosC : FVec Ideal S16x1024 .f32 := broadcastInDim S16x1024 ![] bcast_S_S16x1024 (constant S_ .f32 0x00000000#32)
def zerosD : FVec Ideal S16x2560 .f32 := broadcastInDim S16x2560 ![] bcast_S_S16x2560 (constant S_ .f32 0x00000000#32)
def zerosE : FVec Ideal S112x6656 .bf16 := broadcastInDim S112x6656 ![] bcast_S_S112x6656 (constant S_ .bf16 0x0000#16)
def joinM (z q k v : FVec Ideal S16x1024 .f32) (y : FVec Ideal S16x2560 .f32) : FVec Ideal S16x6656 .bf16 :=
  truncf .bf16 (concatenate S16x6656 1 [⟨S16x1024, z⟩, ⟨S16x1024, q⟩, ⟨S16x1024, k⟩, ⟨S16x1024, v⟩, ⟨S16x2560, y⟩]
    concatenates_S16x1024_S16x1024_S16x1024_S16x1024_S16x2560_S16x6656_d1 : FVec Ideal S16x6656 .f32) bitsLt_bf16_f32
def lead (z : FVec Ideal S112x6656 .bf16) (w : FVec Ideal S16x6656 .bf16) : FVec Ideal S128x6656 .bf16 :=
  concatenate S128x6656 0 [⟨S112x6656, z⟩, ⟨S16x6656, w⟩] concatenates_S112x6656_S16x6656_S128x6656_d0
def lam4 (a0 a1 a2 a3 : FVec Ideal S64 .f32) : FVec Ideal S4x64 .f32 :=
  concatenate S4x64 0 [⟨S1x64, broadcastInDim S1x64 ![1] bcast_S64_S1x64_1 a0⟩, ⟨S1x64, broadcastInDim S1x64 ![1] bcast_S64_S1x64_1 a1⟩,
    ⟨S1x64, broadcastInDim S1x64 ![1] bcast_S64_S1x64_1 a2⟩, ⟨S1x64, broadcastInDim S1x64 ![1] bcast_S64_S1x64_1 a3⟩] concatenates_S1x64_S1x64_S1x64_S1x64_S4x64_d0

/-! ## At an index -/

theorem hostQ_at (a5 : FVec Ideal S16x2048x8x2x64 .f32) (b : Fin 16) (i : Fin 2048) (h : Fin 8) (s : Fin 2) (x : Fin 64) :
    hostQ a5 (ix3 b i ⟨128 * h.val + 64 * s.val + x.val, by omega⟩) = a5 (ix5 b i h s x) * hostScale ix0 := by
  unfold hostQ
  generalize hostScale = g
  pointwise
  all_goals blk_ext
theorem hostK_at (a6 : FVec Ideal S16x2048x8x2x64 .f32) (b : Fin 16) (i : Fin 2048) (h : Fin 8) (s : Fin 2) (x : Fin 64) :
    hostK a6 (ix3 b i ⟨128 * h.val + 64 * s.val + x.val, by omega⟩) = a6 (ix5 b i h s x) := by
  unfold hostK
  pointwise
  all_goals blk_ext
theorem hostV_at (a7 : FVec Ideal S16x2048x8x128 .f32) (b : Fin 16) (i : Fin 2048) (h : Fin 8) (d : Fin 128) :
    hostV a7 (ix3 b i ⟨128 * h.val + d.val, by omega⟩) = a7 (ix4 b i h d) := by
  unfold hostV
  pointwise
  all_goals blk_ext
theorem metaK_at (a8 : FVec Ideal S16x8x2x64 .f32) (r : Fin 16) (h : Fin 8) (s : Fin 2) (x : Fin 64) :
    metaK a8 (ix2 r ⟨128 * h.val + 64 * s.val + x.val, by omega⟩) = a8 (ix4 r h s x) := by
  unfold metaK
  pointwise
  all_goals blk_ext
theorem metaV_at (a9 : FVec Ideal S16x8x128 .f32) (r : Fin 16) (h : Fin 8) (d : Fin 128) :
    metaV a9 (ix2 r ⟨128 * h.val + d.val, by omega⟩) = a9 (ix3 r h d) := by
  unfold metaV
  pointwise
  all_goals blk_ext
theorem join5_q (z q k v y) (b : Fin 16) (i : Fin 2048) (c : Fin 1024) : join5 z q k v y (ix3 b i ⟨1024 + c.val, by omega⟩) = q (ix3 b i c) := by
  pointwise [join5]
theorem join5_k (z q k v y) (b : Fin 16) (i : Fin 2048) (c : Fin 1024) : join5 z q k v y (ix3 b i ⟨2048 + c.val, by omega⟩) = k (ix3 b i c) := by
  pointwise [join5]
  rw [dif_neg (by omega), dif_neg (by omega), dif_pos (by omega)]
  blk_ext
theorem join5_v (z q k v y) (b : Fin 16) (i : Fin 2048) (c : Fin 1024) : join5 z q k v y (ix3 b i ⟨3072 + c.val, by omega⟩) = v (ix3 b i c) := by
  pointwise [join5]
  rw [dif_neg (by omega), dif_neg (by omega), dif_neg (by omega), dif_pos (by omega)]
  blk_ext
theorem joinM_k (z q k v y) (r : Fin 16) (c : Fin 1024) : joinM z q k v y (ix2 r ⟨2048 + c.val, by omega⟩) = k (ix2 r c) := by
  pointwise [joinM]
  rw [dif_neg (by omega), dif_neg (by omega), dif_pos (by omega)]
  blk_ext
theorem joinM_v (z q k v y) (r : Fin 16) (c : Fin 1024) : joinM z q k v y (ix2 r ⟨3072 + c.val, by omega⟩) = v (ix2 r c) := by
  pointwise [joinM]
  rw [dif_neg (by omega), dif_neg (by omega), dif_neg (by omega), dif_pos (by omega)]
  blk_ext
theorem lead_at (z w) (r : Fin 16) (c : Fin 6656) : lead z w (ix2 ⟨112 + r.val, by omega⟩ c) = w (ix2 r c) := by
  pointwise [lead]
  all_goals (rw [dif_neg (by omega)]; blk_ext)
theorem lam4_0 (a0 a1 a2 a3 : FVec Ideal S64 .f32) (x : Fin 64) : lam4 a0 a1 a2 a3 (ix2 0 x) = a0 (ix1 x) := by
  pointwise [lam4]
theorem lam4_1 (a0 a1 a2 a3 : FVec Ideal S64 .f32) (x : Fin 64) : lam4 a0 a1 a2 a3 (ix2 1 x) = a1 (ix1 x) := by
  pointwise [lam4]
theorem lam4_2 (a0 a1 a2 a3 : FVec Ideal S64 .f32) (x : Fin 64) : lam4 a0 a1 a2 a3 (ix2 2 x) = a2 (ix1 x) := by
  pointwise [lam4]
theorem lam4_3 (a0 a1 a2 a3 : FVec Ideal S64 .f32) (x : Fin 64) : lam4 a0 a1 a2 a3 (ix2 3 x) = a3 (ix1 x) := by
  pointwise [lam4]

/-! ## The arrays -/

variable (m : (ℓ : Loc nD τ sig) → Buf (Elt Ideal) ℓ) (c : Dev nD)

set_option maxHeartbeats 0 in
theorem V_lam : V m c main_v6 = lam4 (m ((c : Thread nD τ).loc main_arg0)) (m ((c : Thread nD τ).loc main_arg1)) (m ((c : Thread nD τ).loc main_arg2))
    (m ((c : Thread nD τ).loc main_arg3)) := by
  show StableHlo.after hostOps0 _ _ = _
  after_reads_simp
  rfl
set_option maxHeartbeats 0 in
theorem V_proj : V m c main_v15 = join5 zerosA (hostQ (m ((c : Thread nD τ).loc main_arg5))) (hostK (m ((c : Thread nD τ).loc main_arg6)))
    (hostV (m ((c : Thread nD τ).loc main_arg7))) zerosB := by
  show StableHlo.after hostOps0 _ _ = _
  after_reads_simp
  rfl
set_option maxHeartbeats 0 in
theorem V_lead : V m c main_v24 = lead zerosE (joinM zerosC zerosC (metaK (m ((c : Thread nD τ).loc main_arg8))) (metaV (m ((c : Thread nD τ).loc main_arg9))) zerosD) := by
  show StableHlo.after hostOps0 _ _ = _
  after_reads_simp
  rfl
set_option maxHeartbeats 0 in
theorem V_gain (d : Fin 128) : V m c main_v25 (ix2 0 d) = m ((c : Thread nD τ).loc main_arg4) (ix1 d) := by
  show StableHlo.after hostOps0 _ _ _ = _
  after_reads_simp
  pointwise

end Cert.KernelIdeal.Hand
-- ==== Proof.KAt.lean ====
/-
  The kernel's tiles over the extended reals, each read at an index.
-/
module

public import proofs.«01_k».proof.Proof.Facts
public import Idealize.ShloMosaic.Lib.Pointwise
public import Idealize.ShloMosaic.Lib.Tactic.CleanTypes

@[expose] public section

set_option maxRecDepth 16384

noncomputable section

namespace Cert.KernelIdeal.Hand

open Cert.KernelIdeal Cert.KernelIdeal.Gen
open Idealize.ShloMosaic Idealize.ShloMosaic.TcCoe

theorem mk2_eq {n m : Nat} (a : Fin n) (b : Fin m) : mk2 a b = ix2 a b := funext fun | 0 => rfl | 1 => rfl
theorem mk3_eq {l n m : Nat} (a : Fin l) (b : Fin n) (c : Fin m) : mk3 a b c = ix3 a b c := funext fun | 0 => rfl | 1 => rfl | 2 => rfl

theorem slt_64 : ∀ n : Fin 128, IntOp.cmpi .slt (BitVec.ofNat 32 n.val) 64#32 = if n.val < 64 then 1#1 else 0#1 := by
  decide +kernel

theorem kMask_at (r : Fin 512) (l : Fin 128) : kMask (ix2 r l) = if l.val < 64 then 1#1 else 0#1 := by
  rw [← slt_64 l]
  pointwise [kMask, loMask]

theorem kMask16_at (r : Fin 16) (l : Fin 128) : kMask16 (ix2 r l) = if l.val < 64 then 1#1 else 0#1 := by
  rw [← slt_64 l]
  pointwise [kMask16, loMask]

/-- The half of the columns a map has. -/
def half (mp : Bool) (l : Fin 128) : Prop := match mp with | false => l.val < 64 | true => ¬ l.val < 64
instance (mp : Bool) (l : Fin 128) : Decidable (half mp l) := by cases mp <;> (unfold half; infer_instance)

theorem kTile_at (mp : Bool) (x : FVec Ideal S1x512x128 .bf16) (r : Fin 512) (l : Fin 128) :
    kTile mp x (ix3 0 r l) = if half mp l then x (ix3 0 r l) else 0 := by
  have hm := kMask_at r l
  unfold kTile
  generalize kMask = M at hm
  cases mp
  · have : (shapeCast S1x512x128 (select M (shapeCast S512x128 x shapeCasts_S1x512x128_S512x128) (broadcast S512x128 (Scalar.ofBits .bf16 0x0000#16))) shapeCasts_S512x128_S1x512x128 : FVec Ideal S1x512x128 .bf16) (ix3 0 r l) = Scalar.select (M (ix2 r l)) (x (ix3 0 r l)) 0 := by pointwise
    refine this.trans ?_
    rw [hm]
    by_cases h : l.val < 64
    · rw [if_pos h]; exact (if_pos h).symm
    · rw [if_neg h]; exact (if_neg h).symm
  · have : (shapeCast S1x512x128 (select M (broadcast S512x128 (Scalar.ofBits .bf16 0x0000#16)) (shapeCast S512x128 x shapeCasts_S1x512x128_S512x128)) shapeCasts_S512x128_S1x512x128 : FVec Ideal S1x512x128 .bf16) (ix3 0 r l) = Scalar.select (M (ix2 r l)) 0 (x (ix3 0 r l)) := by pointwise
    refine this.trans ?_
    rw [hm]
    by_cases h : l.val < 64
    · rw [if_pos h]; exact (if_neg (fun h' => h' h)).symm
    · rw [if_neg h]; exact (if_pos h).symm

theorem kmTile_at (mp : Bool) (x : FVec Ideal S16x128 .bf16) (r : Fin 16) (l : Fin 128) :
    kmTile mp x (ix3 0 r l) = if half mp l then x (ix2 r l) else 0 := by
  have hm := kMask16_at r l
  unfold kmTile
  generalize kMask16 = M at hm
  cases mp
  · have : (shapeCast S1x16x128 (select M (shapeCast S16x128 x shapeCasts_S16x128_S16x128) (broadcast S16x128 (Scalar.ofBits .bf16 0x0000#16))) shapeCasts_S16x128_S1x16x128 : FVec Ideal S1x16x128 .bf16) (ix3 0 r l) = Scalar.select (M (ix2 r l)) (x (ix2 r l)) 0 := by pointwise
    refine this.trans ?_
    rw [hm]
    by_cases h : l.val < 64
    · rw [if_pos h]; exact (if_pos h).symm
    · rw [if_neg h]; exact (if_neg h).symm
  · have : (shapeCast S1x16x128 (select M (broadcast S16x128 (Scalar.ofBits .bf16 0x0000#16)) (shapeCast S16x128 x shapeCasts_S16x128_S16x128)) shapeCasts_S16x128_S1x16x128 : FVec Ideal S1x16x128 .bf16) (ix3 0 r l) = Scalar.select (M (ix2 r l)) 0 (x (ix2 r l)) := by pointwise
    refine this.trans ?_
    rw [hm]
    by_cases h : l.val < 64
    · rw [if_pos h]; exact (if_neg (fun h' => h' h)).symm
    · rw [if_neg h]; exact (if_pos h).symm

theorem vTile_at (x : FVec Ideal S1x256x128 .bf16) (d : Fin 128) (r : Fin 256) : vTile x (ix2 d r) = x (ix3 0 r d) := by
  pointwise [vTile]
theorem vmTile_at (x : FVec Ideal S128x128 .bf16) (d : Fin 128) (r : Fin 128) : vmTile x (ix2 d r) = x (ix2 r d) := by
  pointwise [vmTile]

theorem sTile_at (a b : FVec Ideal S1x512x128 .bf16) (r c : Fin 512) : sTile a b (ix2 r c) = ∑ l, a (ix3 0 r l) * b (ix3 0 c l) := by
  pointwise [sTile]
theorem sTile4_at (a : FVec Ideal S1x528x128 .bf16) (b : FVec Ideal S1x512x128 .bf16) (r : Fin 528) (c : Fin 512) :
    sTile4 a b (ix2 r c) = ∑ l, a (ix3 0 r l) * b (ix3 0 c l) := by
  pointwise [sTile4]

theorem eTile_at (mx : FVec Ideal S16x512 .f32) (x : FVec Ideal S1x16x512 .f32) (a : Fin 16) (c : Fin 512) :
    eTile mx x (ix2 a c) = Ideal.exp2 (x (ix3 0 a c) - mx (ix2 a c)) := by
  pointwise [eTile]
  rfl

theorem oTile_at (v : FVec Ideal S144x2176 .bf16) (x : FVec Ideal S2176x512 .bf16) (e : Fin 144) (c : Fin 512) :
    oTile v x (ix2 e c) = ∑ r, v (ix2 e r) * x (ix2 r c) := by
  pointwise [oTile]

theorem lamTile_at (x : FVec Ideal S4x64 .f32) : lamTile x (ix2 0 0) =
    Ideal.exp (∑ l, x (ix2 0 l) * x (ix2 1 l)) - Ideal.exp (∑ l, x (ix2 2 l) * x (ix2 3 l)) + Ideal.ofBits .f32 0x3E4CCCCD#32 := by
  pointwise [lamTile]

theorem diffTile_at (lam : FVec Ideal S1x1 .f32) (o1 o2 : FVec Ideal S144x512 .f32) (c : Fin 512) (d : Fin 128) :
    diffTile lam o1 o2 (ix2 c d) = o1 (ix2 ⟨d.val, by omega⟩ c) * Ideal.div 1 (o1 (ix2 ⟨128, by omega⟩ c))
      - o2 (ix2 ⟨d.val, by omega⟩ c) * Ideal.div (lam (ix2 0 0)) (o2 (ix2 ⟨128, by omega⟩ c)) := by
  pointwise [diffTile]

theorem finTile_at (g : FVec Ideal S1x128 .f32) (o : FVec Ideal S512x128 .f32) (c : Fin 512) (d : Fin 128) :
    finTile g o (ix3 0 c d) = o (ix2 c d) * Ideal.rsqrt (Ideal.div (∑ x, o (ix2 c x) * o (ix2 c x)) (Ideal.ofBits .f32 0x43000000#32)
      + Ideal.ofBits .f32 0x358637BD#32) * g (ix2 0 d) * Ideal.ofBits .f32 0x3F4CCCCD#32 := by
  pointwise [finTile]

/-! ## The maximum -/

theorem piece_at (t : FVec Ideal S512x512 .f32) (n : Nat) (x : Fin 8) (c : Fin 512) :
    piece t n (ix2 x c) = t (ix2 ⟨8 * (n % 64) + x.val, by omega⟩ c) := by
  unfold piece
  refine congrArg t (funext fun a => Fin.ext ?_)
  match a with
  | 0 => rfl
  | 1 => exact Nat.zero_add _
theorem piece4_at (t : FVec Ideal S528x512 .f32) (n : Nat) (x : Fin 8) (c : Fin 512) :
    piece4 t n (ix2 x c) = t (ix2 ⟨8 * (n % 66) + x.val, by omega⟩ c) := by
  unfold piece4
  refine congrArg t (funext fun a => Fin.ext ?_)
  match a with
  | 0 => rfl
  | 1 => exact Nat.zero_add _

theorem maxes_le (f : Nat → FVec Ideal S8x512 .f32) (a : FVec Ideal S8x512 .f32) (j : S8x512.Idx) (B : EReal) (n : Nat) :
    maxes f a n j ≤ B ↔ a j ≤ B ∧ ∀ m < n, f m j ≤ B := by
  induction n with
  | zero => exact ⟨fun h => ⟨h, fun m hm => absurd hm (Nat.not_lt_zero m)⟩, fun h => h.1⟩
  | succ n ih =>
    show max (maxes f a n j : EReal) (f n j) ≤ B ↔ _
    rw [max_le_iff, ih]
    constructor
    · rintro ⟨⟨h0, h1⟩, h2⟩
      refine ⟨h0, fun m hm => ?_⟩
      rcases Nat.lt_succ_iff_lt_or_eq.mp hm with h | rfl
      · exact h1 m h
      · exact h2
    · rintro ⟨h0, h1⟩
      exact ⟨⟨h0, fun m hm => h1 m (by omega)⟩, h1 n (by omega)⟩

theorem ofBits_bot : Ideal.ofBits .f32 0xFF800000#32 = (⊥ : EReal) := by simp [Ideal.ofBits, Ideal.ieee]

theorem fold_le {n : ℕ} (f : Fin n → EReal) (B : EReal) : Finset.fold max (Ideal.ofBits .f32 0xFF800000#32) f Finset.univ ≤ B ↔ ∀ x, f x ≤ B := by
  rw [ofBits_bot, Finset.fold_max_le]
  exact ⟨fun h x => h.2 x (Finset.mem_univ x), fun h => ⟨bot_le, fun x _ => h x⟩⟩

variable (t0 t1 t2 : FVec Ideal S512x512 .f32) (t3 : FVec Ideal S528x512 .f32)

theorem accMax_le (o : Nat) (j : S8x512.Idx) (B : EReal) : accMax o t0 t1 t2 t3 j ≤ B ↔
    (∀ n < 32, piece t0 (2 * n + o) j ≤ B) ∧ (∀ n < 32, piece t1 (2 * n + o) j ≤ B) ∧ (∀ n < 32, piece t2 (2 * n + o) j ≤ B) ∧
      ∀ n < 33, piece4 t3 (2 * n + o) j ≤ B := by
  unfold accMax
  rw [maxes_le, maxes_le, maxes_le, maxes_le]
  constructor
  · rintro ⟨⟨⟨⟨h, h0⟩, h1⟩, h2⟩, h3⟩
    refine ⟨fun n hn => ?_, h1, h2, h3⟩
    cases n with
    | zero => rw [Nat.mul_zero, Nat.zero_add]; exact h
    | succ n => exact h0 n (by omega)
  · rintro ⟨h0, h1, h2, h3⟩
    refine ⟨⟨⟨⟨?_, fun n hn => h0 (n + 1) (by omega)⟩, h1⟩, h2⟩, h3⟩
    have := h0 0 (by omega)
    rwa [Nat.mul_zero, Nat.zero_add] at this

theorem colMax_at (a : Fin 16) (c : Fin 512) : colMax t0 t1 t2 t3 (ix2 a c) =
    Finset.fold max (Ideal.ofBits .f32 0xFF800000#32) (fun x => max (accMax 0 t0 t1 t2 t3 (ix2 x c) : EReal) (accMax 1 t0 t1 t2 t3 (ix2 x c))) Finset.univ := by
  unfold colMax
  generalize accMax 0 t0 t1 t2 t3 = u
  generalize accMax 1 t0 t1 t2 t3 = w
  pointwise

theorem colMax_le (a : Fin 16) (c : Fin 512) (B : EReal) : colMax t0 t1 t2 t3 (ix2 a c) ≤ B ↔
    (∀ r, t0 (ix2 r c) ≤ B) ∧ (∀ r, t1 (ix2 r c) ≤ B) ∧ (∀ r, t2 (ix2 r c) ≤ B) ∧ ∀ r, t3 (ix2 r c) ≤ B := by
  rw [colMax_at, fold_le]
  simp only [max_le_iff, accMax_le, piece_at, piece4_at]
  have key : ∀ t : FVec Ideal S512x512 .f32, (∀ x : Fin 8, (∀ n < 32, t (ix2 ⟨8 * ((2 * n + 0) % 64) + x.val, by omega⟩ c) ≤ B) ∧
      ∀ n < 32, t (ix2 ⟨8 * ((2 * n + 1) % 64) + x.val, by omega⟩ c) ≤ B) → ∀ r, t (ix2 r c) ≤ B := by
    intro t h r
    rcases Nat.mod_two_eq_zero_or_one (r.val / 8) with hp | hp
    · have := (h ⟨r.val % 8, by omega⟩).1 (r.val / 16) (by omega)
      have e : (⟨8 * ((2 * (r.val / 16) + 0) % 64) + r.val % 8, by omega⟩ : Fin 512) = r := Fin.ext (by show 8 * ((2 * (r.val / 16) + 0) % 64) + r.val % 8 = r.val; omega)
      rwa [e] at this
    · have := (h ⟨r.val % 8, by omega⟩).2 (r.val / 16) (by omega)
      have e : (⟨8 * ((2 * (r.val / 16) + 1) % 64) + r.val % 8, by omega⟩ : Fin 512) = r := Fin.ext (by show 8 * ((2 * (r.val / 16) + 1) % 64) + r.val % 8 = r.val; omega)
      rwa [e] at this
  have key4 : ∀ t : FVec Ideal S528x512 .f32, (∀ x : Fin 8, (∀ n < 33, t (ix2 ⟨8 * ((2 * n + 0) % 66) + x.val, by omega⟩ c) ≤ B) ∧
      ∀ n < 33, t (ix2 ⟨8 * ((2 * n + 1) % 66) + x.val, by omega⟩ c) ≤ B) → ∀ r, t (ix2 r c) ≤ B := by
    intro t h r
    rcases Nat.mod_two_eq_zero_or_one (r.val / 8) with hp | hp
    · have := (h ⟨r.val % 8, by omega⟩).1 (r.val / 16) (by omega)
      have e : (⟨8 * ((2 * (r.val / 16) + 0) % 66) + r.val % 8, by omega⟩ : Fin 528) = r := Fin.ext (by show 8 * ((2 * (r.val / 16) + 0) % 66) + r.val % 8 = r.val; omega)
      rwa [e] at this
    · have := (h ⟨r.val % 8, by omega⟩).2 (r.val / 16) (by omega)
      have e : (⟨8 * ((2 * (r.val / 16) + 1) % 66) + r.val % 8, by omega⟩ : Fin 528) = r := Fin.ext (by show 8 * ((2 * (r.val / 16) + 1) % 66) + r.val % 8 = r.val; omega)
      rwa [e] at this
  constructor
  · intro h
    exact ⟨key t0 fun x => ⟨(h x).1.1, (h x).2.1⟩, key t1 fun x => ⟨(h x).1.2.1, (h x).2.2.1⟩, key t2 fun x => ⟨(h x).1.2.2.1, (h x).2.2.2.1⟩,
      key4 t3 fun x => ⟨(h x).1.2.2.2, (h x).2.2.2.2⟩⟩
  · rintro ⟨h0, h1, h2, h3⟩ x
    exact ⟨⟨fun n _ => h0 _, fun n _ => h1 _, fun n _ => h2 _, fun n _ => h3 _⟩, ⟨fun n _ => h0 _, fun n _ => h1 _, fun n _ => h2 _, fun n _ => h3 _⟩⟩

end Cert.KernelIdeal.Hand

end
-- ==== Proof.Core.lean ====
/-
  The two softmaxes' arithmetic: scores, sixteen leading ones and 2048 others, all real; the reference's exponentials of scores less
  their maximum, and the kernel's powers of two of scores divided by the logarithm of two.
-/
module

public import Idealize.ShloMosaic.PureOps
public import Idealize.ShloMosaic.PureOps.Ideal.Laws
public import Idealize.ShloMosaic.Lib.Pointwise

@[expose] public section

noncomputable section

namespace Cert.Core

open Idealize.ShloMosaic

theorem coe_sum {n : Nat} (f : Fin n → ℝ) : ∑ i, ((f i : ℝ) : EReal) = ((∑ i, f i : ℝ) : EReal) := by
  have : ∀ s : Finset (Fin n), ∑ i ∈ s, ((f i : ℝ) : EReal) = ((∑ i ∈ s, f i : ℝ) : EReal) := by
    intro s
    induction s using Finset.induction_on with
    | empty => rfl
    | insert a s ha ih => rw [Finset.sum_insert ha, Finset.sum_insert ha, ih, EReal.coe_add]
  exact this Finset.univ

/-- A sum over three stretches. -/
theorem sum3 {M : Type*} [AddCommMonoid M] {a b c n : Nat} (h : a + b + c = n) (F : Fin n → M) :
    ∑ i, F i = (∑ i : Fin a, F ⟨i.val, by omega⟩) + (∑ i : Fin b, F ⟨a + i.val, by omega⟩) + ∑ i : Fin c, F ⟨a + b + i.val, by omega⟩ := by
  subst h
  rw [Fin.sum_univ_add, Fin.sum_univ_add]
  rfl

variable (xm : Fin 16 → ℝ) (xk : Fin 2048 → ℝ)

theorem exists_max : ∃ μ : ℝ, ((∀ r, xm r ≤ μ) ∧ ∀ r, xk r ≤ μ) ∧ ((∃ r, xm r = μ) ∨ ∃ r, xk r = μ) := by
  obtain ⟨a, -, ha⟩ := Finset.exists_max_image (Finset.univ : Finset (Fin 16)) xm ⟨0, Finset.mem_univ _⟩
  obtain ⟨b, -, hb⟩ := Finset.exists_max_image (Finset.univ : Finset (Fin 2048)) xk ⟨0, Finset.mem_univ _⟩
  rcases le_total (xm a) (xk b) with h | h
  · exact ⟨xk b, ⟨fun r => (ha r (Finset.mem_univ r)).trans h, fun r => hb r (Finset.mem_univ r)⟩, Or.inr ⟨b, rfl⟩⟩
  · exact ⟨xm a, ⟨fun r => ha r (Finset.mem_univ r), fun r => (hb r (Finset.mem_univ r)).trans h⟩, Or.inl ⟨a, rfl⟩⟩

/-- The largest score, -/
def mu : ℝ := (exists_max xm xk).choose
theorem mu_spec : ((∀ r, xm r ≤ mu xm xk) ∧ ∀ r, xk r ≤ mu xm xk) ∧ ((∃ r, xm r = mu xm xk) ∨ ∃ r, xk r = mu xm xk) :=
  (exists_max xm xk).choose_spec

/-- is the least upper bound, scaled or not. -/
theorem max_eq (c : ℝ) (hc : 0 < c) (M : EReal)
    (hM : ∀ B, M ≤ B ↔ (∀ r, ((xm r * c : ℝ) : EReal) ≤ B) ∧ ∀ r, ((xk r * c : ℝ) : EReal) ≤ B) : M = ((mu xm xk * c : ℝ) : EReal) := by
  obtain ⟨⟨h1, h2⟩, h3⟩ := mu_spec xm xk
  apply le_antisymm
  · exact (hM _).2 ⟨fun r => EReal.coe_le_coe_iff.mpr (mul_le_mul_of_nonneg_right (h1 r) hc.le),
      fun r => EReal.coe_le_coe_iff.mpr (mul_le_mul_of_nonneg_right (h2 r) hc.le)⟩
  · obtain ⟨g1, g2⟩ := (hM M).1 le_rfl
    rcases h3 with ⟨r, hr⟩ | ⟨r, hr⟩
    · rw [← hr]; exact g1 r
    · rw [← hr]; exact g2 r

/-- The weights. -/
def wm (r : Fin 16) : ℝ := Real.exp (xm r - mu xm xk)
def wk (r : Fin 2048) : ℝ := Real.exp (xk r - mu xm xk)
def wsum : ℝ := (∑ r, wk xm xk r) + ∑ r, wm xm xk r
theorem wsum_pos : 0 < wsum xm xk :=
  add_pos (Finset.sum_pos (fun r _ => Real.exp_pos _) ⟨0, Finset.mem_univ _⟩) (Finset.sum_pos (fun r _ => Real.exp_pos _) ⟨0, Finset.mem_univ _⟩)

theorem exp_sub (x μ : ℝ) : Ideal.exp ((x : EReal) - (μ : EReal)) = ((Real.exp (x - μ) : ℝ) : EReal) := by
  rw [← EReal.coe_sub]; rfl
theorem exp_bot_sub (μ : ℝ) : Ideal.exp ((⊥ : EReal) - (μ : EReal)) = 0 := by
  rw [EReal.bot_sub]; rfl
theorem exp2_sub (x μ : ℝ) : Ideal.exp2 (((x * (1 / Real.log 2) : ℝ) : EReal) - ((μ * (1 / Real.log 2) : ℝ) : EReal)) = ((Real.exp (x - μ) : ℝ) : EReal) := by
  rw [← EReal.coe_sub, Ideal.exp2_coe, EReal.coe_eq_coe_iff]
  show (2 : ℝ) ^ (x * (1 / Real.log 2) - μ * (1 / Real.log 2)) = _
  rw [Real.rpow_def_of_pos (by norm_num)]
  congr 1
  have : Real.log 2 ≠ 0 := (Real.log_pos (by norm_num)).ne'
  field_simp

/-- Placed in the reference's order: 112 padding rows, the sixteen leading rows, the others. -/
def placed (p : EReal) (fm : Fin 16 → ℝ) (fk : Fin 2048 → ℝ) (n : Fin 2176) : EReal :=
  if h1 : n.val < 128 then if h2 : n.val < 112 then p else (fm ⟨n.val - 112, by omega⟩ : EReal) else (fk ⟨n.val - 128, by omega⟩ : EReal)

theorem placed_pad (p : EReal) (fm : Fin 16 → ℝ) (fk : Fin 2048 → ℝ) (i : Fin 112) (h) : placed p fm fk ⟨i.val, h⟩ = p := by
  unfold placed
  rw [dif_pos (by show i.val < 128; omega), dif_pos i.isLt]
theorem placed_m (p : EReal) (fm : Fin 16 → ℝ) (fk : Fin 2048 → ℝ) (i : Fin 16) (h) : placed p fm fk ⟨112 + i.val, h⟩ = fm i := by
  unfold placed
  rw [dif_pos (by show 112 + i.val < 128; omega), dif_neg (by show ¬ 112 + i.val < 112; omega)]
  congr 2; exact Fin.ext (by show 112 + i.val - 112 = i.val; omega)
theorem placed_k (p : EReal) (fm : Fin 16 → ℝ) (fk : Fin 2048 → ℝ) (i : Fin 2048) (h) : placed p fm fk ⟨112 + 16 + i.val, h⟩ = fk i := by
  unfold placed
  rw [dif_neg (by show ¬ 112 + 16 + i.val < 128; omega)]
  congr 2; exact Fin.ext (by show 112 + 16 + i.val - 128 = i.val; omega)

theorem placed_cases (p : EReal) (fm : Fin 16 → ℝ) (fk : Fin 2048 → ℝ) {P : Fin 2176 → Prop} (h0 : ∀ (i : Fin 112) h, P ⟨i.val, h⟩)
    (h1 : ∀ (i : Fin 16) h, P ⟨112 + i.val, h⟩) (h2 : ∀ (i : Fin 2048) h, P ⟨112 + 16 + i.val, h⟩) (n : Fin 2176) : P n := by
  by_cases a : n.val < 112
  · exact h0 ⟨n.val, a⟩ n.isLt
  · by_cases b : n.val < 128
    · have := h1 ⟨n.val - 112, by omega⟩ (by show 112 + (n.val - 112) < 2176; omega)
      have e : (⟨112 + (n.val - 112), by omega⟩ : Fin 2176) = n := Fin.ext (by show 112 + (n.val - 112) = n.val; omega)
      exact e ▸ this
    · have := h2 ⟨n.val - 128, by omega⟩ (by show 112 + 16 + (n.val - 128) < 2176; omega)
      have e : (⟨112 + 16 + (n.val - 128), by omega⟩ : Fin 2176) = n := Fin.ext (by show 112 + 16 + (n.val - 128) = n.val; omega)
      exact e ▸ this

/-- The reference's maximum, exponentials and their sum. -/
theorem ref_max (X : Fin 2176 → EReal) (hX : ∀ n, X n = placed ⊥ xm xk n) (M : EReal) (hM : ∀ B, M ≤ B ↔ ∀ n, X n ≤ B) : M = (mu xm xk : EReal) := by
  have := max_eq xm xk 1 one_pos M fun B => by
    rw [hM]
    simp only [mul_one]
    constructor
    · intro h
      refine ⟨fun r => ?_, fun r => ?_⟩
      · have := h ⟨112 + r.val, by omega⟩
        rwa [hX, placed_m] at this
      · have := h ⟨112 + 16 + r.val, by omega⟩
        rwa [hX, placed_k] at this
    · rintro ⟨h1, h2⟩ n
      rw [hX]
      revert n
      exact placed_cases ⊥ xm xk (fun i h => by rw [placed_pad]; exact bot_le) (fun i h => by rw [placed_m]; exact h1 i)
        (fun i h => by rw [placed_k]; exact h2 i)
  rwa [mul_one] at this

theorem ref_exp (X : Fin 2176 → EReal) (hX : ∀ n, X n = placed ⊥ xm xk n) (M : EReal) (hM : M = (mu xm xk : EReal)) (n : Fin 2176) :
    Ideal.exp (X n - M) = placed 0 (wm xm xk) (wk xm xk) n := by
  rw [hX, hM]
  revert n
  exact placed_cases ⊥ xm xk (fun i h => by rw [placed_pad, placed_pad, exp_bot_sub]) (fun i h => by rw [placed_m, placed_m, exp_sub]; rfl)
    (fun i h => by rw [placed_k, placed_k, exp_sub]; rfl)

theorem ref_sum (E : Fin 2176 → EReal) (hE : ∀ n, E n = placed 0 (wm xm xk) (wk xm xk) n) : ∑ n, E n = (wsum xm xk : EReal) := by
  rw [sum3 (a := 112) (b := 16) (c := 2048) rfl]
  simp only [hE, placed_pad, placed_m, placed_k, Finset.sum_const_zero, zero_add, coe_sum]
  rw [← EReal.coe_add, add_comm]; rfl

/-- The values weighed. -/
def wsumv (vm : Fin 16 → ℝ) (vk : Fin 2048 → ℝ) : ℝ := (∑ r, vk r * wk xm xk r) + ∑ r, vm r * wm xm xk r

variable (ym : Fin 16 → ℝ) (yk : Fin 2048 → ℝ)

/-- The reference's result is the kernel's. -/
theorem combine (vm : Fin 16 → ℝ) (vk : Fin 2048 → ℝ) (lam : ℝ) (V E0 E1 : Fin 2176 → EReal) (hV : ∀ n, V n = placed 0 vm vk n)
    (h0 : ∀ n, E0 n = placed 0 (wm xm xk) (wk xm xk) n) (h1 : ∀ n, E1 n = placed 0 (wm ym yk) (wk ym yk) n) :
    ∑ n, V n * (Ideal.div (E0 n) (wsum xm xk : EReal) - (lam : EReal) * Ideal.div (E1 n) (wsum ym yk : EReal)) =
      (wsumv xm xk vm vk : EReal) * Ideal.div 1 (wsum xm xk : EReal) - (wsumv ym yk vm vk : EReal) * Ideal.div (lam : EReal) (wsum ym yk : EReal) := by
  have p0 := (wsum_pos xm xk).ne'
  have p1 := (wsum_pos ym yk).ne'
  simp only [Ideal.div_coe p0, Ideal.div_coe p1]
  generalize hL0 : wsum xm xk = L0
  generalize hL1 : wsum ym yk = L1
  rw [sum3 (a := 112) (b := 16) (c := 2048) rfl]
  simp only [hV, h0, h1, placed_pad, placed_m, placed_k, zero_mul, Finset.sum_const_zero, zero_add, one_mul]
  simp only [← EReal.coe_mul, ← EReal.coe_sub, coe_sum, ← EReal.coe_add]
  rw [EReal.coe_eq_coe_iff]
  unfold wsumv
  simp only [mul_sub, Finset.sum_sub_distrib, add_mul, Finset.sum_mul]
  have e : ∀ (v w l : ℝ), v * (w * (1 / l)) = v * w * (1 / l) := fun v w l => by ring
  have e' : ∀ (v w l : ℝ), v * (lam * w) * (1 / l) = v * w * lam * (1 / l) := fun v w l => by ring
  simp only [e, e']
  abel

end Cert.Core

end
-- ==== Proof.KVal.lean ====
/-
  The kernel's block of the result over the extended reals: with real scores, values and factor, the difference of two weighted means, normed.
-/
module

public import proofs.«01_k».proof.Proof.KAt
public import proofs.«01_k».proof.Proof.Core

@[expose] public section

set_option maxRecDepth 16384

noncomputable section

namespace Cert.KernelIdeal.Hand

open Cert.KernelIdeal Cert.KernelIdeal.Gen
open Idealize.ShloMosaic Idealize.ShloMosaic.TcCoe
open Cert.Core

variable (I : Ins Ideal)

/-! ## The blocks at an index -/

theorem idx2 {n m : Nat} (o s : Fin 2 → Nat) (inb) (x : (Rect.unit (s := ⟨2, ![n, m]⟩) o s inb).shape.Idx) (a : Fin n) (b : Fin m)
    (h0 : o 0 + (x 0).val = a.val) (h1 : o 1 + (x 1).val = b.val) : (Rect.unit (s := ⟨2, ![n, m]⟩) o s inb).idx x = ix2 a b :=
  (eq_mk2 _ a b ((at2 o s inb x).1.trans h0) ((at2 o s inb x).2.trans h1)).trans (mk2_eq _ _)
theorem idx3 {l n m : Nat} (o s : Fin 3 → Nat) (inb) (x : (Rect.unit (s := ⟨3, ![l, n, m]⟩) o s inb).shape.Idx) (a : Fin l) (b : Fin n) (c : Fin m)
    (h0 : o 0 + (x 0).val = a.val) (h1 : o 1 + (x 1).val = b.val) (h2 : o 2 + (x 2).val = c.val) :
    (Rect.unit (s := ⟨3, ![l, n, m]⟩) o s inb).idx x = ix3 a b c :=
  (eq_mk3 _ a b c ((at3 o s inb x).1.trans h0) ((at3 o s inb x).2.1.trans h1) ((at3 o s inb x).2.2.trans h2)).trans (mk3_eq _ _ _)

theorem qIn_at (p : Fin 4) (c : Fin 512) (l : Fin 128) : qIn I p (ix3 0 c l) = I.q (ix3 0 ⟨512 * p.val + c.val, by omega⟩ l) := by
  exact congrArg I.q (idx3 _ _ _ _ _ _ _ rfl rfl (Nat.zero_add _))
theorem kIn_at (p : Fin 4) (c : Fin 512) (l : Fin 128) : kIn I p (ix3 0 c l) = I.k (ix3 0 ⟨512 * p.val + c.val, by omega⟩ l) := by
  exact congrArg I.k (idx3 _ _ _ _ _ _ _ rfl rfl (Nat.zero_add _))
theorem vIn_at (p : Fin 8) (c : Fin 256) (l : Fin 128) : vIn I p (ix3 0 c l) = I.v (ix3 0 ⟨256 * p.val + c.val, by omega⟩ l) := by
  exact congrArg I.v (idx3 _ _ _ _ _ _ _ rfl rfl (Nat.zero_add _))
theorem kmIn_at (r : Fin 16) (l : Fin 128) : kmIn I (ix2 r l) = I.km (ix2 ⟨112 + r.val, by omega⟩ l) := by
  exact congrArg I.km (idx2 _ _ _ _ _ _ rfl (Nat.zero_add _))
theorem vmIn_at (r : Fin 128) (l : Fin 128) : vmIn I (ix2 r l) = I.vm (ix2 r l) := by
  exact congrArg I.vm (idx2 _ _ _ _ _ _ (Nat.zero_add _) (Nat.zero_add _))
theorem lamIn_at (r : Fin 4) (l : Fin 64) : lamIn I (ix2 r l) = I.lam (ix2 r l) := by
  exact congrArg I.lam (idx2 _ _ _ _ _ _ (Nat.zero_add _) (Nat.zero_add _))
theorem gainIn_at (l : Fin 128) : gainIn I (ix2 0 l) = I.gain (ix2 0 l) := by
  exact congrArg I.gain (idx2 _ _ _ _ _ _ (Nat.zero_add _) (Nat.zero_add _))

theorem kxAt_key (mp : Bool) (n : Fin 2048) (l : Fin 128) : kxAt I mp n.val l = if half mp l then I.k (ix3 0 n l) else 0 := by
  unfold kxAt
  rw [if_pos n.isLt, mk3_eq, kTile_at, kIn_at]
  have : (⟨512 * (n.val / 512 % 4) + n.val % 512, by omega⟩ : Fin 2048) = n := Fin.ext (by show 512 * (n.val / 512 % 4) + n.val % 512 = n.val; omega)
  rw [this]
theorem kxAt_meta (mp : Bool) (r : Fin 16) (l : Fin 128) : kxAt I mp (2048 + r.val) l = if half mp l then I.km (ix2 ⟨112 + r.val, by omega⟩ l) else 0 := by
  unfold kxAt
  rw [if_neg (by omega), mk3_eq, kmTile_at, kmIn_at]
  have : (⟨112 + (2048 + r.val - 2048) % 16, by omega⟩ : Fin 128) = ⟨112 + r.val, by omega⟩ := Fin.ext (by show 112 + (2048 + r.val - 2048) % 16 = 112 + r.val; omega)
  rw [this]

theorem vtAt_key (d : Fin 128) (n : Fin 2048) : vtAt I d.val n.val = I.v (ix3 0 n d) := by
  unfold vtAt
  rw [if_neg (by omega), if_pos n.isLt, mk2_eq, vTile_at, vIn_at]
  have : (⟨256 * (n.val / 256 % 8) + n.val % 256, by omega⟩ : Fin 2048) = n := Fin.ext (by show 256 * (n.val / 256 % 8) + n.val % 256 = n.val; omega)
  have h : (⟨d.val % 128, by omega⟩ : Fin 128) = d := Fin.ext (by show d.val % 128 = _; omega)
  rw [this, h]
theorem vtAt_meta (d : Fin 128) (r : Fin 128) : vtAt I d.val (2048 + r.val) = I.vm (ix2 r d) := by
  unfold vtAt
  rw [if_neg (by omega), if_neg (by omega), mk2_eq, vmTile_at, vmIn_at]
  have : (⟨(2048 + r.val - 2048) % 128, by omega⟩ : Fin 128) = r := Fin.ext (by show (2048 + r.val - 2048) % 128 = r.val; omega)
  have h : (⟨d.val % 128, by omega⟩ : Fin 128) = d := Fin.ext (by show d.val % 128 = _; omega)
  rw [this, h]
theorem vtAt_one (n : Nat) : vtAt I 128 n = 1 := by
  unfold vtAt
  rw [if_pos (Nat.le_refl _)]
  exact Ideal.ofBits_one_bf16

/-! ## The scores -/

/-- A key's product with a query. -/
def dotAt (mp : Bool) (i : Fin 2048) (n : Nat) : EReal := ∑ l, (kxAt I mp n l : EReal) * I.q (ix3 0 i l)

variable (p : Fin 4) (mp : Bool) (c : Fin 512)

/-- The query a part's column is. -/
abbrev qr (p : Fin 4) (c : Fin 512) : Fin 2048 := ⟨512 * p.val + c.val, by omega⟩

theorem tT_at (k : Fin 3) (r : Fin 512) : tT I p mp k (ix2 r c) = dotAt I mp (qr p c) (512 * k.val + r.val) := by
  unfold tT
  rw [sTile_at]
  exact Finset.sum_congr rfl fun l _ => congrArg₂ _ rfl (qIn_at I p c l)
theorem tT4_at (r : Fin 528) : tT4 I p mp (ix2 r c) = dotAt I mp (qr p c) (1536 + r.val) := by
  unfold tT4
  rw [sTile4_at]
  exact Finset.sum_congr rfl fun l _ => congrArg₂ _ rfl (qIn_at I p c l)

theorem sAt_at (n : Nat) (h : n < 2064) : sAt I p mp n c.val = dotAt I mp (qr p c) n := by
  have hc : (⟨c.val % 512, by omega⟩ : Fin 512) = c := Fin.ext (by show c.val % 512 = _; omega)
  unfold sAt
  by_cases h1 : n < 1536
  · rw [if_pos h1, mk2_eq, hc, tT_at]
    exact congrArg _ (by show 512 * (n / 512 % 3) + n % 512 = n; omega)
  · rw [if_neg h1, mk2_eq, hc, tT4_at]
    exact congrArg _ (by show 1536 + (n - 1536) % 528 = n; omega)

theorem mxT_le (a : Fin 16) (B : EReal) : mxT I p mp (ix2 a c) ≤ B ↔
    (∀ r : Fin 16, dotAt I mp (qr p c) (2048 + r.val) ≤ B) ∧ ∀ r : Fin 2048, dotAt I mp (qr p c) r.val ≤ B := by
  unfold mxT
  rw [colMax_le]
  simp only [tT_at, tT4_at]
  refine ⟨fun ⟨h0, h1, h2, h3⟩ => ⟨fun r => ?_, fun r => ?_⟩, fun ⟨h0, h1⟩ => ⟨fun r => ?_, fun r => ?_, fun r => ?_, fun r => ?_⟩⟩
  · have := h3 ⟨512 + r.val, by omega⟩
    rwa [show 1536 + (⟨512 + r.val, by omega⟩ : Fin 528).val = 2048 + r.val from by show 1536 + (512 + r.val) = _; omega] at this
  · by_cases a0 : r.val < 512
    · have := h0 ⟨r.val, a0⟩
      rwa [show 512 * (0 : Fin 3).val + (⟨r.val, a0⟩ : Fin 512).val = r.val from by show 512 * 0 + r.val = _; omega] at this
    by_cases a1 : r.val < 1024
    · have := h1 ⟨r.val - 512, by omega⟩
      rwa [show 512 * (1 : Fin 3).val + (⟨r.val - 512, by omega⟩ : Fin 512).val = r.val from by show 512 * 1 + (r.val - 512) = _; omega] at this
    by_cases a2 : r.val < 1536
    · have := h2 ⟨r.val - 1024, by omega⟩
      rwa [show 512 * (2 : Fin 3).val + (⟨r.val - 1024, by omega⟩ : Fin 512).val = r.val from by show 512 * 2 + (r.val - 1024) = _; omega] at this
    · have := h3 ⟨r.val - 1536, by omega⟩
      rwa [show 1536 + (⟨r.val - 1536, by omega⟩ : Fin 528).val = r.val from by show 1536 + (r.val - 1536) = _; omega] at this
  · exact h1 ⟨512 * 0 + r.val, by omega⟩
  · exact h1 ⟨512 * 1 + r.val, by omega⟩
  · exact h1 ⟨512 * 2 + r.val, by omega⟩
  · by_cases a0 : r.val < 512
    · exact h1 ⟨1536 + r.val, by omega⟩
    · have := h0 ⟨r.val - 512, by omega⟩
      rwa [show 2048 + (⟨r.val - 512, by omega⟩ : Fin 16).val = 1536 + r.val from by show 2048 + (r.val - 512) = _; omega] at this

/-! ## With real contents -/

/-- The scores (before the change of base), the values and the factor are real. -/
structure Reals (xm : Bool → Fin 2048 → Fin 16 → ℝ) (xk : Bool → Fin 2048 → Fin 2048 → ℝ) (vm : Fin 128 → Fin 16 → ℝ) (vk : Fin 128 → Fin 2048 → ℝ)
    (lam : ℝ) : Prop where
  hm : ∀ mp i r, ∑ l, (if half mp l then I.km (ix2 ⟨112 + r.val, by omega⟩ l) else 0 : EReal) * I.q (ix3 0 i l) = ((xm mp i r * (1 / Real.log 2) : ℝ) : EReal)
  hk : ∀ mp i r, ∑ l, (if half mp l then I.k (ix3 0 r l) else 0 : EReal) * I.q (ix3 0 i l) = ((xk mp i r * (1 / Real.log 2) : ℝ) : EReal)
  hvm : ∀ (r : Fin 16) (d : Fin 128), I.vm (ix2 ⟨112 + r.val, by omega⟩ d) = (vm d r : EReal)
  hvk : ∀ (r : Fin 2048) (d : Fin 128), I.v (ix3 0 r d) = (vk d r : EReal)
  hlam : lamTile (lamIn I) (ix2 0 0) = (lam : EReal)

variable {I} {xm : Bool → Fin 2048 → Fin 16 → ℝ} {xk : Bool → Fin 2048 → Fin 2048 → ℝ} {vm : Fin 128 → Fin 16 → ℝ} {vk : Fin 128 → Fin 2048 → ℝ} {lam : ℝ}
variable (h : Reals I xm xk vm vk lam)
include h

theorem dotAt_meta (i : Fin 2048) (r : Fin 16) : dotAt I mp i (2048 + r.val) = ((xm mp i r * (1 / Real.log 2) : ℝ) : EReal) := by
  rw [← h.hm]
  exact Finset.sum_congr rfl fun l _ => by rw [kxAt_meta]
theorem dotAt_key (i : Fin 2048) (r : Fin 2048) : dotAt I mp i r.val = ((xk mp i r * (1 / Real.log 2) : ℝ) : EReal) := by
  rw [← h.hk]
  exact Finset.sum_congr rfl fun l _ => by rw [kxAt_key]

theorem mxT_at (a : Fin 16) : mxT I p mp (ix2 a c) = ((mu (xm mp (qr p c)) (xk mp (qr p c)) * (1 / Real.log 2) : ℝ) : EReal) := by
  refine max_eq _ _ _ (one_div_pos.mpr (Real.log_pos (by norm_num))) _ fun B => ?_
  rw [mxT_le]
  simp only [dotAt_meta mp h, dotAt_key mp h]

theorem eT_at (j : Nat) (a : Fin 16) (n : Nat) (hn : 16 * j + a.val = n) (h2 : n < 2064) (x : ℝ)
    (hx : dotAt I mp (qr p c) n = ((x * (1 / Real.log 2) : ℝ) : EReal)) :
    eT I p mp j (ix2 a c) = ((Real.exp (x - mu (xm mp (qr p c)) (xk mp (qr p c))) : ℝ) : EReal) := by
  subst hn
  unfold eT
  rw [eTile_at, mxT_at p mp c h, ← exp2_sub, ← hx]
  exact congrArg (fun u => Ideal.exp2 (u - _)) (sAt_at I p mp c _ h2)

theorem eAt_key (r : Fin 2048) : eAt I p mp r.val c.val = (wk (xm mp (qr p c)) (xk mp (qr p c)) r : EReal) := by
  have hc : (⟨c.val % 512, by omega⟩ : Fin 512) = c := Fin.ext (by show c.val % 512 = _; omega)
  unfold eAt
  rw [if_pos r.isLt, mk2_eq, hc]
  exact eT_at p mp c h _ _ r.val (by show 16 * (r.val / 16) + r.val % 16 = _; omega) (by omega) _ (dotAt_key mp h _ r)
theorem eAt_meta (r : Fin 16) : eAt I p mp (2160 + r.val) c.val = (wm (xm mp (qr p c)) (xk mp (qr p c)) r : EReal) := by
  have hc : (⟨c.val % 512, by omega⟩ : Fin 512) = c := Fin.ext (by show c.val % 512 = _; omega)
  unfold eAt
  rw [if_neg (by omega), if_neg (by omega), mk2_eq, hc]
  exact eT_at p mp c h _ _ (2048 + r.val) (by show 16 * 128 + (2160 + r.val - 2160) % 16 = _; omega) (by omega) _ (dotAt_meta mp h _ r)
omit h in
theorem eAt_pad (r : Fin 112) : eAt I p mp (2048 + r.val) c.val = (0 : EReal) := by
  unfold eAt
  rw [if_neg (by omega), if_pos (by omega)]
  exact Ideal.ofBits_zero_bf16

/-- A map's weighted sum of the values, -/
theorem oT_at (d : Fin 128) : oT I p mp (ix2 ⟨d.val, by omega⟩ c) = (wsumv (xm mp (qr p c)) (xk mp (qr p c)) (vm d) (vk d) : EReal) := by
  unfold oT
  rw [oTile_at, sum3 (a := 2048) (b := 112) (c := 16) rfl]
  have e0 : ∑ r : Fin 2048, (vtAt I d.val r.val : EReal) * eAt I p mp r.val c.val = ((∑ r, vk d r * wk (xm mp (qr p c)) (xk mp (qr p c)) r : ℝ) : EReal) := by
    rw [← coe_sum]
    exact Finset.sum_congr rfl fun r _ => by rw [eAt_key p mp c h, vtAt_key, h.hvk, ← EReal.coe_mul]
  have e1 : ∑ r : Fin 112, (vtAt I d.val (2048 + r.val) : EReal) * eAt I p mp (2048 + r.val) c.val = 0 :=
    Finset.sum_eq_zero fun r _ => by rw [eAt_pad, mul_zero]
  have e2 : ∑ r : Fin 16, (vtAt I d.val (2160 + r.val) : EReal) * eAt I p mp (2160 + r.val) c.val = ((∑ r, vm d r * wm (xm mp (qr p c)) (xk mp (qr p c)) r : ℝ) : EReal) := by
    rw [← coe_sum]
    refine Finset.sum_congr rfl fun r _ => ?_
    rw [eAt_meta p mp c h, show 2160 + r.val = 2048 + (⟨112 + r.val, by omega⟩ : Fin 128).val from by show _ = 2048 + (112 + r.val); omega, vtAt_meta, h.hvm, ← EReal.coe_mul]
  exact (congrArg₂ _ (congrArg₂ _ e0 e1) e2).trans (by rw [add_zero, ← EReal.coe_add]; rfl)
/-- and its sum of weights. -/
theorem oT_one : oT I p mp (ix2 ⟨128, by omega⟩ c) = (wsum (xm mp (qr p c)) (xk mp (qr p c)) : EReal) := by
  unfold oT
  rw [oTile_at, sum3 (a := 2048) (b := 112) (c := 16) rfl]
  have e0 : ∑ r : Fin 2048, (vtAt I 128 r.val : EReal) * eAt I p mp r.val c.val = ((∑ r, wk (xm mp (qr p c)) (xk mp (qr p c)) r : ℝ) : EReal) := by
    rw [← coe_sum]
    exact Finset.sum_congr rfl fun r _ => by rw [eAt_key p mp c h, vtAt_one, one_mul]
  have e1 : ∑ r : Fin 112, (vtAt I 128 (2048 + r.val) : EReal) * eAt I p mp (2048 + r.val) c.val = 0 :=
    Finset.sum_eq_zero fun r _ => by rw [eAt_pad, mul_zero]
  have e2 : ∑ r : Fin 16, (vtAt I 128 (2160 + r.val) : EReal) * eAt I p mp (2160 + r.val) c.val = ((∑ r, wm (xm mp (qr p c)) (xk mp (qr p c)) r : ℝ) : EReal) := by
    rw [← coe_sum]
    exact Finset.sum_congr rfl fun r _ => by rw [eAt_meta p mp c h, vtAt_one, one_mul]
  exact (congrArg₂ _ (congrArg₂ _ e0 e1) e2).trans (by rw [add_zero, ← EReal.coe_add]; rfl)

omit h in
/-- A query's difference of weighted means, -/
def diffOf (xm : Bool → Fin 2048 → Fin 16 → ℝ) (xk : Bool → Fin 2048 → Fin 2048 → ℝ) (vm : Fin 128 → Fin 16 → ℝ) (vk : Fin 128 → Fin 2048 → ℝ) (lam : ℝ)
    (i : Fin 2048) (d : Fin 128) : EReal :=
  (wsumv (xm false i) (xk false i) (vm d) (vk d) : EReal) * Ideal.div 1 (wsum (xm false i) (xk false i) : EReal)
    - (wsumv (xm true i) (xk true i) (vm d) (vk d) : EReal) * Ideal.div (lam : EReal) (wsum (xm true i) (xk true i) : EReal)
omit h in
/-- normed. -/
def normOf (o : Fin 128 → EReal) (g : EReal) (d : Fin 128) : EReal :=
  o d * Ideal.rsqrt (Ideal.div (∑ x, o x * o x) (Ideal.ofBits .f32 0x43000000#32) + Ideal.ofBits .f32 0x358637BD#32) * g * Ideal.ofBits .f32 0x3F4CCCCD#32

theorem fT_at (d : Fin 128) : fT I p (ix3 0 c d) = normOf (diffOf xm xk vm vk lam (qr p c)) (I.gain (ix2 0 d)) d := by
  have key : ∀ d : Fin 128, diffTile (lamTile (lamIn I)) (oT I p false) (oT I p true) (ix2 c d) = diffOf xm xk vm vk lam (qr p c) d := fun d => by
    rw [diffTile_at, oT_at p false c h, oT_at p true c h, oT_one p false c h, oT_one p true c h, h.hlam]
    rfl
  unfold fT
  rw [finTile_at, gainIn_at, normOf]
  simp only [key]

theorem outFull_at (i : Fin 2048) (d : Fin 128) : outFull I (ix3 0 i d) = normOf (diffOf xm xk vm vk lam i) (I.gain (ix2 0 d)) d := by
  have hi : qr ⟨i.val / 512 % 4, by omega⟩ ⟨i.val % 512, by omega⟩ = i := Fin.ext (by show 512 * (i.val / 512 % 4) + i.val % 512 = _; omega)
  refine (congrArg (fT I ⟨i.val / 512 % 4, by omega⟩) (mk3_eq 0 ⟨i.val % 512, by omega⟩ d)).trans ?_
  rw [fT_at _ _ h, hi]

end Cert.KernelIdeal.Hand
-- ==== Proof.RealArgs.lean ====
/-
  The two attention maps' scores, the values and the factor, of real arguments.
-/
module

public import proofs.«01_k».proof.Proof.Core
public import Idealize.ShloMosaic.Lib.Pointwise

@[expose] public section

noncomputable section

namespace Cert.Core

open Idealize.ShloMosaic

/-- The arguments' entries. -/
structure Args where
  r0 : Fin 64 → ℝ
  r1 : Fin 64 → ℝ
  r2 : Fin 64 → ℝ
  r3 : Fin 64 → ℝ
  r5 : Fin 16 → Fin 2048 → Fin 8 → Fin 2 → Fin 64 → ℝ
  r6 : Fin 16 → Fin 2048 → Fin 8 → Fin 2 → Fin 64 → ℝ
  r7 : Fin 16 → Fin 2048 → Fin 8 → Fin 128 → ℝ
  r8 : Fin 16 → Fin 8 → Fin 2 → Fin 64 → ℝ
  r9 : Fin 16 → Fin 8 → Fin 128 → ℝ

variable (A : Args) (b : Fin 16) (h : Fin 8)

def sm (mp : Bool) : Fin 2 := match mp with | false => 0 | true => 1
/-- The scores of the leading rows, of the others. -/
def xmR (mp : Bool) (i : Fin 2048) (r : Fin 16) : ℝ := (∑ x, A.r5 b i h (sm mp) x * A.r8 r h (sm mp) x) * (1 / 8)
def xkR (mp : Bool) (i r : Fin 2048) : ℝ := (∑ x, A.r5 b i h (sm mp) x * A.r6 b r h (sm mp) x) * (1 / 8)
def vmR (d : Fin 128) (r : Fin 16) : ℝ := A.r9 r h d
def vkR (d : Fin 128) (r : Fin 2048) : ℝ := A.r7 b r h d

theorem ofBits_lam : Ideal.ofBits .f32 0x3E4CCCCD#32 = (((Ideal.ofBits .f32 0x3E4CCCCD#32).toReal : ℝ) : EReal) := by
  have : ∃ c : ℝ, Ideal.ofBits .f32 0x3E4CCCCD#32 = (c : EReal) := ⟨_, by simp [Ideal.ofBits, Ideal.ieee, -EReal.coe_mul]; rfl⟩
  obtain ⟨c, hc⟩ := this
  rw [hc, EReal.toReal_coe]
theorem ofBits_eighth : Ideal.ofBits .f32 0x3E000000#32 = ((1 / 8 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

def lamR : ℝ := Real.exp (∑ x, A.r0 x * A.r1 x) - Real.exp (∑ x, A.r2 x * A.r3 x) + (Ideal.ofBits .f32 0x3E4CCCCD#32).toReal

theorem lam_eq (u v w z : Fin 64 → EReal) (hu : ∀ x, u x = A.r0 x) (hv : ∀ x, v x = A.r1 x) (hw : ∀ x, w x = A.r2 x) (hz : ∀ x, z x = A.r3 x) :
    Ideal.exp (∑ x, u x * v x) - Ideal.exp (∑ x, w x * z x) + Ideal.ofBits .f32 0x3E4CCCCD#32 = (lamR A : EReal) := by
  simp only [hu, hv, hw, hz, ← EReal.coe_mul, coe_sum, Ideal.exp_coe]
  rw [ofBits_lam, ← EReal.coe_sub, ← EReal.coe_add]
  rfl

/-- Half of a product's columns. -/
theorem half_sum (mp : Bool) (P : Fin 128 → Prop) [DecidablePred P] (hP : ∀ l, P l ↔ match mp with | false => l.val < 64 | true => ¬ l.val < 64)
    (K Q : Fin 128 → EReal) : ∑ l, (if P l then K l else 0) * Q l =
      ∑ x : Fin 64, K ⟨64 * (sm mp).val + x.val, by have := (sm mp).isLt; omega⟩ * Q ⟨64 * (sm mp).val + x.val, by have := (sm mp).isLt; omega⟩ := by
  have e := Fin.sum_univ_add (a := 64) (b := 64) fun l : Fin 128 => (if P l then K l else 0) * Q l
  refine e.trans ?_
  cases mp
  · rw [Finset.sum_congr rfl fun x _ => by rw [if_pos ((hP _).2 (by show x.val < 64; omega))],
      Finset.sum_eq_zero (s := Finset.univ) (f := fun x : Fin 64 => (if P (Fin.natAdd 64 x) then K (Fin.natAdd 64 x) else 0) * Q (Fin.natAdd 64 x))
        fun x _ => by rw [if_neg fun h => absurd ((hP _).1 h) (by show ¬ 64 + x.val < 64; omega), zero_mul], add_zero]
    refine Finset.sum_congr rfl fun x _ => ?_
    have : (⟨64 * (sm false).val + x.val, by have := (sm false).isLt; omega⟩ : Fin 128) = Fin.castAdd 64 x := Fin.ext (by show 64 * 0 + x.val = x.val; omega)
    rw [this]
  · rw [Finset.sum_eq_zero (s := Finset.univ) (f := fun x : Fin 64 => (if P (Fin.castAdd 64 x) then K (Fin.castAdd 64 x) else 0) * Q (Fin.castAdd 64 x))
        fun x _ => by rw [if_neg fun h => absurd ((hP _).1 h) (by show ¬ ¬ x.val < 64; omega), zero_mul], zero_add]
    refine Finset.sum_congr rfl fun x _ => ?_
    rw [if_pos ((hP _).2 (by show ¬ 64 + x.val < 64; omega))]
    rfl

/-- The scores, as the kernel forms them. -/
theorem score_k (q k : Fin 64 → ℝ) : ∑ x, (k x : EReal) * ((q x : EReal) * ((1 / 8 * (1 / Real.log 2) : ℝ) : EReal)) =
    (((∑ x, q x * k x) * (1 / 8) * (1 / Real.log 2) : ℝ) : EReal) := by
  simp only [← EReal.coe_mul, coe_sum]
  congr 1
  rw [Finset.sum_mul, Finset.sum_mul]
  exact Finset.sum_congr rfl fun x _ => by ring
/-- and as the reference does. -/
theorem score_r (q k : Fin 64 → ℝ) : (∑ x, (q x : EReal) * (k x : EReal)) * ((1 / 8 : ℝ) : EReal) = (((∑ x, q x * k x) * (1 / 8) : ℝ) : EReal) := by
  simp only [← EReal.coe_mul, coe_sum]

end Cert.Core
-- ==== Proof.InsAt.lean ====
/-
  The blocks the pipeline fetches, read at an index off the arguments.
-/
module

public import proofs.«01_k».proof.Proof.Dats
public import proofs.«01_k».proof.Proof.HostAt
public import proofs.«01_k».proof.Proof.KVal
public import proofs.«01_k».proof.Proof.RealArgs
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Cert.Core

/-- A grid point's batch row and head. -/
abbrev rowOf (t : Fin cfg0.N) : Fin 16 := ⟨t.val / 8 % 16, by omega⟩
abbrev headOf (t : Fin cfg0.N) : Fin 8 := ⟨t.val % 8, by omega⟩

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2w : ∀ t : Fin cfg0.N, win0_2.index t = ![t.val / 8 % 16, 0, 8 + t.val % 8] := (by decide +kernel : ∀ t : Fin grid0.N, _)
theorem idx3w : ∀ t : Fin cfg0.N, win0_3.index t = ![t.val / 8 % 16, 0, 16 + t.val % 8] := (by decide +kernel : ∀ t : Fin grid0.N, _)
theorem idx4w : ∀ t : Fin cfg0.N, win0_4.index t = ![t.val / 8 % 16, 0, 24 + t.val % 8] := (by decide +kernel : ∀ t : Fin grid0.N, _)
theorem idx5w : ∀ t : Fin cfg0.N, win0_5.index t = ![0, 16 + t.val % 8] := (by decide +kernel : ∀ t : Fin grid0.N, _)
theorem idx6w : ∀ t : Fin cfg0.N, win0_6.index t = ![0, 24 + t.val % 8] := (by decide +kernel : ∀ t : Fin grid0.N, _)
theorem idx7w : ∀ t : Fin cfg0.N, win0_7.index t = ![t.val / 8 % 16, 0, t.val % 8] := (by decide +kernel : ∀ t : Fin grid0.N, _)

variable (m : (ℓ : Loc nD τ sig) → Buf (Elt Ideal) ℓ) (c : Dev nD) (t : Fin cfg0.N)

theorem blk0 (r : Fin 4) (l : Fin 64) : (ins m c t).lam (ix2 r l) = V m c main_v6 (ix2 r l) := by
  show iblk m c 0 t (ix2 r l) = _
  blk_ext [iblk, idx0 t]
theorem blk1 (l : Fin 128) : (ins m c t).gain (ix2 0 l) = V m c main_v25 (ix2 0 l) := by
  show iblk m c 1 t (ix2 0 l) = _
  blk_ext [iblk, idx1 t]
theorem blk2 (i : Fin 2048) (l : Fin 128) : (ins m c t).q (ix3 0 i l) = V m c main_v15 (ix3 (rowOf t) i ⟨1024 + (128 * (headOf t).val + l.val), by omega⟩) := by
  show iblk m c 2 t (ix3 0 i l) = _
  blk_ext [iblk, idx2w t]
theorem blk3 (i : Fin 2048) (l : Fin 128) : (ins m c t).k (ix3 0 i l) = V m c main_v15 (ix3 (rowOf t) i ⟨2048 + (128 * (headOf t).val + l.val), by omega⟩) := by
  show iblk m c 3 t (ix3 0 i l) = _
  blk_ext [iblk, idx3w t]
theorem blk4 (i : Fin 2048) (l : Fin 128) : (ins m c t).v (ix3 0 i l) = V m c main_v15 (ix3 (rowOf t) i ⟨3072 + (128 * (headOf t).val + l.val), by omega⟩) := by
  show iblk m c 4 t (ix3 0 i l) = _
  blk_ext [iblk, idx4w t]
theorem blk5 (r l : Fin 128) : (ins m c t).km (ix2 r l) = V m c main_v24 (ix2 r ⟨2048 + (128 * (headOf t).val + l.val), by omega⟩) := by
  show iblk m c 5 t (ix2 r l) = _
  blk_ext [iblk, idx5w t]
theorem blk6 (r l : Fin 128) : (ins m c t).vm (ix2 r l) = V m c main_v24 (ix2 r ⟨3072 + (128 * (headOf t).val + l.val), by omega⟩) := by
  show iblk m c 6 t (ix2 r l) = _
  blk_ext [iblk, idx6w t]

end Cert.KernelIdeal.Hand
-- ==== Proof.Ref.lean ====
/-
  The reference's result, read at an index.
-/
module

public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Hand

open Cert.ReferenceIdeal Cert.ReferenceIdeal.Gen Idealize.ShloMosaic Idealize.ShloMosaic.TcCoe

variable (a0 a1 a2 a3 : FVec Ideal S64 .f32) (a4 : FVec Ideal S128 .f32) (a5 a6 : FVec Ideal S16x2048x8x2x64 .f32)
  (a7 : FVec Ideal S16x2048x8x128 .f32) (a8 : FVec Ideal S16x8x2x64 .f32) (a9 : FVec Ideal S16x8x128 .f32)

/-- All keys, the leading rows first. -/
def refK : FVec Ideal S16x2176x8x2x64 .f32 :=
  concatenate S16x2176x8x2x64 1 [⟨S16x128x8x2x64, (broadcastInDim S16x128x8x2x64 ![0, 1, 2, 3, 4] bcast_S1x128x8x2x64_S16x128x8x2x64_0_1_2_3_4 (broadcastInDim S1x128x8x2x64 ![1, 2, 3, 4] bcast_S128x8x2x64_S1x128x8x2x64_1_2_3_4 (concatenate S128x8x2x64 0 [⟨S112x8x2x64, (broadcastInDim S112x8x2x64 ![] bcast_S_S112x8x2x64 (constant S_ .f32 0x00000000#32))⟩, ⟨S16x8x2x64, a8⟩] concatenates_S112x8x2x64_S16x8x2x64_S128x8x2x64_d0)))⟩, ⟨S16x2048x8x2x64, a6⟩] concatenates_S16x128x8x2x64_S16x2048x8x2x64_S16x2176x8x2x64_d1

/-- All values. -/
def refV : FVec Ideal S16x2176x8x128 .f32 :=
  concatenate S16x2176x8x128 1 [⟨S16x128x8x128, (broadcastInDim S16x128x8x128 ![0, 1, 2, 3] bcast_S1x128x8x128_S16x128x8x128_0_1_2_3 (broadcastInDim S1x128x8x128 ![1, 2, 3] bcast_S128x8x128_S1x128x8x128_1_2_3 (concatenate S128x8x128 0 [⟨S112x8x128, (broadcastInDim S112x8x128 ![] bcast_S_S112x8x128 (constant S_ .f32 0x00000000#32))⟩, ⟨S16x8x128, a9⟩] concatenates_S112x8x128_S16x8x128_S128x8x128_d0)))⟩, ⟨S16x2048x8x128, a7⟩] concatenates_S16x128x8x128_S16x2048x8x128_S16x2176x8x128_d1

/-- What is added to a score: the padding rows are no keys. -/
def refMask : FVec Ideal S2176 .f32 :=
  select (cmpi .sge (iotaInDim S2176 32 0) (broadcastInDim S2176 ![] bcast_S_S2176 (constantI S_ 32 112#32))) (broadcastInDim S2176 ![] bcast_S_S2176 (constant S_ .f32 0x00000000#32)) (broadcastInDim S2176 ![] bcast_S_S2176 (constant S_ .f32 0xFF800000#32))

/-- The scores, -/
def refX : FVec Ideal S16x8x2x2048x2176 .f32 :=
  addf (mulf (Host.dotGeneral dot_S16x2048x8x2x64_S16x2176x8x2x64_S16x8x2x2048x2176_4_4_1_1_023_023 none a5 (refK a6 a8)) (broadcastInDim S16x8x2x2048x2176 ![] bcast_S_S16x8x2x2048x2176 (constant S_ .f32 0x3E000000#32))) (broadcastInDim S16x8x2x2048x2176 ![0, 1, 2, 3, 4] bcast_S1x1x1x1x2176_S16x8x2x2048x2176_0_1_2_3_4 (broadcastInDim S1x1x1x1x2176 ![4] bcast_S2176_S1x1x1x1x2176_4 (id refMask)))

/-- their maximum, -/
def refM : FVec Ideal S16x8x2x2048 .f32 :=
  maximumf (broadcastInDim S16x8x2x2048 ![] bcast_S_S16x8x2x2048 (constant S_ .f32 0xFF800000#32)) (Host.reduce FloatOps.maximumf (refX a5 a6 a8) (constant S_ .f32 0xFF800000#32) reducesTo_S16x8x2x2048x2176_S16x8x2x2048_d4 h_S_)

/-- the exponentials, -/
def refE : FVec Ideal S16x8x2x2048x2176 .f32 :=
  Host.exp (subf (refX a5 a6 a8) (broadcastInDim S16x8x2x2048x2176 ![0, 1, 2, 3, 4] bcast_S16x8x2x2048x1_S16x8x2x2048x2176_0_1_2_3_4 (broadcastInDim S16x8x2x2048x1 ![0, 1, 2, 3] bcast_S16x8x2x2048_S16x8x2x2048x1_0_1_2_3 (refM a5 a6 a8))))

/-- and the weights. -/
def refP : FVec Ideal S16x8x2x2048x2176 .f32 :=
  Host.divf (refE a5 a6 a8) (broadcastInDim S16x8x2x2048x2176 ![0, 1, 2, 3, 4] bcast_S16x8x2x2048x1_S16x8x2x2048x2176_0_1_2_3_4 (broadcastInDim S16x8x2x2048x1 ![0, 1, 2, 3] bcast_S16x8x2x2048_S16x8x2x2048x1_0_1_2_3 (Host.reduceAdd (refE a5 a6 a8) (constant S_ .f32 0x00000000#32) reducesTo_S16x8x2x2048x2176_S16x8x2x2048_d4 h_S_)))

/-- `λ`. -/
def refLam : FVec Ideal S_ .f32 :=
  addf (subf (Host.exp (Host.reduceAdd (mulf a0 a1) (constant S_ .f32 0x00000000#32) reducesTo_S64_S_d0 h_S_)) (Host.exp (Host.reduceAdd (mulf a2 a3) (constant S_ .f32 0x00000000#32) reducesTo_S64_S_d0 h_S_))) (constant S_ .f32 0x3E4CCCCD#32)

/-- The difference of the two maps, -/
def refD (p : FVec Ideal S16x8x2x2048x2176 .f32) (l : FVec Ideal S_ .f32) : FVec Ideal S16x8x2048x2176 .f32 :=
  subf (shapeCast _ (extractStridedSlice S16x8x1x2048x2176 ![0, 0, 0, 0, 0] p slices_S16x8x2x2048x2176_S16x8x1x2048x2176_0_0_0_0_0) shapeCasts_S16x8x1x2048x2176_S16x8x2048x2176) (mulf (broadcastInDim S16x8x2048x2176 ![] bcast_S_S16x8x2048x2176 l) (shapeCast _ (extractStridedSlice S16x8x1x2048x2176 ![0, 0, 1, 0, 0] p slices_S16x8x2x2048x2176_S16x8x1x2048x2176_0_0_1_0_0) shapeCasts_S16x8x1x2048x2176_S16x8x2048x2176))

/-- applied to the values. -/
def refU (v : FVec Ideal S16x2176x8x128 .f32) (w : FVec Ideal S16x8x2048x2176 .f32) : FVec Ideal S16x2048x8x128 .f32 :=
  transpose S16x2048x8x128 [0, 3, 1, 2] (Host.dotGeneral dot_S16x2176x8x128_S16x8x2048x2176_S16x8x128x2048_1_3_3_2_02_01 none v w) transposes_S16x8x128x2048_S16x2048x8x128_0_3_1_2

/-- The same, of the arguments. -/
def refO : FVec Ideal S16x2048x8x128 .f32 := refU (refV a7 a9) (refD (refP a5 a6 a8) (refLam a0 a1 a2 a3))

/-- The norm's factor, -/
def refR (o : FVec Ideal S16x2048x8x128 .f32) : FVec Ideal S16x2048x8x1 .f32 :=
  Host.rsqrt (addf (Host.divf (broadcastInDim S16x2048x8x1 ![0, 1, 2] bcast_S16x2048x8_S16x2048x8x1_0_1_2 (Host.reduceAdd (mulf o o) (constant S_ .f32 0x00000000#32) reducesTo_S16x2048x8x128_S16x2048x8_d3 h_S_)) (broadcastInDim S16x2048x8x1 ![] bcast_S_S16x2048x8x1 (constant S_ .f32 0x43000000#32))) (broadcastInDim S16x2048x8x1 ![] bcast_S_S16x2048x8x1 (constant S_ .f32 0x358637BD#32)))

/-- the normalized heads, -/
def refN (o : FVec Ideal S16x2048x8x128 .f32) (r : FVec Ideal S16x2048x8x1 .f32) (g : FVec Ideal S128 .f32) : FVec Ideal S16x2048x8x128 .f32 :=
  mulf (mulf (mulf o (broadcastInDim S16x2048x8x128 ![0, 1, 2, 3] bcast_S16x2048x8x1_S16x2048x8x128_0_1_2_3 r)) (broadcastInDim S16x2048x8x128 ![0, 1, 2, 3] bcast_S1x1x1x128_S16x2048x8x128_0_1_2_3 (broadcastInDim S1x1x1x128 ![3] bcast_S128_S1x1x1x128_3 g))) (broadcastInDim S16x2048x8x128 ![] bcast_S_S16x2048x8x128 (constant S_ .f32 0x3F4CCCCD#32))

/-- side by side. -/
def refJ (n : FVec Ideal S16x2048x8x128 .f32) : FVec Ideal S16x2048x1024 .bf16 :=
  truncf .bf16 (shapeCast _ n shapeCasts_S16x2048x8x128_S16x2048x1024) bitsLt_bf16_f32

/-- The result. -/
def refOut : FVec Ideal S16x2048x1024 .bf16 :=
  refJ (refN (refO a0 a1 a2 a3 a5 a6 a7 a8 a9) (refR (refO a0 a1 a2 a3 a5 a6 a7 a8 a9)) a4)

theorem res_eq (m : (ℓ : Loc nD τ sig) → Buf (Elt Ideal) ℓ) (c : Dev nD) :
    Value.res_main_v65 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := rfl

end Cert.ReferenceIdeal.Hand
-- ==== Proof.RefAt.lean ====
/-
  The reference's parts, each read at an index.
-/
module

public import proofs.«01_k».proof.Proof.Ref

@[expose] public section

set_option maxRecDepth 16384

noncomputable section

namespace Cert.ReferenceIdeal.Hand

open Cert.ReferenceIdeal Cert.ReferenceIdeal.Gen Idealize.ShloMosaic Idealize.ShloMosaic.TcCoe

variable (a0 a1 a2 a3 : FVec Ideal S64 .f32) (a4 : FVec Ideal S128 .f32) (a5 a6 : FVec Ideal S16x2048x8x2x64 .f32)
  (a7 : FVec Ideal S16x2048x8x128 .f32) (a8 : FVec Ideal S16x8x2x64 .f32) (a9 : FVec Ideal S16x8x128 .f32)

theorem refK_at (b : Fin 16) (n : Fin 2176) (h : Fin 8) (s : Fin 2) (d : Fin 64) : refK a6 a8 (ix5 b n h s d) =
    if h1 : n.val < 128 then if h2 : n.val < 112 then 0 else a8 (ix4 ⟨n.val - 112, by omega⟩ h s d) else a6 (ix5 b ⟨n.val - 128, by omega⟩ h s d) := by
  pointwise [refK]

theorem refV_at (b : Fin 16) (n : Fin 2176) (h : Fin 8) (d : Fin 128) : refV a7 a9 (ix4 b n h d) =
    if h1 : n.val < 128 then if h2 : n.val < 112 then 0 else a9 (ix3 ⟨n.val - 112, by omega⟩ h d) else a7 (ix4 b ⟨n.val - 128, by omega⟩ h d) := by
  pointwise [refV]

theorem sge_112 : ∀ n : Fin 2176, IntOp.cmpi .sge (BitVec.ofNat 32 n.val) 112#32 = if n.val < 112 then 0#1 else 1#1 := by
  decide +kernel

theorem refMask_at (n : Fin 2176) : refMask (ix1 n) = if n.val < 112 then Ideal.ofBits .f32 0xFF800000#32 else 0 := by
  pointwise [refMask]
  rw [sge_112 n]
  by_cases h : n.val < 112
  · rw [if_pos h, if_pos h]; rfl
  · rw [if_neg h, if_neg h]; rfl

theorem refX_at (b : Fin 16) (h : Fin 8) (s : Fin 2) (i : Fin 2048) (n : Fin 2176) : refX a5 a6 a8 (ix5 b h s i n) =
    (∑ x, a5 (ix5 b i h s x) * refK a6 a8 (ix5 b n h s x)) * Ideal.ofBits .f32 0x3E000000#32 + refMask (ix1 n) := by
  have : (id refMask : FVec Ideal S2176 .f32) = refMask := rfl
  unfold refX
  rw [this]
  generalize refMask = g
  generalize refK a6 a8 = k
  pointwise

theorem refE_at (b : Fin 16) (h : Fin 8) (s : Fin 2) (i : Fin 2048) (n : Fin 2176) : refE a5 a6 a8 (ix5 b h s i n) =
    Ideal.exp (refX a5 a6 a8 (ix5 b h s i n) - refM a5 a6 a8 (ix4 b h s i)) := by
  unfold refE
  generalize refX a5 a6 a8 = g
  generalize refM a5 a6 a8 = k
  pointwise

theorem refP_at (b : Fin 16) (h : Fin 8) (s : Fin 2) (i : Fin 2048) (n : Fin 2176) : refP a5 a6 a8 (ix5 b h s i n) =
    Ideal.div (refE a5 a6 a8 (ix5 b h s i n)) (∑ x, refE a5 a6 a8 (ix5 b h s i x)) := by
  unfold refP
  generalize refE a5 a6 a8 = g
  pointwise

theorem refLam_at : refLam a0 a1 a2 a3 ix0 = Ideal.exp (∑ x, a0 (ix1 x) * a1 (ix1 x)) - Ideal.exp (∑ x, a2 (ix1 x) * a3 (ix1 x)) +
      Ideal.ofBits .f32 0x3E4CCCCD#32 := by
  pointwise [refLam]

/-- The maximum along the last of five axes. -/
theorem max_last {n0 n1 n2 n3 n4 : Nat} {u : Shape} (g : FVec Ideal ⟨5, ![n0, n1, n2, n3, n4]⟩ .f32) (c : FVec Ideal u .f32)
    (hr : (⟨5, ![n0, n1, n2, n3, n4]⟩ : Shape).ReducesTo [4] ⟨4, ![n0, n1, n2, n3]⟩) (hu : 0 < u.numel)
    (b : Fin n0) (h : Fin n1) (s : Fin n2) (i : Fin n3) :
    (Host.reduce (FloatOps.maximumf (F := Ideal) (φ := .f32)) g c hr hu : FVec Ideal ⟨4, ![n0, n1, n2, n3]⟩ .f32) (ix4 b h s i) =
    Finset.fold (FloatOps.maximumf (F := Ideal) (φ := .f32)) (c (Shape.Idx.first hu)) (fun x => g (ix5 b h s i x)) Finset.univ :=
  (Host.reduce_eq_fold _ _ _ _ _ _).trans (Shape.ReducesTo.fold_fiber_r5_a4 hr (ix4 b h s i) _ _ g)

theorem max_red (g : FVec Ideal S16x8x2x2048x2176 .f32) (b : Fin 16) (h : Fin 8) (s : Fin 2) (i : Fin 2048) :
    (Host.reduce (FloatOps.maximumf (F := Ideal) (φ := .f32)) g (constant S_ .f32 0xFF800000#32) reducesTo_S16x8x2x2048x2176_S16x8x2x2048_d4 h_S_ : FVec Ideal S16x8x2x2048 .f32) (ix4 b h s i) =
    Finset.fold max (Ideal.ofBits .f32 0xFF800000#32) (fun x => g (ix5 b h s i x)) Finset.univ :=
  max_last (n0 := 16) (n1 := 8) (n2 := 2) (n3 := 2048) (n4 := 2176) g (constant S_ .f32 0xFF800000#32) reducesTo_S16x8x2x2048x2176_S16x8x2x2048_d4 h_S_ b h s i

theorem ofBits_bot : Ideal.ofBits .f32 0xFF800000#32 = (⊥ : EReal) := by simp [Ideal.ofBits, Ideal.ieee]

theorem fold_le {n : ℕ} (f : Fin n → EReal) (B : EReal) : Finset.fold max (Ideal.ofBits .f32 0xFF800000#32) f Finset.univ ≤ B ↔ ∀ x, f x ≤ B := by
  rw [ofBits_bot, Finset.fold_max_le]
  exact ⟨fun h x => h.2 x (Finset.mem_univ x), fun h => ⟨bot_le, fun x _ => h x⟩⟩

theorem maximumf_at {t : Shape} (x y : FVec Ideal t .f32) (j : t.Idx) : maximumf x y j = max (x j : EReal) (y j) := rfl

theorem refM_le (b : Fin 16) (h : Fin 8) (s : Fin 2) (i : Fin 2048) (B : EReal) : refM a5 a6 a8 (ix4 b h s i) ≤ B ↔
    ∀ x, refX a5 a6 a8 (ix5 b h s i x) ≤ B := by
  have e : ∀ g : FVec Ideal S16x8x2x2048x2176 .f32, (maximumf (broadcastInDim S16x8x2x2048 ![] bcast_S_S16x8x2x2048 (constant S_ .f32 0xFF800000#32))
      (Host.reduce FloatOps.maximumf g (constant S_ .f32 0xFF800000#32) reducesTo_S16x8x2x2048x2176_S16x8x2x2048_d4 h_S_) : FVec Ideal S16x8x2x2048 .f32) (ix4 b h s i) ≤ B ↔
      ∀ x, g (ix5 b h s i x) ≤ B := by
    intro g
    rw [maximumf_at, max_red, max_le_iff, fold_le]
    exact ⟨fun h => h.2, fun h => ⟨le_of_eq_of_le ofBits_bot bot_le, h⟩⟩
  unfold refM
  exact e _

theorem refD_at (p : FVec Ideal S16x8x2x2048x2176 .f32) (l : FVec Ideal S_ .f32) (b : Fin 16) (h : Fin 8) (i : Fin 2048) (n : Fin 2176) :
    refD p l (ix4 b h i n) = p (ix5 b h 0 i n) - l ix0 * p (ix5 b h 1 i n) := by
  unfold refD
  pointwise

theorem refU_at (v : FVec Ideal S16x2176x8x128 .f32) (w : FVec Ideal S16x8x2048x2176 .f32) (b : Fin 16) (i : Fin 2048) (h : Fin 8) (d : Fin 128) :
    refU v w (ix4 b i h d) = ∑ x, v (ix4 b x h d) * w (ix4 b h i x) := by
  unfold refU
  pointwise

theorem refO_at (b : Fin 16) (i : Fin 2048) (h : Fin 8) (d : Fin 128) : refO a0 a1 a2 a3 a5 a6 a7 a8 a9 (ix4 b i h d) =
    ∑ x, refV a7 a9 (ix4 b x h d) * (refP a5 a6 a8 (ix5 b h 0 i x) - refLam a0 a1 a2 a3 ix0 * refP a5 a6 a8 (ix5 b h 1 i x)) :=
  (refU_at _ _ b i h d).trans (Finset.sum_congr rfl fun x _ => congrArg _ (refD_at _ _ b h i x))

theorem refR_at (o : FVec Ideal S16x2048x8x128 .f32) (b : Fin 16) (i : Fin 2048) (h : Fin 8) :
    refR o (ix4 b i h 0) = Ideal.rsqrt (Ideal.div (∑ x, o (ix4 b i h x) * o (ix4 b i h x)) (Ideal.ofBits .f32 0x43000000#32) + Ideal.ofBits .f32 0x358637BD#32) := by
  unfold refR
  pointwise

theorem refN_at (o : FVec Ideal S16x2048x8x128 .f32) (r : FVec Ideal S16x2048x8x1 .f32) (g : FVec Ideal S128 .f32) (b : Fin 16) (i : Fin 2048) (h : Fin 8) (d : Fin 128) :
    refN o r g (ix4 b i h d) = o (ix4 b i h d) * r (ix4 b i h 0) * g (ix1 d) * Ideal.ofBits .f32 0x3F4CCCCD#32 := by
  unfold refN
  pointwise

theorem refJ_at (n : FVec Ideal S16x2048x8x128 .f32) (b : Fin 16) (i : Fin 2048) (l : Fin 1024) :
    refJ n (ix3 b i l) = n (ix4 b i ⟨l.val / 128, by omega⟩ ⟨l.val % 128, by omega⟩) := by
  unfold refJ
  pointwise

theorem refOut_at (b : Fin 16) (i : Fin 2048) (l : Fin 1024) (h : Fin 8) (d : Fin 128) (h1 : l.val / 128 = h.val) (h2 : l.val % 128 = d.val) :
    refOut a0 a1 a2 a3 a4 a5 a6 a7 a8 a9 (ix3 b i l) =
    refO a0 a1 a2 a3 a5 a6 a7 a8 a9 (ix4 b i h d) * Ideal.rsqrt (Ideal.div (∑ x, refO a0 a1 a2 a3 a5 a6 a7 a8 a9 (ix4 b i h x) *
      refO a0 a1 a2 a3 a5 a6 a7 a8 a9 (ix4 b i h x)) (Ideal.ofBits .f32 0x43000000#32) + Ideal.ofBits .f32 0x358637BD#32) * a4 (ix1 d) * Ideal.ofBits .f32 0x3F4CCCCD#32 := by
  unfold refOut
  rw [refJ_at, refN_at, refR_at]
  have e1 : (⟨l.val / 128, by omega⟩ : Fin 8) = h := Fin.ext h1
  have e2 : (⟨l.val % 128, by omega⟩ : Fin 128) = d := Fin.ext h2
  rw [e1, e2]

end Cert.ReferenceIdeal.Hand

end
-- ==== Proof.RefVal.lean ====
/-
  The reference at an index over the extended reals, its arguments real but for the gain.
-/
module

public import proofs.«01_k».proof.Proof.RefAt
public import proofs.«01_k».proof.Proof.RealArgs

@[expose] public section

set_option maxRecDepth 16384

noncomputable section

namespace Cert.ReferenceIdeal.Hand

open Cert.ReferenceIdeal Cert.ReferenceIdeal.Gen Idealize.ShloMosaic Idealize.ShloMosaic.TcCoe
open Cert.Core

variable {a0 a1 a2 a3 : FVec Ideal S64 .f32} (a4 : FVec Ideal S128 .f32) {a5 a6 : FVec Ideal S16x2048x8x2x64 .f32}
  {a7 : FVec Ideal S16x2048x8x128 .f32} {a8 : FVec Ideal S16x8x2x64 .f32} {a9 : FVec Ideal S16x8x128 .f32} {A : Args}

variable (b : Fin 16) (h : Fin 8) (i : Fin 2048)

theorem refX_placed (h5 : ∀ b i h s x, a5 (ix5 b i h s x) = (A.r5 b i h s x : EReal)) (h6 : ∀ b i h s x, a6 (ix5 b i h s x) = (A.r6 b i h s x : EReal))
    (h8 : ∀ r h s x, a8 (ix4 r h s x) = (A.r8 r h s x : EReal)) (mp : Bool) (n : Fin 2176) :
    refX a5 a6 a8 (ix5 b h (sm mp) i n) = placed ⊥ (xmR A b h mp i) (xkR A b h mp i) n := by
  rw [refX_at, refMask_at]
  simp only [refK_at]
  revert n
  refine placed_cases ⊥ (xmR A b h mp i) (xkR A b h mp i) (fun r hr => ?_) (fun r hr => ?_) (fun r hr => ?_)
  · rw [placed_pad, if_pos r.isLt, ofBits_bot, EReal.add_bot]
  · rw [placed_m, if_neg (by show ¬ 112 + r.val < 112; omega), add_zero, ofBits_eighth, xmR, ← score_r]
    refine congrArg (· * _) (Finset.sum_congr rfl fun x _ => ?_)
    rw [dif_pos (by show 112 + r.val < 128; omega), dif_neg (by show ¬ 112 + r.val < 112; omega), h5, h8]
    have : (⟨112 + r.val - 112, by omega⟩ : Fin 16) = r := Fin.ext (by show 112 + r.val - 112 = r.val; omega)
    rw [this]
  · rw [placed_k, if_neg (by show ¬ 112 + 16 + r.val < 112; omega), add_zero, ofBits_eighth, xkR, ← score_r]
    refine congrArg (· * _) (Finset.sum_congr rfl fun x _ => ?_)
    rw [dif_neg (by show ¬ 112 + 16 + r.val < 128; omega), h5, h6]
    have : (⟨112 + 16 + r.val - 128, by omega⟩ : Fin 2048) = r := Fin.ext (by show 112 + 16 + r.val - 128 = r.val; omega)
    rw [this]

theorem refE_placed (h5 : ∀ b i h s x, a5 (ix5 b i h s x) = (A.r5 b i h s x : EReal)) (h6 : ∀ b i h s x, a6 (ix5 b i h s x) = (A.r6 b i h s x : EReal))
    (h8 : ∀ r h s x, a8 (ix4 r h s x) = (A.r8 r h s x : EReal)) (mp : Bool) (n : Fin 2176) :
    refE a5 a6 a8 (ix5 b h (sm mp) i n) = placed 0 (wm (xmR A b h mp i) (xkR A b h mp i)) (wk (xmR A b h mp i) (xkR A b h mp i)) n := by
  rw [refE_at]
  exact ref_exp _ _ (fun n => refX a5 a6 a8 (ix5 b h (sm mp) i n)) (refX_placed b h i h5 h6 h8 mp) _
    (ref_max _ _ (fun n => refX a5 a6 a8 (ix5 b h (sm mp) i n)) (refX_placed b h i h5 h6 h8 mp) _ fun B => refM_le a5 a6 a8 b h (sm mp) i B) n

theorem refV_placed (h7 : ∀ b i h d, a7 (ix4 b i h d) = (A.r7 b i h d : EReal)) (h9 : ∀ r h d, a9 (ix3 r h d) = (A.r9 r h d : EReal))
    (d : Fin 128) (n : Fin 2176) : refV a7 a9 (ix4 b n h d) = placed 0 (vmR A h d) (vkR A b h d) n := by
  rw [refV_at]
  revert n
  refine placed_cases 0 (vmR A h d) (vkR A b h d) (fun r hr => ?_) (fun r hr => ?_) (fun r hr => ?_)
  · rw [placed_pad, dif_pos (by show r.val < 128; omega), dif_pos r.isLt]
  · rw [placed_m, dif_pos (by show 112 + r.val < 128; omega), dif_neg (by show ¬ 112 + r.val < 112; omega), h9]
    have : (⟨112 + r.val - 112, by omega⟩ : Fin 16) = r := Fin.ext (by show 112 + r.val - 112 = r.val; omega)
    rw [this]; rfl
  · rw [placed_k, dif_neg (by show ¬ 112 + 16 + r.val < 128; omega), h7]
    have : (⟨112 + 16 + r.val - 128, by omega⟩ : Fin 2048) = r := Fin.ext (by show 112 + 16 + r.val - 128 = r.val; omega)
    rw [this]; rfl

/-- A query's difference of weighted means. -/
def diffR (A : Args) (b : Fin 16) (h : Fin 8) (i : Fin 2048) (d : Fin 128) : EReal :=
  (wsumv (xmR A b h false i) (xkR A b h false i) (vmR A h d) (vkR A b h d) : EReal) * Ideal.div 1 (wsum (xmR A b h false i) (xkR A b h false i) : EReal)
    - (wsumv (xmR A b h true i) (xkR A b h true i) (vmR A h d) (vkR A b h d) : EReal) * Ideal.div (lamR A : EReal) (wsum (xmR A b h true i) (xkR A b h true i) : EReal)

variable (h0 : ∀ x, a0 (ix1 x) = (A.r0 x : EReal)) (h1 : ∀ x, a1 (ix1 x) = (A.r1 x : EReal)) (h2 : ∀ x, a2 (ix1 x) = (A.r2 x : EReal))
  (h3 : ∀ x, a3 (ix1 x) = (A.r3 x : EReal)) (h5 : ∀ b i h s x, a5 (ix5 b i h s x) = (A.r5 b i h s x : EReal))
  (h6 : ∀ b i h s x, a6 (ix5 b i h s x) = (A.r6 b i h s x : EReal)) (h7 : ∀ b i h d, a7 (ix4 b i h d) = (A.r7 b i h d : EReal))
  (h8 : ∀ r h s x, a8 (ix4 r h s x) = (A.r8 r h s x : EReal)) (h9 : ∀ r h d, a9 (ix3 r h d) = (A.r9 r h d : EReal))
include h0 h1 h2 h3 h5 h6 h7 h8 h9

theorem refO_val (d : Fin 128) : refO a0 a1 a2 a3 a5 a6 a7 a8 a9 (ix4 b i h d) = diffR A b h i d := by
  have hl : refLam a0 a1 a2 a3 ix0 = (lamR A : EReal) := (refLam_at a0 a1 a2 a3).trans (lam_eq A _ _ _ _ h0 h1 h2 h3)
  have hp : ∀ (mp : Bool) (n : Fin 2176), refP a5 a6 a8 (ix5 b h (sm mp) i n) =
      Ideal.div (refE a5 a6 a8 (ix5 b h (sm mp) i n)) (wsum (xmR A b h mp i) (xkR A b h mp i) : EReal) := fun mp n => by
    rw [refP_at]
    exact congrArg (Ideal.div _) (ref_sum _ _ _ (refE_placed b h i h5 h6 h8 mp))
  rw [refO_at, hl]
  refine Eq.trans (Finset.sum_congr rfl fun n _ => ?_) (combine _ _ _ _ _ _ (lamR A) _ _ _ (refV_placed b h h7 h9 d)
    (refE_placed b h i h5 h6 h8 false) (refE_placed b h i h5 h6 h8 true))
  exact congrArg₂ (fun u v => _ * (u - _ * v)) (hp false n) (hp true n)

theorem refOut_val (l : Fin 1024) (d : Fin 128) (e1 : l.val / 128 = h.val) (e2 : l.val % 128 = d.val) :
    refOut a0 a1 a2 a3 a4 a5 a6 a7 a8 a9 (ix3 b i l) =
      diffR A b h i d * Ideal.rsqrt (Ideal.div (∑ x, diffR A b h i x * diffR A b h i x) (Ideal.ofBits .f32 0x43000000#32)
        + Ideal.ofBits .f32 0x358637BD#32) * a4 (ix1 d) * Ideal.ofBits .f32 0x3F4CCCCD#32 := by
  rw [refOut_at (h1 := e1) (h2 := e2)]
  simp only [refO_val b h i h0 h1 h2 h3 h5 h6 h7 h8 h9]

end Cert.ReferenceIdeal.Hand
-- ==== Proof.InsVal.lean ====
/-
  The fetched blocks of real arguments are real, and so the result's block is the reference's.
-/
module

public import proofs.«01_k».proof.Proof.InsAt
public import proofs.«01_k».proof.Proof.RefVal

@[expose] public section

set_option maxRecDepth 16384

noncomputable section

namespace Cert.KernelIdeal.Hand

open Cert.KernelIdeal Cert.KernelIdeal.Gen
open Idealize.ShloMosaic Idealize.ShloMosaic.TcCoe
open Cert.Core

variable (m : (ℓ : Loc nD τ sig) → Buf (Elt Ideal) ℓ) (c : Dev nD) (t : Fin cfg0.N)

theorem hostScale_at : hostScale ix0 = ((1 / 8 * (1 / Real.log 2) : ℝ) : EReal) := by
  have e : hostScale ix0 = Ideal.div (Ideal.ofBits .f32 0x3E000000#32) (Ideal.log (Ideal.ofBits .f32 0x40000000#32)) := by pointwise [hostScale]
  have hl : Ideal.log ((2 : ℝ) : EReal) = ((Real.log 2 : ℝ) : EReal) := if_neg (by norm_num)
  rw [e, ofBits_eighth, ofBits_two, hl, Ideal.div_coe (Real.log_pos (by norm_num)).ne', ← EReal.coe_mul]

variable {A : Args}

/-- The arguments are these reals, the gain apart. -/
structure IsArgs (A : Args) (a0 a1 a2 a3 : FVec Ideal S64 .f32) (a5 a6 : FVec Ideal S16x2048x8x2x64 .f32)
    (a7 : FVec Ideal S16x2048x8x128 .f32) (a8 : FVec Ideal S16x8x2x64 .f32) (a9 : FVec Ideal S16x8x128 .f32) : Prop where
  h0 : ∀ x, a0 (ix1 x) = (A.r0 x : EReal)
  h1 : ∀ x, a1 (ix1 x) = (A.r1 x : EReal)
  h2 : ∀ x, a2 (ix1 x) = (A.r2 x : EReal)
  h3 : ∀ x, a3 (ix1 x) = (A.r3 x : EReal)
  h5 : ∀ b i h s x, a5 (ix5 b i h s x) = (A.r5 b i h s x : EReal)
  h6 : ∀ b i h s x, a6 (ix5 b i h s x) = (A.r6 b i h s x : EReal)
  h7 : ∀ b i h d, a7 (ix4 b i h d) = (A.r7 b i h d : EReal)
  h8 : ∀ r h s x, a8 (ix4 r h s x) = (A.r8 r h s x : EReal)
  h9 : ∀ r h d, a9 (ix3 r h d) = (A.r9 r h d : EReal)

abbrev ArgsAt (A : Args) : Prop := IsArgs A (m ((c : Thread nD τ).loc main_arg0)) (m ((c : Thread nD τ).loc main_arg1)) (m ((c : Thread nD τ).loc main_arg2))
  (m ((c : Thread nD τ).loc main_arg3)) (m ((c : Thread nD τ).loc main_arg5)) (m ((c : Thread nD τ).loc main_arg6)) (m ((c : Thread nD τ).loc main_arg7))
  (m ((c : Thread nD τ).loc main_arg8)) (m ((c : Thread nD τ).loc main_arg9))

variable {m c} (H : ArgsAt m c A)
include H

theorem q_at (mp : Bool) (i : Fin 2048) (x : Fin 64) (hx) : (ins m c t).q (ix3 0 i ⟨64 * (sm mp).val + x.val, hx⟩) =
    (A.r5 (rowOf t) i (headOf t) (sm mp) x : EReal) * ((1 / 8 * (1 / Real.log 2) : ℝ) : EReal) := by
  have hs := (sm mp).isLt
  rw [blk2, V_proj, join5_q (c := ⟨128 * (headOf t).val + (64 * (sm mp).val + x.val), by omega⟩),
    show (⟨128 * (headOf t).val + (64 * (sm mp).val + x.val), by omega⟩ : Fin 1024) = ⟨128 * (headOf t).val + 64 * (sm mp).val + x.val, by omega⟩ from
      Fin.ext (Nat.add_assoc _ _ _).symm, hostQ_at, H.h5, hostScale_at]
theorem k_at (mp : Bool) (i : Fin 2048) (x : Fin 64) (hx) : (ins m c t).k (ix3 0 i ⟨64 * (sm mp).val + x.val, hx⟩) =
    (A.r6 (rowOf t) i (headOf t) (sm mp) x : EReal) := by
  have hs := (sm mp).isLt
  rw [blk3, V_proj, join5_k (c := ⟨128 * (headOf t).val + (64 * (sm mp).val + x.val), by omega⟩),
    show (⟨128 * (headOf t).val + (64 * (sm mp).val + x.val), by omega⟩ : Fin 1024) = ⟨128 * (headOf t).val + 64 * (sm mp).val + x.val, by omega⟩ from
      Fin.ext (Nat.add_assoc _ _ _).symm, hostK_at, H.h6]
theorem km_at (mp : Bool) (r : Fin 16) (x : Fin 64) (hx) : (ins m c t).km (ix2 ⟨112 + r.val, by omega⟩ ⟨64 * (sm mp).val + x.val, hx⟩) =
    (A.r8 r (headOf t) (sm mp) x : EReal) := by
  have hs := (sm mp).isLt
  rw [blk5, V_lead, lead_at, joinM_k (c := ⟨128 * (headOf t).val + (64 * (sm mp).val + x.val), by omega⟩),
    show (⟨128 * (headOf t).val + (64 * (sm mp).val + x.val), by omega⟩ : Fin 1024) = ⟨128 * (headOf t).val + 64 * (sm mp).val + x.val, by omega⟩ from
      Fin.ext (Nat.add_assoc _ _ _).symm, metaK_at, H.h8]

theorem ins_reals : Reals (ins m c t) (xmR A (rowOf t) (headOf t)) (xkR A (rowOf t) (headOf t)) (vmR A (headOf t)) (vkR A (rowOf t) (headOf t)) (lamR A) where
  hm mp i r := by
    rw [half_sum mp (half mp) (fun l => by cases mp <;> exact Iff.rfl) (fun l => (ins m c t).km (ix2 ⟨112 + r.val, by omega⟩ l)) fun l => (ins m c t).q (ix3 0 i l)]
    simp only [km_at t H, q_at t H]
    exact score_k _ _
  hk mp i r := by
    rw [half_sum mp (half mp) (fun l => by cases mp <;> exact Iff.rfl) (fun l => (ins m c t).k (ix3 0 r l)) fun l => (ins m c t).q (ix3 0 i l)]
    simp only [k_at t H, q_at t H]
    exact score_k _ _
  hvm r d := by
    rw [blk6, V_lead, lead_at, joinM_v (c := ⟨128 * (headOf t).val + d.val, by omega⟩), metaV_at, H.h9]
    rfl
  hvk r d := by
    rw [blk4, V_proj, join5_v (c := ⟨128 * (headOf t).val + d.val, by omega⟩), hostV_at, H.h7]
    rfl
  hlam := by
    rw [lamTile_at]
    simp only [lamIn_at, blk0]
    exact lam_eq A _ _ _ _ (fun x => by rw [V_lam, lam4_0, H.h0]) (fun x => by rw [V_lam, lam4_1, H.h1]) (fun x => by rw [V_lam, lam4_2, H.h2])
      (fun x => by rw [V_lam, lam4_3, H.h3])

theorem out_at (i : Fin 2048) (d : Fin 128) : outFull (ins m c t) (ix3 0 i d) =
    Cert.ReferenceIdeal.Hand.refOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (ix3 (rowOf t) i ⟨128 * (headOf t).val + d.val, by omega⟩) := by
  rw [outFull_at (ins_reals t H), blk1, V_gain]
  exact (Cert.ReferenceIdeal.Hand.refOut_val (A := A) _ (rowOf t) (headOf t) i H.h0 H.h1 H.h2 H.h3 H.h5 H.h6 H.h7 H.h8 H.h9 _ d
    (by show (128 * (headOf t).val + d.val) / 128 = _; omega) (by show (128 * (headOf t).val + d.val) % 128 = _; omega)).symm

end Cert.KernelIdeal.Hand
-- ==== Proof.Alg.lean ====
/-
  The call leaves what the reference leaves.
-/
module

public import proofs.«01_k».proof.Proof.Frames
public import proofs.«01_k».proof.Proof.InsVal
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Cert.Core

variable (m : (ℓ : Loc nD τ sig) → Buf (Elt Ideal) ℓ) (c : Dev nD)

/-- What the reference leaves of the arguments. -/
abbrev want : FVec Ideal S16x2048x1024 .bf16 :=
  Cert.ReferenceIdeal.Hand.refOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

variable {m c} {A : Args} (H : ArgsAt m c A)
include H

theorem result : (dats m 0 c).arrAt 7 cfg0.N = want m c := by
  refine (dats m 0 c).arrAt_eq_of_covers 7 _ (by decide +kernel) fun t hf y => ?_
  blk_simp
  have hy : y = ix3 0 (y 1) (y 2) := by blk_ext
  show outFull (ins m c t) y = _
  rw [hy]
  have hl : 128 * (headOf t).val + (y 2).val < 1024 := by have : (y 2).val < 128 := (y 2).isLt; omega
  have key : ∀ G : FVec Ideal S16x2048x1024 .bf16, G (ix3 (rowOf t) (y 1) ⟨128 * (headOf t).val + (y 2).val, hl⟩) = G ((win0_7.blk t).view.emb (ix3 0 (y 1) (y 2))) := by
    intro G
    blk_ext [idx7w t]
  exact (out_at t H (y 1) (y 2)).trans (key _)

omit H in
theorem real_of (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  refine (EReal.coe_toReal ?_ ?_).symm
  · rintro rfl
    simp [Ideal.cmp] at h
  · rintro rfl
    simp [Ideal.cmp] at h

omit H in
theorem reals {S : Shape} (hb) (a : FVec Ideal S .f32) (h : cmpf .olt (Host.absf a) (broadcastInDim S ![] hb (constant S_ .f32 0x7F800000#32)) = fun _ => 1#1)
    (j : S.Idx) : a j = (((a j : EReal).toReal : ℝ) : EReal) :=
  real_of _ (congrFun h j)

end Cert.KernelIdeal.Hand

namespace Cert.Proof

open Cert.KernelIdeal Cert.KernelIdeal.Gen Cert.KernelIdeal.Hand
open Idealize.ShloMosaic Idealize.ShloMosaic.TcCoe

theorem args_of_pre [Cert.Pre_finite.Facts] (m : (ℓ : Loc nD τ sig) → Buf (Elt Ideal) ℓ) (hp : Cert.Pre_KernelIdeal_finite m) (c : Dev nD) :
    ∃ A, ArgsAt m c A := by
  obtain ⟨h0, h1, h2, h3, h5, h6, h7, h8, h9⟩ := hp c
  exact ⟨⟨_, _, _, _, _, _, _, _, _⟩, fun x => reals _ _ h0 _, fun x => reals _ _ h1 _, fun x => reals _ _ h2 _, fun x => reals _ _ h3 _,
    fun b i h s x => reals _ _ h5 _, fun b i h s x => reals _ _ h6 _, fun b i h d => reals _ _ h7 _, fun r h s x => reals _ _ h8 _,
    fun r h d => reals _ _ h9 _⟩

theorem algebraic [Cert.Pre_finite.Facts] : Cert.algebraic_KernelIdeal_ReferenceIdeal_pre_finite := fun m g m' g' hp ha => by
  refine ⟨fun c => want m c, ?_, ?_⟩
  · refine (θ_run defs _ _).mono (fun r h c => ⟨?_, ?_⟩) (run_main m g)
    · obtain ⟨A, hA⟩ := args_of_pre m hp c
      exact ((h.1 c).1 7).trans (result hA)
    · exact ⟨((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c),
        ((h.1 c).2 main_arg3 (Pipeline.mem_restRefs_of main_arg3 (by decide) (by decide))).trans (V_main_arg3 m c),
        ((h.1 c).2 main_arg4 (Pipeline.mem_restRefs_of main_arg4 (by decide) (by decide))).trans (V_main_arg4 m c),
        ((h.1 c).2 main_arg5 (Pipeline.mem_restRefs_of main_arg5 (by decide) (by decide))).trans (V_main_arg5 m c),
        ((h.1 c).2 main_arg6 (Pipeline.mem_restRefs_of main_arg6 (by decide) (by decide))).trans (V_main_arg6 m c),
        ((h.1 c).2 main_arg7 (Pipeline.mem_restRefs_of main_arg7 (by decide) (by decide))).trans (V_main_arg7 m c),
        ((h.1 c).2 main_arg8 (Pipeline.mem_restRefs_of main_arg8 (by decide) (by decide))).trans (V_main_arg8 m c),
        ((h.1 c).2 main_arg9 (Pipeline.mem_restRefs_of main_arg9 (by decide) (by decide))).trans (V_main_arg9 m c)⟩
  · refine (θ_run Cert.ReferenceIdeal.defs _ _).mono (fun r h c => ⟨?_, (h c).2⟩) (Cert.ReferenceIdeal.Value.run (F := Ideal) m' g')
    obtain ⟨e0, e1, e2, e3, e4, e5, e6, e7, e8, e9⟩ := ha c
    refine (h c).1.trans ((Cert.ReferenceIdeal.Hand.res_eq m' c).trans ?_)
    rw [e0, e1, e2, e3, e4, e5, e6, e7, e8, e9]

end Cert.Proof

end
-- ==== Proof.Layer.lean ====
/-
  Two steps of the block at one row, over the extended reals: the join of the two attentions and the feed-forward.
-/
module

public import Idealize.ShloMosaic.Lib.Pointwise
public import Idealize.ShloMosaic.Lib.Pipeline.ValueKit

@[expose] public section

noncomputable section

namespace Cert.Core

open Idealize.ShloMosaic

/-- A row divided by its root mean square, times the gain. -/
def normed (v g : Fin 1024 → EReal) (c : Fin 1024) : EReal :=
  v c * Ideal.rsqrt (Ideal.div (∑ k, v k * v k) (Ideal.ofBits .f32 0x44800000#32) + Ideal.ofBits .f32 0x358637BD#32) * g c

/-- One entry of the gated layer: `silu` of the first half's product times the second half's. -/
def gate (u : Fin 1024 → EReal) (w : Fin 1024 → Fin 5632 → EReal) (j : Fin 2816) : EReal :=
  (∑ k, u k * w k ⟨j.val, by omega⟩) * Ideal.logistic (∑ k, u k * w k ⟨j.val, by omega⟩) * ∑ k, u k * w k ⟨2816 + j.val, by omega⟩

/-- The feed-forward of a row, added to it. -/
def ffn (h g1 : Fin 1024 → EReal) (w : Fin 1024 → Fin 5632 → EReal) (w2 : Fin 2816 → Fin 1024 → EReal) (g2 : Fin 1024 → EReal) (c : Fin 1024) : EReal :=
  h c + normed (fun e => ∑ j, gate (normed h g1) w j * w2 j e) g2 c

/-- The two attentions' rows brought together and added to the row. -/
def merge (x s d gs gd : Fin 1024 → EReal) (ws wd wo : Fin 1024 → Fin 1024 → EReal) (g : Fin 1024 → EReal) (c : Fin 1024) : EReal :=
  x c + normed (fun e => ∑ j, (gs j * (∑ k, s k * ws k j) + gd j * ∑ k, d k * wd k j) * wo j e) g c

/-- A position in a unit rectangle of a matrix. -/
theorem idxAt {n m : Nat} (o s : Fin 2 → Nat) (inb) (x : (Rect.unit (s := ⟨2, ![n, m]⟩) o s inb).shape.Idx) (a : Fin n) (b : Fin m)
    (h0 : o 0 + (x 0).val = a.val) (h1 : o 1 + (x 1).val = b.val) : (Rect.unit (s := ⟨2, ![n, m]⟩) o s inb).idx x = ix2 a b :=
  funext fun
    | 0 => Fin.ext ((Rect.idx_unit_val (s := ⟨2, ![n, m]⟩) o s inb x (0 : Fin 2)).trans h0)
    | 1 => Fin.ext ((Rect.idx_unit_val (s := ⟨2, ![n, m]⟩) o s inb x (1 : Fin 2)).trans h1)

/-- A matrix index from its two coordinates. -/
theorem ofCoords {n m : Nat} (x : (⟨2, ![n, m]⟩ : Shape).Idx) (a : Fin n) (b : Fin m) (h0 : (x 0).val = a.val) (h1 : (x 1).val = b.val) : x = ix2 a b :=
  funext fun | 0 => Fin.ext h0 | 1 => Fin.ext h1

end Cert.Core

end
-- ==== Proof.MergeVal.lean ====
/-
  The merge call's grid point leaves the two attentions' rows brought together.
-/
module

public import proofs.«01_k».proof.Proof.Layer
public import proofs.«01_k».proof.Proof.Gen.KernelMergeIdeal.Value

@[expose] public section

set_option maxRecDepth 16384

noncomputable section

namespace Cert.KernelMergeIdeal.Hand

open Cert.KernelMergeIdeal Cert.KernelMergeIdeal.Gen
open Idealize.ShloMosaic Idealize.ShloMosaic.TcCoe Idealize.ShloMosaic.Tactic
open Cert.Core

/-! ## The body's values under one name each -/

/-- The gated sum of the two projected attentions, projected once more. -/
def mixRow (s : FVec Ideal S512x1024 .bf16) (ws : FVec Ideal S1024x1024 .bf16) (d : FVec Ideal S512x1024 .bf16) (wd : FVec Ideal S1024x1024 .bf16)
    (gs gd : FVec Ideal S512x1024 .bf16) (wo : FVec Ideal S1024x1024 .bf16) : FVec Ideal S512x1024 .f32 := k0_pay5 s ws d wd gs gd wo

/-- The rows with the normed sum added. -/
def addRow (y x : FVec Ideal S512x1024 .f32) (g : FVec Ideal S1x1024 .f32) : FVec Ideal S512x1024 .f32 :=
  k0_pay1 y x (divf (shapeCast S512x1 (multiReduction .add [1] S512 (mulf y y) 0x00000000#32 reduces_S512x1024_S512 (.inl rfl) rfl) shapeCasts_S512_S512x1)
    (broadcast S512x1 (Scalar.ofBits .f32 0x44800000#32))) g

variable (s d gs gd : FVec Ideal S512x1024 .bf16) (ws wd wo : FVec Ideal S1024x1024 .bf16) (x y : FVec Ideal S512x1024 .f32) (g : FVec Ideal S1x1024 .f32)

theorem ePay6 : k0_pay6 x = x := by unfold k0_pay6; exact shapeCast_self _ _
theorem ePay2 : k0_pay2 x = x := by unfold k0_pay2; exact shapeCast_self _ _

theorem eLow : k0_pay1 (k0_pay5 s ws d wd gs gd wo) x (k0_pay7 s ws d wd gs gd wo) g = addRow (mixRow s ws d wd gs gd wo) x g := rfl
theorem eHigh : k0_pay4 x (k0_pay3 s ws d wd gs gd wo) g = addRow (mixRow s ws d wd gs gd wo) x g := rfl

/-! ## At an index -/

theorem mixRow_at (r : Fin 512) (e : Fin 1024) : mixRow s ws d wd gs gd wo (ix2 r e) =
    ∑ j, (gs (ix2 r j) * (∑ k, s (ix2 r k) * ws (ix2 k j)) + gd (ix2 r j) * ∑ k, d (ix2 r k) * wd (ix2 k j)) * wo (ix2 j e) := by
  pointwise [mixRow, k0_pay5]

theorem addRow_at (r : Fin 512) (c : Fin 1024) : addRow y x g (ix2 r c) = x (ix2 r c) + normed (fun k => y (ix2 r k)) (fun k => g (ix2 0 k)) c := by
  unfold addRow normed k0_pay1
  pointwise

/-! ## The block -/

section
variable (X : FVec Ideal S1024x1024 .f32) (S D GS GD WS WD WO : FVec Ideal S1024x1024 .bf16) (g : FVec Ideal S1x1024 .f32)

/-- What the call leaves of the block's rows. -/
def result : FVec Ideal S1024x1024 .f32 := fun y =>
  merge (fun k => X (ix2 (y 0) k)) (fun k => S (ix2 (y 0) k)) (fun k => D (ix2 (y 0) k)) (fun k => GS (ix2 (y 0) k)) (fun k => GD (ix2 (y 0) k))
    (fun k j => WS (ix2 k j)) (fun k j => WD (ix2 k j)) (fun k j => WO (ix2 k j)) (fun k => g (ix2 0 k)) (y 1)

theorem out_piece (o : ℕ) (ho : o + 512 ≤ 1024) (i : ∀ a, ![o, 0] a + ![512, 1024] a ≤ S1024x1024.size a)
    (x : (Rect.unit (s := S1024x1024) ![o, 0] ![512, 1024] i).shape.Idx) :
    addRow (mixRow (View.ld (Val := Elt Ideal) (e' := .bf16) S (Rect.unit (s := S1024x1024) ![o, 0] ![512, 1024] i)) WS
        (View.ld (Val := Elt Ideal) (e' := .bf16) D (Rect.unit (s := S1024x1024) ![o, 0] ![512, 1024] i)) WD
        (View.ld (Val := Elt Ideal) (e' := .bf16) GS (Rect.unit (s := S1024x1024) ![o, 0] ![512, 1024] i))
        (View.ld (Val := Elt Ideal) (e' := .bf16) GD (Rect.unit (s := S1024x1024) ![o, 0] ![512, 1024] i)) WO)
      (View.ld (Val := Elt Ideal) (e' := .f32) X (Rect.unit (s := S1024x1024) ![o, 0] ![512, 1024] i)) g x =
      result X S D GS GD WS WD WO g ((Rect.unit (s := S1024x1024) ![o, 0] ![512, 1024] i).emb x) := by
  obtain ⟨r, c, rfl⟩ : ∃ (r : Fin 512) (c : Fin 1024), x = ix2 r c := ⟨x 0, x 1, ofCoords x _ _ rfl rfl⟩
  have he : (Rect.unit (s := S1024x1024) ![o, 0] ![512, 1024] i).emb (ix2 r c) = ix2 ⟨o + r.val, by omega⟩ c :=
    idxAt ![o, 0] ![512, 1024] i (ix2 r c) _ _ rfl (Nat.zero_add _)
  have hl : ∀ (Z : FVec Ideal S1024x1024 .bf16) (k : Fin 1024),
      (View.ld (Val := Elt Ideal) (e' := .bf16) Z (Rect.unit (s := S1024x1024) ![o, 0] ![512, 1024] i) : FVec Ideal S512x1024 .bf16) (ix2 r k) =
        Z (ix2 ⟨o + r.val, by omega⟩ k) := fun Z k => congrArg Z (idxAt ![o, 0] ![512, 1024] i (ix2 r k) _ k rfl (Nat.zero_add _))
  have hx : (View.ld (Val := Elt Ideal) (e' := .f32) X (Rect.unit (s := S1024x1024) ![o, 0] ![512, 1024] i) : FVec Ideal S512x1024 .f32) (ix2 r c) =
        X (ix2 ⟨o + r.val, by omega⟩ c) := congrArg X (idxAt ![o, 0] ![512, 1024] i (ix2 r c) _ c rfl (Nat.zero_add _))
  rw [he, addRow_at, hx]
  unfold result merge
  simp only [mixRow_at]
  refine congrArg (_ + ·) (congrArg (normed · _ c) (funext fun e => Finset.sum_congr rfl fun j _ => ?_))
  refine congrArg (· * _) (congrArg₂ (· + ·) (congrArg₂ (· * ·) (hl GS j) (Finset.sum_congr rfl fun k _ => congrArg (· * _) (hl S k)))
    (congrArg₂ (· * ·) (hl GD j) (Finset.sum_congr rfl fun k _ => congrArg (· * _) (hl D k))))

end

variable (m : (ℓ : Loc nD τ sig) → Buf (Elt Ideal) ℓ) (c : Dev nD) (t : Fin cfg0.N)

set_option maxHeartbeats 0 in
theorem point (y) : (dats m 0 c).after 9 t y = result (iblk m c 0 t) (iblk m c 1 t) (iblk m c 2 t) (X0_3 m c t) (X0_4 m c t) (iblk m c 5 t) (iblk m c 6 t)
    (iblk m c 7 t) (iblk m c 8 t) y := by
  rw [after0_9]
  unfold outsAt0
  frame_open
  frame_out
  simp only [ePay2, ePay6, eLow, eHigh]
  refine View.canon_apply_of_pieces (Val := Elt Ideal) (e := .f32) (S := S1024x1024) (result (iblk m c 0 t) (iblk m c 1 t) (iblk m c 2 t) (X0_3 m c t)
    (X0_4 m c t) (iblk m c 5 t) (iblk m c 6 t) (iblk m c 7 t) (iblk m c 8 t)) _ ?_ y ?_
  · exact List.forall_mem_cons.2 ⟨fun x => out_piece _ _ _ _ _ _ _ _ _ 512 (by omega) inb_S1024x1024_S512x1024_512_0 x,
      List.forall_mem_cons.2 ⟨fun x => out_piece _ _ _ _ _ _ _ _ _ 0 (by omega) inb_S1024x1024_S512x1024_0_0 x, by simp⟩⟩
  · by_cases h : (y 0).val < 512
    · exact ⟨_, List.mem_cons_of_mem _ List.mem_cons_self, (Rect.mem_set_unit (inb := inb_S1024x1024_S512x1024_0_0)).2 fun | 0 => ⟨Nat.zero_le _, by show (y 0).val < 0 + 512; omega⟩ | 1 => ⟨Nat.zero_le _, (y 1).isLt⟩⟩
    · exact ⟨_, List.mem_cons_self, (Rect.mem_set_unit (inb := inb_S1024x1024_S512x1024_512_0)).2 fun | 0 => ⟨Nat.not_lt.1 h, (y 0).isLt⟩ | 1 => ⟨Nat.zero_le _, (y 1).isLt⟩⟩

end Cert.KernelMergeIdeal.Hand

end
-- ==== Proof.MergeRef.lean ====
/-
  The merge's reference, read at an index.
-/
module

public import proofs.«01_k».proof.Proof.Layer
public import proofs.«01_k».proof.Proof.Gen.ReferenceMergeIdeal.Run

@[expose] public section

set_option maxRecDepth 16384

noncomputable section

namespace Cert.ReferenceMergeIdeal.Hand

open Cert.ReferenceMergeIdeal Cert.ReferenceMergeIdeal.Gen Idealize.ShloMosaic Idealize.ShloMosaic.TcCoe
open Cert.Core

/-- The rows divided by their root mean square, times the gain, -/
def refN (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

/-- a projection, -/
def refP (u : FVec Ideal S16x2048x1024 .f32) (w : FVec Ideal S1024x1024 .f32) : FVec Ideal S16x2048x1024 .f32 :=
  Host.dotGeneral dot_S16x2048x1024_S1024x1024_S16x2048x1024_2_0_01_1_n_n none u w

/-- the gated sum, -/
def refG (z : FVec Ideal S16x2048x2048 .f32) (a b : FVec Ideal S16x2048x1024 .f32) : FVec Ideal S16x2048x1024 .f32 :=
  addf (mulf (extractStridedSlice S16x2048x1024 ![0, 0, 0] z slices_S16x2048x2048_S16x2048x1024_0_0_0) a) (mulf (extractStridedSlice S16x2048x1024 ![0, 0, 1024] z slices_S16x2048x2048_S16x2048x1024_0_0_1024) b)

/-- and the rows with what is normed added, laid flat. -/
def refS (h n : FVec Ideal S16x2048x1024 .f32) : FVec Ideal S32768x1024 .f32 := shapeCast S32768x1024 (addf h n) shapeCasts_S16x2048x1024_S32768x1024

variable (x s d : FVec Ideal S16x2048x1024 .f32) (z : FVec Ideal S16x2048x2048 .f32) (ws wd wo : FVec Ideal S1024x1024 .f32) (g : FVec Ideal S1024 .f32)

def refOut : FVec Ideal S32768x1024 .f32 := refS x (refN (refP (refG z (refP s ws) (refP d wd)) wo) g)

/-! ## At an index -/

theorem refN_at (x : FVec Ideal S16x2048x1024 .f32) (g : FVec Ideal S1024 .f32) (b : Fin 16) (i : Fin 2048) (k : Fin 1024) :
    refN x g (ix3 b i k) = normed (fun k => x (ix3 b i k)) (fun k => g (ix1 k)) k := by
  unfold refN normed
  pointwise

theorem refP_at (u : FVec Ideal S16x2048x1024 .f32) (w : FVec Ideal S1024x1024 .f32) (b : Fin 16) (i : Fin 2048) (j : Fin 1024) :
    refP u w (ix3 b i j) = ∑ k, u (ix3 b i k) * w (ix2 k j) := by
  unfold refP
  pointwise

theorem refG_at (a b' : FVec Ideal S16x2048x1024 .f32) (b : Fin 16) (i : Fin 2048) (j : Fin 1024) : refG z a b' (ix3 b i j) =
    z (ix3 b i ⟨j.val, by omega⟩) * a (ix3 b i j) + z (ix3 b i ⟨1024 + j.val, by omega⟩) * b' (ix3 b i j) := by
  unfold refG
  pointwise

theorem refS_at (h n : FVec Ideal S16x2048x1024 .f32) (r : Fin 32768) (k : Fin 1024) : refS h n (ix2 r k) =
    h (ix3 ⟨r.val / 2048, by omega⟩ ⟨r.val % 2048, by omega⟩ k) + n (ix3 ⟨r.val / 2048, by omega⟩ ⟨r.val % 2048, by omega⟩ k) := by
  unfold refS
  pointwise

theorem refOut_at (r : Fin 32768) (k : Fin 1024) : refOut x s d z ws wd wo g (ix2 r k) =
    merge (fun k => x (ix3 ⟨r.val / 2048, by omega⟩ ⟨r.val % 2048, by omega⟩ k)) (fun k => s (ix3 ⟨r.val / 2048, by omega⟩ ⟨r.val % 2048, by omega⟩ k))
      (fun k => d (ix3 ⟨r.val / 2048, by omega⟩ ⟨r.val % 2048, by omega⟩ k)) (fun k => z (ix3 ⟨r.val / 2048, by omega⟩ ⟨r.val % 2048, by omega⟩ ⟨k.val, by omega⟩))
      (fun k => z (ix3 ⟨r.val / 2048, by omega⟩ ⟨r.val % 2048, by omega⟩ ⟨1024 + k.val, by omega⟩))
      (fun k j => ws (ix2 k j)) (fun k j => wd (ix2 k j)) (fun k j => wo (ix2 k j)) (fun k => g (ix1 k)) k := by
  unfold refOut merge
  rw [refS_at, refN_at]
  simp only [refP_at, refG_at]

end Cert.ReferenceMergeIdeal.Hand

end
-- ==== Proof.Merge.lean ====
/-
  The merge call: its runs, and that it leaves what the reference leaves.
-/
module

public import proofs.«01_k».proof.Defs
public import proofs.«01_k».proof.Proof.Gen.KernelMerge.Frame
public import proofs.«01_k».proof.Proof.Gen.ReferenceMergeIdeal.Run
public import proofs.«01_k».proof.Proof.MergeVal
public import proofs.«01_k».proof.Proof.MergeRef
public import Idealize.ShloMosaic.Lib.Claim
public import Idealize.ShloMosaic.Lib.StableHlo.RunRead

@[expose] public section

set_option maxRecDepth 16384

noncomputable section

namespace Cert.KernelMergeIdeal.Hand

open Cert.KernelMergeIdeal Cert.KernelMergeIdeal.Gen
open Idealize.ShloMosaic Idealize.ShloMosaic.TcCoe Idealize.ShloMosaic.Tactic
open Cert.Core

theorem idx0 : ∀ t : Fin cfg0.N, win0_0.index t = ![t.val % 32, 0] := (by decide +kernel : ∀ t : Fin grid0.N, _)
theorem idx1 : ∀ t : Fin cfg0.N, win0_1.index t = ![t.val % 32, 0] := (by decide +kernel : ∀ t : Fin grid0.N, _)
theorem idx2 : ∀ t : Fin cfg0.N, win0_2.index t = ![t.val % 32, 0] := (by decide +kernel : ∀ t : Fin grid0.N, _)
theorem idx3 : ∀ t : Fin cfg0.N, win0_3.index t = ![t.val % 32, 4] := (by decide +kernel : ∀ t : Fin grid0.N, _)
theorem idx4 : ∀ t : Fin cfg0.N, win0_4.index t = ![t.val % 32, 5] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val % 32, 0] := (by decide +kernel : ∀ t : Fin grid0.N, _)

/-- The projection's columns with the gates in their place. -/
def columns (p : FVec Ideal S16x2048x4096 .f32) (z : FVec Ideal S16x2048x2048 .f32) (q : FVec Ideal S16x2048x512 .f32) : FVec Ideal S32768x6656 .bf16 :=
  shapeCast S32768x6656 (truncf .bf16 (concatenate S16x2048x6656 2 [⟨S16x2048x4096, p⟩, ⟨S16x2048x2048, z⟩, ⟨S16x2048x512, q⟩]
    concatenates_S16x2048x4096_S16x2048x2048_S16x2048x512_S16x2048x6656_d2 : FVec Ideal S16x2048x6656 .f32) bitsLt_bf16_f32 : FVec Ideal S16x2048x6656 .bf16)
    shapeCasts_S16x2048x6656_S32768x6656

theorem columns_at (p z q) (r : Fin 32768) (j : Fin 2048) : columns p z q (ix2 r ⟨4096 + j.val, by omega⟩) =
    z (ix3 ⟨r.val / 2048, by omega⟩ ⟨r.val % 2048, by omega⟩ j) := by
  pointwise [columns]

variable (m : (ℓ : Loc nD τ sig) → Buf (Elt Ideal) ℓ) (c : Dev nD) (t : Fin cfg0.N)

/-- The flat row a grid point's row is. -/
abbrev flat (r : Fin 1024) : Fin 32768 := ⟨1024 * (t.val % 32) + r.val, by omega⟩

theorem blk0 (r k : Fin 1024) : iblk m c 0 t (ix2 r k) = V m c main_v4 (ix2 (flat t r) k) := by
  blk_ext [iblk, idx0 t]
theorem blk1 (r k : Fin 1024) : iblk m c 1 t (ix2 r k) = V m c main_v6 (ix2 (flat t r) k) := by
  blk_ext [iblk, idx1 t]
theorem blk2 (r k : Fin 1024) : iblk m c 2 t (ix2 r k) = V m c main_v8 (ix2 (flat t r) k) := by
  blk_ext [iblk, idx2 t]
theorem blk3 (r k : Fin 1024) : X0_3 m c t (ix2 r k) = V m c main_v9 (ix2 (flat t r) ⟨4096 + k.val, by omega⟩) := by
  unfold X0_3 Pipeline.Window.fill
  rw [dif_pos (moved0_3 t (ix2 r k))]
  blk_ext [iblk, idx3 t]
theorem blk4 (r k : Fin 1024) : X0_4 m c t (ix2 r k) = V m c main_v9 (ix2 (flat t r) ⟨5120 + k.val, by omega⟩) := by
  unfold X0_4 Pipeline.Window.fill
  rw [dif_pos (moved0_4 t (ix2 r k))]
  blk_ext [iblk, idx4 t]
theorem blk5 (j k : Fin 1024) : iblk m c 5 t (ix2 j k) = V m c main_v10 (ix2 j k) := by
  blk_ext [iblk, idx5 t]
theorem blk6 (j k : Fin 1024) : iblk m c 6 t (ix2 j k) = V m c main_v11 (ix2 j k) := by
  blk_ext [iblk, idx6 t]
theorem blk7 (j k : Fin 1024) : iblk m c 7 t (ix2 j k) = V m c main_v12 (ix2 j k) := by
  blk_ext [iblk, idx7 t]
theorem blk8 (k : Fin 1024) : iblk m c 8 t (ix2 0 k) = V m c main_v13 (ix2 0 k) := by
  blk_ext [iblk, idx8 t]

theorem host0 (r : Fin 32768) (k : Fin 1024) : V m c main_v4 (ix2 r k) = m ((c : Thread nD τ).loc main_arg0) (ix3 ⟨r.val / 2048, by omega⟩ ⟨r.val % 2048, by omega⟩ k) := by
  show StableHlo.after hostOps0 _ _ _ = _
  after_reads_simp
  pointwise
theorem host1 (r : Fin 32768) (k : Fin 1024) : V m c main_v6 (ix2 r k) = m ((c : Thread nD τ).loc main_arg1) (ix3 ⟨r.val / 2048, by omega⟩ ⟨r.val % 2048, by omega⟩ k) := by
  show StableHlo.after hostOps0 _ _ _ = _
  after_reads_simp
  pointwise
theorem host2 (r : Fin 32768) (k : Fin 1024) : V m c main_v8 (ix2 r k) = m ((c : Thread nD τ).loc main_arg2) (ix3 ⟨r.val / 2048, by omega⟩ ⟨r.val % 2048, by omega⟩ k) := by
  show StableHlo.after hostOps0 _ _ _ = _
  after_reads_simp
  pointwise
set_option maxHeartbeats 0 in
theorem V_columns : V m c main_v9 = columns (broadcastInDim S16x2048x4096 ![] bcast_S_S16x2048x4096 (constant S_ .f32 0x00000000#32))
    (m ((c : Thread nD τ).loc main_arg3)) (broadcastInDim S16x2048x512 ![] bcast_S_S16x2048x512 (constant S_ .f32 0x00000000#32)) := by
  show StableHlo.after hostOps0 _ _ = _
  after_reads_simp
  rfl
theorem host3 (r : Fin 32768) (j : Fin 2048) : V m c main_v9 (ix2 r ⟨4096 + j.val, by omega⟩) = m ((c : Thread nD τ).loc main_arg3) (ix3 ⟨r.val / 2048, by omega⟩ ⟨r.val % 2048, by omega⟩ j) := by
  rw [V_columns]
  exact columns_at _ _ _ r j
theorem host4 (j k : Fin 1024) : V m c main_v10 (ix2 j k) = m ((c : Thread nD τ).loc main_arg4) (ix2 j k) := by
  show StableHlo.after hostOps0 _ _ _ = _
  after_reads_simp
  pointwise
theorem host5 (j k : Fin 1024) : V m c main_v11 (ix2 j k) = m ((c : Thread nD τ).loc main_arg5) (ix2 j k) := by
  show StableHlo.after hostOps0 _ _ _ = _
  after_reads_simp
  pointwise
theorem host6 (j k : Fin 1024) : V m c main_v12 (ix2 j k) = m ((c : Thread nD τ).loc main_arg6) (ix2 j k) := by
  show StableHlo.after hostOps0 _ _ _ = _
  after_reads_simp
  pointwise
theorem host7 (k : Fin 1024) : V m c main_v13 (ix2 0 k) = m ((c : Thread nD τ).loc main_arg7) (ix1 k) := by
  show StableHlo.after hostOps0 _ _ _ = _
  after_reads_simp
  pointwise

/-- What the reference leaves of the arguments. -/
abbrev want : FVec Ideal S32768x1024 .f32 :=
  Cert.ReferenceMergeIdeal.Hand.refOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7))

theorem merge_congr {x x' s s' d d' gs gs' gd gd' : Fin 1024 → EReal} {ws ws' wd wd' wo wo' : Fin 1024 → Fin 1024 → EReal} {g g' : Fin 1024 → EReal}
    (k : Fin 1024) (hx : x = x') (hs : s = s') (hd : d = d') (hgs : gs = gs') (hgd : gd = gd') (hws : ws = ws') (hwd : wd = wd') (hwo : wo = wo')
    (hg : g = g') : merge x s d gs gd ws wd wo g k = merge x' s' d' gs' gd' ws' wd' wo' g' k := by
  subst hx hs hd hgs hgd hws hwd hwo hg
  rfl

theorem point_want (r k : Fin 1024) : result (iblk m c 0 t) (iblk m c 1 t) (iblk m c 2 t) (X0_3 m c t) (X0_4 m c t) (iblk m c 5 t) (iblk m c 6 t) (iblk m c 7 t)
    (iblk m c 8 t) (ix2 r k) = want m c (ix2 (flat t r) k) := by
  refine Eq.trans ?_ (Cert.ReferenceMergeIdeal.Hand.refOut_at _ _ _ _ _ _ _ _ (flat t r) k).symm
  exact merge_congr k (funext fun e => (blk0 m c t r e).trans (host0 m c _ e)) (funext fun e => (blk1 m c t r e).trans (host1 m c _ e))
    (funext fun e => (blk2 m c t r e).trans (host2 m c _ e)) (funext fun e => (blk3 m c t r e).trans (host3 m c _ ⟨e.val, by omega⟩))
    (funext fun e => (blk4 m c t r e).trans ((congrArg (fun j => V m c main_v9 (ix2 (flat t r) j)) (Fin.ext (by show 5120 + e.val = 4096 + (1024 + e.val); omega))).trans
      (host3 m c (flat t r) ⟨1024 + e.val, by omega⟩)))
    (funext fun j => funext fun e => (blk5 m c t j e).trans (host4 m c j e)) (funext fun j => funext fun e => (blk6 m c t j e).trans (host5 m c j e))
    (funext fun j => funext fun e => (blk7 m c t j e).trans (host6 m c j e)) (funext fun e => (blk8 m c t e).trans (host7 m c e))

theorem final : (dats m 0 c).arrAt 9 cfg0.N = want m c := by
  refine (dats m 0 c).arrAt_eq_of_covers 9 _ (by decide +kernel) fun t hf y => ?_
  blk_simp
  rw [point]
  have hy : y = ix2 (y 0) (y 1) := by blk_ext
  rw [hy]
  have key : ∀ G : FVec Ideal S32768x1024 .f32, G (ix2 (flat t (y 0)) (y 1)) = G ((win0_9.blk t).view.emb (ix2 (y 0) (y 1))) := by
    intro G
    blk_ext [idx9 t]
  exact (point_want m c t (y 0) (y 1)).trans (key _)

end Cert.KernelMergeIdeal.Hand

namespace Cert.Proof

open Idealize.ShloMosaic Idealize.ShloMosaic.TcCoe

theorem merge_frame : Cert.quiescent_KernelMerge := fun m ρ _ => Cert.KernelMerge.Gen.frame m ρ
theorem merge_frame_ideal : Cert.quiescent_KernelMergeIdeal := fun m ρ _ => Cert.KernelMergeIdeal.Gen.frame m ρ
theorem merge_frame_reference : Cert.quiescent_ReferenceMergeIdeal := fun m ρ _ =>
  (θ_run Cert.ReferenceMergeIdeal.defs _ _).mono (fun r h => ⟨fun c => (h c).2, sem_eq_zero_of_no_sems (by decide) r.2⟩)
    (Cert.ReferenceMergeIdeal.Value.run (F := Ideal) m ρ)

open Cert.KernelMergeIdeal.Hand in
theorem merge_algebraic : Cert.algebraic_KernelMergeIdeal_ReferenceMergeIdeal := fun m g m' g' hp ha => by
  refine ⟨fun c => want m c, ?_, ?_⟩
  · exact (θ_run Cert.KernelMergeIdeal.defs _ _).mono (fun r h c => ⟨(h c).1.trans (final m c), (h c).2⟩) (Cert.KernelMergeIdeal.Value.run_blocks m g)
  · refine (θ_run Cert.ReferenceMergeIdeal.defs _ _).mono (fun r h c => ⟨?_, (h c).2⟩) (Cert.ReferenceMergeIdeal.Value.run (F := Ideal) m' g')
    obtain ⟨e0, e1, e2, e3, e4, e5, e6, e7⟩ := ha c
    refine (h c).1.trans (Eq.trans (b := Cert.ReferenceMergeIdeal.Hand.refOut
      (m' ((c : Thread Cert.ReferenceMergeIdeal.nD Cert.ReferenceMergeIdeal.τ).loc Cert.ReferenceMergeIdeal.main_arg0)) _ _ _ _ _ _ _) rfl ?_)
    rw [e0, e1, e2, e3, e4, e5, e6, e7]

end Cert.Proof

end
-- ==== Proof.FfnAt.lean ====
/-
  The feed-forward call's grid point: what it leaves of its blocks, at an index.
-/
module

public import proofs.«01_k».proof.Proof.Layer
public import proofs.«01_k».proof.Proof.Gen.KernelFfnIdeal.Value
public import Idealize.ShloMosaic.Lib.Pipeline.ReadBack

@[expose] public section

set_option maxRecDepth 16384

noncomputable section

namespace Cert.KernelFfnIdeal.Hand

open Cert.KernelFfnIdeal Cert.KernelFfnIdeal.Gen
open Idealize.ShloMosaic Idealize.ShloMosaic.TcCoe Idealize.ShloMosaic.Tactic
open Cert.Core

/-! ## The body's values under one name each -/

/-- The rows normed. -/
def unitRow (x : FVec Ideal S512x1024 .f32) (g : FVec Ideal S1x1024 .f32) : FVec Ideal S512x1024 .bf16 := k0_pay3 x g
/-- One chunk of the gated layer. -/
def chunk (u : FVec Ideal S512x1024 .bf16) (a b : FVec Ideal S1024x256 .bf16) : FVec Ideal S512x256 .bf16 := k0_pay9 u a b
/-- The result's rows. -/
def outRow (x : FVec Ideal S512x1024 .f32) (f : FVec Ideal S512x2816 .bf16) (w : FVec Ideal S2816x1024 .bf16) (g : FVec Ideal S1x1024 .f32) :
    FVec Ideal S512x1024 .f32 := k0_pay20 (k0_pay2 x) f w g

variable (x : FVec Ideal S512x1024 .f32) (g : FVec Ideal S1x1024 .f32) (u : FVec Ideal S512x1024 .bf16) (a b : FVec Ideal S1024x256 .bf16)
  (f : FVec Ideal S512x2816 .bf16) (w : FVec Ideal S2816x1024 .bf16)

theorem e3 : k0_pay3 x g = unitRow x g := rfl
theorem e22 : k0_pay22 x g = unitRow x g := rfl
theorem e4 : k0_pay4 x g a b = chunk (unitRow x g) a b := rfl
theorem e8 : k0_pay8 (k0_pay5 x g a) (k0_pay6 x g b) (k0_pay7 x g a) = chunk (unitRow x g) a b := rfl
theorem e9 : k0_pay9 u a b = chunk u a b := rfl
theorem e10 : k0_pay10 u a b = chunk u a b := rfl
theorem e12 : k0_pay12 u (k0_pay11 u a) b = chunk u a b := rfl
theorem e13 : k0_pay13 u a b = chunk u a b := rfl
theorem e14 : k0_pay14 u a b = chunk u a b := rfl
theorem e15 : k0_pay15 u a b = chunk u a b := rfl
theorem e16 : k0_pay16 u a b = chunk u a b := rfl
theorem e18 : k0_pay18 (k0_pay17 u a b) = chunk u a b := rfl
theorem e19 : k0_pay19 u a b = chunk u a b := rfl
theorem e23 : k0_pay23 x g a b = chunk (unitRow x g) a b := rfl
theorem e26 : k0_pay26 (k0_pay24 x g b) (k0_pay25 x g a) = chunk (unitRow x g) a b := rfl
theorem e27 : k0_pay27 u a b = chunk u a b := rfl
theorem e28 : k0_pay28 u a b = chunk u a b := rfl
theorem e30 : k0_pay30 u (k0_pay29 u a) b = chunk u a b := rfl
theorem e31 : k0_pay31 u a b = chunk u a b := rfl
theorem e32 : k0_pay32 u a b = chunk u a b := rfl
theorem e33 : k0_pay33 u a b = chunk u a b := rfl
theorem e34 : k0_pay34 u a b = chunk u a b := rfl
theorem e36 : k0_pay36 (k0_pay35 u a b) = chunk u a b := rfl
theorem e37 : k0_pay37 u a b = chunk u a b := rfl
theorem e20 : k0_pay20 (k0_pay2 x) f w g = outRow x f w g := rfl
theorem e1 : k0_pay1 (k0_pay21 x) (k0_pay38 f w) g = outRow x f w g := rfl

/-! ## At an index -/

theorem unitRow_at (r : Fin 512) (c : Fin 1024) : unitRow x g (ix2 r c) = normed (fun k => x (ix2 r k)) (fun k => g (ix2 0 k)) c := by
  have e : k0_pay2 x = x := by unfold k0_pay2; exact shapeCast_self _ _
  unfold unitRow normed k0_pay3
  rw [e]
  pointwise

theorem chunk_at (r : Fin 512) (c : Fin 256) : chunk u a b (ix2 r c) =
    (∑ k, u (ix2 r k) * a (ix2 k c)) * Ideal.logistic (∑ k, u (ix2 r k) * a (ix2 k c)) * ∑ k, u (ix2 r k) * b (ix2 k c) := by
  pointwise [chunk, k0_pay9]

theorem outRow_at (r : Fin 512) (c : Fin 1024) : outRow x f w g (ix2 r c) =
    x (ix2 r c) + normed (fun e => ∑ j, f (ix2 r j) * w (ix2 j e)) (fun k => g (ix2 0 k)) c := by
  have e : k0_pay2 x = x := by unfold k0_pay2; exact shapeCast_self _ _
  unfold outRow normed k0_pay20
  rw [e]
  pointwise

end Cert.KernelFfnIdeal.Hand

end
-- ==== Proof.FfnVal.lean ====
/-
  The feed-forward call's grid point leaves the feed-forward of its rows.
-/
module

public import proofs.«01_k».proof.Proof.FfnAt

@[expose] public section

set_option maxRecDepth 16384

noncomputable section

namespace Cert.KernelFfnIdeal.Hand

open Cert.KernelFfnIdeal Cert.KernelFfnIdeal.Gen
open Idealize.ShloMosaic Idealize.ShloMosaic.TcCoe Idealize.ShloMosaic.Tactic
open Cert.Core

/-- The gated layer of the block's rows. -/
def gated (X : FVec Ideal S1024x1024 .f32) (g : FVec Ideal S1x1024 .f32) (W : FVec Ideal S1024x5632 .bf16) : FVec Ideal S1024x2816 .bf16 := fun y =>
  gate (normed (fun k => X (ix2 (y 0) k)) (fun k => g (ix2 0 k))) (fun k j => W (ix2 k j)) (y 1)

/-- What the call leaves of the block's rows. -/
def result (X : FVec Ideal S1024x1024 .f32) (g : FVec Ideal S1x1024 .f32) (W : FVec Ideal S1024x5632 .bf16) (w : FVec Ideal S2816x1024 .bf16)
    (g2 : FVec Ideal S1x1024 .f32) : FVec Ideal S1024x1024 .f32 := fun y =>
  ffn (fun k => X (ix2 (y 0) k)) (fun k => g (ix2 0 k)) (fun k j => W (ix2 k j)) (fun j e => w (ix2 j e)) (fun k => g2 (ix2 0 k)) (y 1)

variable (X : FVec Ideal S1024x1024 .f32) (g : FVec Ideal S1x1024 .f32) (W : FVec Ideal S1024x5632 .bf16) (w : FVec Ideal S2816x1024 .bf16)
  (g2 : FVec Ideal S1x1024 .f32)

theorem ld_row (o : ℕ) (i0) (r : Fin 512) (k : Fin 1024) (r' : Fin 1024) (hr : r'.val = o + r.val) :
    (View.ld (Val := Elt Ideal) (e' := .f32) X (Rect.unit (s := S1024x1024) ![o, 0] ![512, 1024] i0) : FVec Ideal S512x1024 .f32) (ix2 r k) = X (ix2 r' k) :=
  congrArg X (idxAt ![o, 0] ![512, 1024] i0 (ix2 r k) r' k hr.symm (Nat.zero_add _))

theorem ld_col (q : ℕ) (i0) (k : Fin 1024) (c : Fin 256) (j : Fin 5632) (hj : j.val = q + c.val) :
    (View.ld (Val := Elt Ideal) (e' := .bf16) W (Rect.unit (s := S1024x5632) ![0, q] ![1024, 256] i0) : FVec Ideal S1024x256 .bf16) (ix2 k c) = W (ix2 k j) :=
  congrArg W (idxAt ![0, q] ![1024, 256] i0 (ix2 k c) k j (Nat.zero_add _) hj.symm)

theorem chunk_piece (o q p : ℕ) (hp : p = 2816 + q) (hq : q + 256 ≤ 2816) (ho : o + 512 ≤ 1024) (i0) (i1) (i2) (i3)
    (x : (Rect.unit (s := S1024x2816) ![o, q] ![512, 256] i3).shape.Idx) :
    chunk (unitRow (View.ld (Val := Elt Ideal) (e' := .f32) X (Rect.unit (s := S1024x1024) ![o, 0] ![512, 1024] i0)) g) (View.ld (Val := Elt Ideal) (e' := .bf16) W (Rect.unit (s := S1024x5632) ![0, q] ![1024, 256] i1))
      (View.ld (Val := Elt Ideal) (e' := .bf16) W (Rect.unit (s := S1024x5632) ![0, p] ![1024, 256] i2)) x = gated X g W ((Rect.unit (s := S1024x2816) ![o, q] ![512, 256] i3).emb x) := by
  obtain ⟨r, c, rfl⟩ : ∃ (r : Fin 512) (c : Fin 256), x = ix2 r c := ⟨x 0, x 1, ofCoords x _ _ rfl rfl⟩
  have he : (Rect.unit (s := S1024x2816) ![o, q] ![512, 256] i3).emb (ix2 r c) = ix2 ⟨o + r.val, by omega⟩ ⟨q + c.val, by omega⟩ :=
    idxAt ![o, q] ![512, 256] i3 (ix2 r c) _ _ rfl rfl
  rw [he, chunk_at]
  have hu : ∀ k, unitRow (View.ld (Val := Elt Ideal) (e' := .f32) X (Rect.unit (s := S1024x1024) ![o, 0] ![512, 1024] i0)) g (ix2 r k) =
      normed (fun k => X (ix2 ⟨o + r.val, by omega⟩ k)) (fun k => g (ix2 0 k)) k := fun k =>
    (unitRow_at _ g r k).trans (congrArg (fun v => normed v _ k) (funext fun k => ld_row X o i0 r k _ rfl))
  have ha : ∀ k, (View.ld (Val := Elt Ideal) (e' := .bf16) W (Rect.unit (s := S1024x5632) ![0, q] ![1024, 256] i1) : FVec Ideal S1024x256 .bf16) (ix2 k c) = W (ix2 k ⟨q + c.val, by omega⟩) :=
    fun k => ld_col W q i1 k c _ rfl
  have hb : ∀ k, (View.ld (Val := Elt Ideal) (e' := .bf16) W (Rect.unit (s := S1024x5632) ![0, p] ![1024, 256] i2) : FVec Ideal S1024x256 .bf16) (ix2 k c) = W (ix2 k ⟨2816 + (q + c.val), by omega⟩) :=
    fun k => ld_col W p i2 k c _ (by show 2816 + (q + c.val) = p + c.val; omega)
  simp only [hu, ha, hb]
  rfl

theorem out_piece (o : ℕ) (ho : o + 512 ≤ 1024) (i0) (i3) (F : FVec Ideal S512x2816 .bf16)
    (hF : ∀ (r : Fin 512) (j : Fin 2816), F (ix2 r j) = gated X g W (ix2 ⟨o + r.val, by omega⟩ j))
    (x : (Rect.unit (s := S1024x1024) ![o, 0] ![512, 1024] i3).shape.Idx) :
    outRow (View.ld (Val := Elt Ideal) (e' := .f32) X (Rect.unit (s := S1024x1024) ![o, 0] ![512, 1024] i0)) F w g2 x =
      result X g W w g2 ((Rect.unit (s := S1024x1024) ![o, 0] ![512, 1024] i3).emb x) := by
  obtain ⟨r, c, rfl⟩ : ∃ (r : Fin 512) (c : Fin 1024), x = ix2 r c := ⟨x 0, x 1, ofCoords x _ _ rfl rfl⟩
  have he : (Rect.unit (s := S1024x1024) ![o, 0] ![512, 1024] i3).emb (ix2 r c) = ix2 ⟨o + r.val, by omega⟩ c :=
    idxAt ![o, 0] ![512, 1024] i3 (ix2 r c) _ _ rfl (Nat.zero_add _)
  rw [he, outRow_at, ld_row X o i0 r c ⟨o + r.val, by omega⟩ rfl]
  simp only [hF]
  rfl

/-- The chunks, newest first, cover the columns: a column not in the newest lies before it. -/
theorem cover_step (o q : ℕ) (inb) (pay : (Rect.unit (s := S1024x2816) ![o, q] ![512, 256] inb).shape.Idx → Elt Ideal .bf16)
    (L : List (View.Piece (Elt Ideal) S1024x2816 .bf16)) (r : Fin 1024) (j : Fin 2816) (hr : o ≤ r.val ∧ r.val < o + 512) (hj : j.val < q + 256)
    (h : j.val < q → ∃ p ∈ L, ix2 r j ∈ p.1.set) :
    ∃ p ∈ (⟨Rect.unit (s := S1024x2816) ![o, q] ![512, 256] inb, pay⟩ : View.Piece (Elt Ideal) S1024x2816 .bf16) :: L, ix2 r j ∈ p.1.set := by
  by_cases hq : j.val < q
  · obtain ⟨p, hp, hm⟩ := h hq
    exact ⟨p, List.mem_cons_of_mem _ hp, hm⟩
  · exact ⟨_, List.mem_cons_self, (Rect.mem_set_unit (inb := inb)).2 fun | 0 => hr | 1 => ⟨Nat.not_lt.1 hq, hj⟩⟩

variable (m : (ℓ : Loc nD τ sig) → Buf (Elt Ideal) ℓ) (c : Dev nD) (t : Fin cfg0.N)

set_option maxHeartbeats 0 in
theorem point (y) : (dats m 0 c).after 5 t y = result (iblk m c 0 t) (iblk m c 1 t) (iblk m c 2 t) (iblk m c 3 t) (iblk m c 4 t) y := by
  rw [after0_5]
  unfold outsAt0
  frame_open
  simp (disch := decide) only [↓ View.readCov_skip, ↓ View.readCov_cons_toLoadRect, ↓ View.readCov_fill]
  frame_out
  generalize (iblk m c 0 t : FVec Ideal S1024x1024 .f32) = X
  generalize (iblk m c 1 t : FVec Ideal S1x1024 .f32) = g
  generalize (iblk m c 2 t : FVec Ideal S1024x5632 .bf16) = W
  generalize (iblk m c 3 t : FVec Ideal S2816x1024 .bf16) = w
  generalize (iblk m c 4 t : FVec Ideal S1x1024 .f32) = g2
  simp only [e3, e22, e4, e8, e9, e10, e12, e13, e14, e15, e16, e18, e19, e23, e26, e27, e28, e30, e31, e32, e33, e34, e36, e37, e20, e1]
  refine View.canon_apply_of_pieces (Val := Elt Ideal) (e := .f32) (S := S1024x1024) (result X g W w g2) _ ?_ y ?_
  · refine List.forall_mem_cons.2 ⟨fun x => out_piece X g W w g2 512 (by omega) inb_S1024x1024_S512x1024_512_0 inb_S1024x1024_S512x1024_512_0 _ (fun r j => ?_) x,
      List.forall_mem_cons.2 ⟨fun x => out_piece X g W w g2 0 (by omega) inb_S1024x1024_S512x1024_0_0 inb_S1024x1024_S512x1024_0_0 _ (fun r j => ?_) x, by simp⟩⟩
    · rw [View.readCov_eq_canon']
      refine (congrArg _ (idxAt ![512, 0] ![512, 2816] inb_S1024x2816_S512x2816_512_0 (ix2 r j) ⟨512 + r.val, by omega⟩ j rfl (Nat.zero_add _))).trans ?_
      refine View.canon_apply_of_pieces (Val := Elt Ideal) (e := .bf16) (S := S1024x2816) (gated X g W) _ ?_ _ ?_
      · repeat refine List.forall_mem_cons.2 ⟨fun x => chunk_piece X g W _ _ _ rfl (by omega) (by omega) (by decide +kernel) (by decide +kernel) (by decide +kernel) (by decide +kernel) x, ?_⟩
        simp
      · repeat refine cover_step 512 _ _ _ _ _ _ ⟨by show 512 ≤ 512 + r.val; omega, by show 512 + r.val < 512 + 512; omega⟩ (by omega) fun hj => ?_
        exact absurd hj (Nat.not_lt_zero _)
    · rw [View.readCov_eq_canon']
      refine (congrArg _ (idxAt ![0, 0] ![512, 2816] inb_S1024x2816_S512x2816_0_0 (ix2 r j) ⟨0 + r.val, by omega⟩ j rfl (Nat.zero_add _))).trans ?_
      refine View.canon_apply_of_pieces (Val := Elt Ideal) (e := .bf16) (S := S1024x2816) (gated X g W) _ ?_ _ ?_
      · repeat refine List.forall_mem_cons.2 ⟨fun x => chunk_piece X g W _ _ _ rfl (by omega) (by omega) (by decide +kernel) (by decide +kernel) (by decide +kernel) (by decide +kernel) x, ?_⟩
        simp
      · repeat refine cover_step 0 _ _ _ _ _ _ ⟨by show 0 ≤ 0 + r.val; omega, by show 0 + r.val < 0 + 512; omega⟩ (by omega) fun hj => ?_
        exact absurd hj (Nat.not_lt_zero _)
  · by_cases h : (y 0).val < 512
    · exact ⟨_, List.mem_cons_of_mem _ List.mem_cons_self, (Rect.mem_set_unit (inb := inb_S1024x1024_S512x1024_0_0)).2 fun | 0 => ⟨Nat.zero_le _, by show (y 0).val < 0 + 512; omega⟩ | 1 => ⟨Nat.zero_le _, (y 1).isLt⟩⟩
    · exact ⟨_, List.mem_cons_self, (Rect.mem_set_unit (inb := inb_S1024x1024_S512x1024_512_0)).2 fun | 0 => ⟨Nat.not_lt.1 h, (y 0).isLt⟩ | 1 => ⟨Nat.zero_le _, (y 1).isLt⟩⟩

end Cert.KernelFfnIdeal.Hand

end
-- ==== Proof.FfnRef.lean ====
/-
  The feed-forward's reference, read at an index.
-/
module

public import proofs.«01_k».proof.Proof.Layer
public import proofs.«01_k».proof.Proof.Gen.ReferenceFfnIdeal.Run

@[expose] public section

set_option maxRecDepth 16384

noncomputable section

namespace Cert.ReferenceFfnIdeal.Hand

open Cert.ReferenceFfnIdeal Cert.ReferenceFfnIdeal.Gen Idealize.ShloMosaic Idealize.ShloMosaic.TcCoe
open Cert.Core

/-- The rows divided by their root mean square, times the gain, -/
def refN (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

/-- their product with the first weights, -/
def refP (u : FVec Ideal S16x2048x1024 .f32) (w : FVec Ideal S1024x5632 .f32) : FVec Ideal S16x2048x5632 .f32 :=
  Host.dotGeneral dot_S16x2048x1024_S1024x5632_S16x2048x5632_2_0_01_1_n_n none u w

/-- its two halves, -/
def refA (z : FVec Ideal S16x2048x5632 .f32) : FVec Ideal S16x2048x2816 .f32 := extractStridedSlice S16x2048x2816 ![0, 0, 0] z slices_S16x2048x5632_S16x2048x2816_0_0_0
def refB (z : FVec Ideal S16x2048x5632 .f32) : FVec Ideal S16x2048x2816 .f32 := extractStridedSlice S16x2048x2816 ![0, 0, 2816] z slices_S16x2048x5632_S16x2048x2816_0_0_2816

/-- the gated layer, -/
def refG (a b : FVec Ideal S16x2048x2816 .f32) : FVec Ideal S16x2048x2816 .f32 :=
  mulf (mulf a (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf a))))) b

/-- its product with the second weights, -/
def refF (f : FVec Ideal S16x2048x2816 .f32) (w : FVec Ideal S2816x1024 .f32) : FVec Ideal S16x2048x1024 .f32 :=
  Host.dotGeneral dot_S16x2048x2816_S2816x1024_S16x2048x1024_2_0_01_1_n_n none f w

/-- and the rows with that added, laid flat. -/
def refS (h n : FVec Ideal S16x2048x1024 .f32) : FVec Ideal S32768x1024 .f32 := shapeCast S32768x1024 (addf h n) shapeCasts_S16x2048x1024_S32768x1024

variable (h : FVec Ideal S16x2048x1024 .f32) (g1 : FVec Ideal S1024 .f32) (w : FVec Ideal S1024x5632 .f32) (w2 : FVec Ideal S2816x1024 .f32) (g2 : FVec Ideal S1024 .f32)

def refL : FVec Ideal S16x2048x2816 .f32 := refG (refA (refP (refN h g1) w)) (refB (refP (refN h g1) w))
def refOut : FVec Ideal S32768x1024 .f32 := refS h (refN (refF (refL h g1 w) w2) g2)

theorem res_eq (m : (ℓ : Loc nD τ sig) → Buf (Elt Ideal) ℓ) (c : Dev nD) :
    Value.res_main_v33 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## At an index -/

theorem refN_at (x : FVec Ideal S16x2048x1024 .f32) (g : FVec Ideal S1024 .f32) (b : Fin 16) (i : Fin 2048) (k : Fin 1024) :
    refN x g (ix3 b i k) = normed (fun k => x (ix3 b i k)) (fun k => g (ix1 k)) k := by
  unfold refN normed
  pointwise

theorem refP_at (u : FVec Ideal S16x2048x1024 .f32) (b : Fin 16) (i : Fin 2048) (j : Fin 5632) : refP u w (ix3 b i j) = ∑ k, u (ix3 b i k) * w (ix2 k j) := by
  unfold refP
  pointwise

theorem refA_at (z : FVec Ideal S16x2048x5632 .f32) (b : Fin 16) (i : Fin 2048) (j : Fin 2816) : refA z (ix3 b i j) = z (ix3 b i ⟨j.val, by omega⟩) := by
  unfold refA
  pointwise
theorem refB_at (z : FVec Ideal S16x2048x5632 .f32) (b : Fin 16) (i : Fin 2048) (j : Fin 2816) : refB z (ix3 b i j) = z (ix3 b i ⟨2816 + j.val, by omega⟩) := by
  unfold refB
  pointwise

theorem ofBits_one : Ideal.ofBits .f32 0x3F800000#32 = 1 := by
  simp [Ideal.ofBits, Ideal.ieee, -EReal.coe_mul]; norm_num

theorem refG_at (a b' : FVec Ideal S16x2048x2816 .f32) (b : Fin 16) (i : Fin 2048) (j : Fin 2816) :
    refG a b' (ix3 b i j) = a (ix3 b i j) * Ideal.logistic (a (ix3 b i j)) * b' (ix3 b i j) := by
  unfold refG Ideal.logistic
  rw [← ofBits_one]
  pointwise

theorem refL_at (b : Fin 16) (i : Fin 2048) (j : Fin 2816) : refL h g1 w (ix3 b i j) =
    gate (normed (fun k => h (ix3 b i k)) (fun k => g1 (ix1 k))) (fun k j => w (ix2 k j)) j := by
  unfold refL gate
  rw [refG_at, refA_at, refB_at, refP_at, refP_at]
  simp only [refN_at]

theorem refF_at (f : FVec Ideal S16x2048x2816 .f32) (b : Fin 16) (i : Fin 2048) (e : Fin 1024) : refF f w2 (ix3 b i e) = ∑ j, f (ix3 b i j) * w2 (ix2 j e) := by
  unfold refF
  pointwise

theorem refS_at (n : FVec Ideal S16x2048x1024 .f32) (r : Fin 32768) (k : Fin 1024) : refS h n (ix2 r k) =
    h (ix3 ⟨r.val / 2048, by omega⟩ ⟨r.val % 2048, by omega⟩ k) + n (ix3 ⟨r.val / 2048, by omega⟩ ⟨r.val % 2048, by omega⟩ k) := by
  unfold refS
  pointwise

theorem refOut_at (r : Fin 32768) (k : Fin 1024) : refOut h g1 w w2 g2 (ix2 r k) =
    ffn (fun k => h (ix3 ⟨r.val / 2048, by omega⟩ ⟨r.val % 2048, by omega⟩ k)) (fun k => g1 (ix1 k)) (fun k j => w (ix2 k j)) (fun j e => w2 (ix2 j e))
      (fun k => g2 (ix1 k)) k := by
  unfold refOut ffn
  rw [refS_at, refN_at]
  simp only [refF_at, refL_at]

end Cert.ReferenceFfnIdeal.Hand

end
-- ==== Proof.Ffn.lean ====
/-
  The feed-forward call: its runs, and that it leaves what the reference leaves.
-/
module

public import proofs.«01_k».proof.Defs
public import proofs.«01_k».proof.Proof.Gen.KernelFfn.Frame
public import proofs.«01_k».proof.Proof.FfnVal
public import proofs.«01_k».proof.Proof.FfnRef
public import Idealize.ShloMosaic.Lib.Claim
public import Idealize.ShloMosaic.Lib.StableHlo.RunRead

@[expose] public section

set_option maxRecDepth 16384

noncomputable section

namespace Cert.KernelFfnIdeal.Hand

open Cert.KernelFfnIdeal Cert.KernelFfnIdeal.Gen
open Idealize.ShloMosaic Idealize.ShloMosaic.TcCoe Idealize.ShloMosaic.Tactic
open Cert.Core

theorem idx0 : ∀ t : Fin cfg0.N, win0_0.index t = ![t.val % 32, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val % 32, 0] := (by decide +kernel : ∀ t : Fin grid0.N, _)

variable (m : (ℓ : Loc nD τ sig) → Buf (Elt Ideal) ℓ) (c : Dev nD) (t : Fin cfg0.N)

/-- The flat row a grid point's row is. -/
abbrev flat (r : Fin 1024) : Fin 32768 := ⟨1024 * (t.val % 32) + r.val, by omega⟩

theorem blk0 (r k : Fin 1024) : iblk m c 0 t (ix2 r k) = V m c main_v0 (ix2 (flat t r) k) := by
  blk_ext [iblk, idx0 t]
theorem blk1 (k : Fin 1024) : iblk m c 1 t (ix2 0 k) = V m c main_v1 (ix2 0 k) := by
  blk_ext [iblk, idx1 t]
theorem blk2 (k : Fin 1024) (j : Fin 5632) : iblk m c 2 t (ix2 k j) = V m c main_v2 (ix2 k j) := by
  blk_ext [iblk, idx2 t]
theorem blk3 (j : Fin 2816) (k : Fin 1024) : iblk m c 3 t (ix2 j k) = V m c main_v3 (ix2 j k) := by
  blk_ext [iblk, idx3 t]
theorem blk4 (k : Fin 1024) : iblk m c 4 t (ix2 0 k) = V m c main_v4 (ix2 0 k) := by
  blk_ext [iblk, idx4 t]

theorem host0 (r : Fin 32768) (k : Fin 1024) : V m c main_v0 (ix2 r k) =
    m ((c : Thread nD τ).loc main_arg0) (ix3 ⟨r.val / 2048, by omega⟩ ⟨r.val % 2048, by omega⟩ k) := by
  show StableHlo.after hostOps0 _ _ _ = _
  after_reads_simp
  pointwise
theorem host1 (k : Fin 1024) : V m c main_v1 (ix2 0 k) = m ((c : Thread nD τ).loc main_arg1) (ix1 k) := by
  show StableHlo.after hostOps0 _ _ _ = _
  after_reads_simp
  pointwise
theorem host2 (k : Fin 1024) (j : Fin 5632) : V m c main_v2 (ix2 k j) = m ((c : Thread nD τ).loc main_arg2) (ix2 k j) := by
  show StableHlo.after hostOps0 _ _ _ = _
  after_reads_simp
  pointwise
theorem host3 (j : Fin 2816) (k : Fin 1024) : V m c main_v3 (ix2 j k) = m ((c : Thread nD τ).loc main_arg3) (ix2 j k) := by
  show StableHlo.after hostOps0 _ _ _ = _
  after_reads_simp
  pointwise
theorem host4 (k : Fin 1024) : V m c main_v4 (ix2 0 k) = m ((c : Thread nD τ).loc main_arg4) (ix1 k) := by
  show StableHlo.after hostOps0 _ _ _ = _
  after_reads_simp
  pointwise

/-- What the reference leaves of the arguments. -/
abbrev want : FVec Ideal S32768x1024 .f32 :=
  Cert.ReferenceFfnIdeal.Hand.refOut (m ((c : Thread nD τ).loc main_arg0)) (m ((c : Thread nD τ).loc main_arg1)) (m ((c : Thread nD τ).loc main_arg2))
    (m ((c : Thread nD τ).loc main_arg3)) (m ((c : Thread nD τ).loc main_arg4))

theorem point_want (r k : Fin 1024) : result (iblk m c 0 t) (iblk m c 1 t) (iblk m c 2 t) (iblk m c 3 t) (iblk m c 4 t) (ix2 r k) = want m c (ix2 (flat t r) k) := by
  refine Eq.trans ?_ (Cert.ReferenceFfnIdeal.Hand.refOut_at _ _ _ _ _ (flat t r) k).symm
  show ffn (fun k => iblk m c 0 t (ix2 r k)) (fun k => iblk m c 1 t (ix2 0 k)) (fun k j => iblk m c 2 t (ix2 k j)) (fun j e => iblk m c 3 t (ix2 j e))
    (fun k => iblk m c 4 t (ix2 0 k)) k = _
  have congr6 : ∀ {h h' : Fin 1024 → EReal} {g1 g1' : Fin 1024 → EReal} {w w' : Fin 1024 → Fin 5632 → EReal} {w2 w2' : Fin 2816 → Fin 1024 → EReal}
      {g2 g2' : Fin 1024 → EReal}, h = h' → g1 = g1' → w = w' → w2 = w2' → g2 = g2' → ffn h g1 w w2 g2 k = ffn h' g1' w' w2' g2' k := by
    rintro _ _ _ _ _ _ _ _ _ _ rfl rfl rfl rfl rfl; rfl
  exact congr6 (funext fun e => (blk0 m c t r e).trans (host0 m c _ e)) (funext fun e => (blk1 m c t e).trans (host1 m c e))
    (funext fun e => funext fun j => (blk2 m c t e j).trans (host2 m c e j)) (funext fun j => funext fun e => (blk3 m c t j e).trans (host3 m c j e))
    (funext fun e => (blk4 m c t e).trans (host4 m c e))

theorem final : (dats m 0 c).arrAt 5 cfg0.N = want m c := by
  refine (dats m 0 c).arrAt_eq_of_covers 5 _ (by decide +kernel) fun t hf y => ?_
  blk_simp
  rw [point]
  have hy : y = ix2 (y 0) (y 1) := by blk_ext
  rw [hy]
  have key : ∀ G : FVec Ideal S32768x1024 .f32, G (ix2 (flat t (y 0)) (y 1)) = G ((win0_5.blk t).view.emb (ix2 (y 0) (y 1))) := by
    intro G
    blk_ext [idx5 t]
  exact (point_want m c t (y 0) (y 1)).trans (key _)

end Cert.KernelFfnIdeal.Hand

namespace Cert.Proof

open Idealize.ShloMosaic Idealize.ShloMosaic.TcCoe

theorem ffn_frame : Cert.quiescent_KernelFfn := fun m ρ _ => Cert.KernelFfn.Gen.frame m ρ
theorem ffn_frame_ideal : Cert.quiescent_KernelFfnIdeal := fun m ρ _ => Cert.KernelFfnIdeal.Gen.frame m ρ
theorem ffn_frame_reference : Cert.quiescent_ReferenceFfnIdeal := fun m ρ _ =>
  (θ_run Cert.ReferenceFfnIdeal.defs _ _).mono (fun r h => ⟨fun c => (h c).2, sem_eq_zero_of_no_sems (by decide) r.2⟩)
    (Cert.ReferenceFfnIdeal.Value.run (F := Ideal) m ρ)

open Cert.KernelFfnIdeal.Hand in
theorem ffn_algebraic : Cert.algebraic_KernelFfnIdeal_ReferenceFfnIdeal := fun m g m' g' hp ha => by
  refine ⟨fun c => want m c, ?_, ?_⟩
  · exact (θ_run Cert.KernelFfnIdeal.defs _ _).mono (fun r h c => ⟨(h c).1.trans (final m c), (h c).2⟩) (Cert.KernelFfnIdeal.Value.run_blocks m g)
  · refine (θ_run Cert.ReferenceFfnIdeal.defs _ _).mono (fun r h c => ⟨?_, (h c).2⟩) (Cert.ReferenceFfnIdeal.Value.run (F := Ideal) m' g')
    obtain ⟨e0, e1, e2, e3, e4⟩ := ha c
    refine (h c).1.trans ((Cert.ReferenceFfnIdeal.Hand.res_eq m' c).trans ?_)
    rw [e0, e1, e2, e3, e4]

end Cert.Proof

end
-- ==== Proof.Turn.lean ====
/-
  The projection at one row, over the extended reals: its columns, and the rotary turn of the queries and the keys.
-/
module

public import proofs.«01_k».proof.Proof.Layer

@[expose] public section

noncomputable section

namespace Cert.Core

open Idealize.ShloMosaic

/-- A column of the normed row's product with the weights. -/
def taps (v g : Fin 1024 → EReal) (w : Fin 1024 → Fin 6656 → EReal) (n : ℕ) : EReal := ∑ k, normed v g k * w k ⟨n % 6656, Nat.mod_lt _ (by decide)⟩

/-- The turn as the call writes it: within blocks of 128 columns, with three tables. -/
def swung (z : ℕ → EReal) (c s1 s2 : Fin 128 → EReal) (n : ℕ) : EReal :=
  z n * c ⟨n % 128, Nat.mod_lt _ (by decide)⟩ + z (n / 128 * 128 + (n % 128 + 32) % 128) * s1 ⟨n % 128, Nat.mod_lt _ (by decide)⟩ +
    z (n / 128 * 128 + (n % 128 + 96) % 128) * s2 ⟨n % 128, Nat.mod_lt _ (by decide)⟩

/-- The turn of a head's two halves. -/
def turned (z : ℕ → EReal) (c s : Fin 32 → EReal) (n : ℕ) : EReal :=
  if n % 64 < 32 then z n * c ⟨n % 32, Nat.mod_lt _ (by decide)⟩ - z (n + 32) * s ⟨n % 32, Nat.mod_lt _ (by decide)⟩
  else z n * c ⟨n % 32, Nat.mod_lt _ (by decide)⟩ + z (n - 32) * s ⟨n % 32, Nat.mod_lt _ (by decide)⟩

theorem turned_lo (z : ℕ → EReal) (c s : Fin 32 → EReal) (n : ℕ) (h : n % 64 < 32) (a a' : ℕ) (u : Fin 32) (ha : a = n) (ha' : a' = n + 32)
    (hu : u.val = n % 32) : z a * c u - z a' * s u = turned z c s n := by
  subst ha ha'
  obtain rfl : u = ⟨a % 32, Nat.mod_lt _ (by decide)⟩ := Fin.ext hu
  exact (if_pos h).symm

theorem turned_hi (z : ℕ → EReal) (c s : Fin 32 → EReal) (n : ℕ) (h : ¬n % 64 < 32) (a a' : ℕ) (u : Fin 32) (ha : a = n) (ha' : a' = n - 32)
    (hu : u.val = n % 32) : z a * c u + z a' * s u = turned z c s n := by
  subst ha ha'
  obtain rfl : u = ⟨a % 32, Nat.mod_lt _ (by decide)⟩ := Fin.ext hu
  exact (if_neg h).symm

theorem swung_eq (z : ℕ → EReal) (c s1 s2 : Fin 128 → EReal) (C S : Fin 32 → EReal) (hc : ∀ e, c e = C ⟨e.val % 32, Nat.mod_lt _ (by decide)⟩)
    (h1 : ∀ e : Fin 128, s1 e = if e.val % 64 < 32 then -S ⟨e.val % 32, Nat.mod_lt _ (by decide)⟩ else 0)
    (h2 : ∀ e : Fin 128, s2 e = if e.val % 64 < 32 then 0 else S ⟨e.val % 32, Nat.mod_lt _ (by decide)⟩) (n : ℕ) :
    swung z c s1 s2 n = turned z C S n := by
  unfold swung turned
  rw [hc, h1, h2]
  have e32 : (⟨n % 128 % 32, Nat.mod_lt _ (by decide)⟩ : Fin 32) = ⟨n % 32, Nat.mod_lt _ (by decide)⟩ := Fin.ext (show n % 128 % 32 = n % 32 by omega)
  have e64 : n % 128 % 64 = n % 64 := by omega
  simp only [e32, e64]
  by_cases h : n % 64 < 32
  · simp only [if_pos h]
    rw [mul_zero, add_zero, mul_neg, ← sub_eq_add_neg, show n / 128 * 128 + (n % 128 + 32) % 128 = n + 32 by omega]
  · simp only [if_neg h]
    rw [mul_zero, add_zero, show n / 128 * 128 + (n % 128 + 96) % 128 = n - 32 by omega]

theorem turned_congr (z z' : ℕ → EReal) (c s : Fin 32 → EReal) (n : ℕ) (hn : n < 6656) (h : ∀ i, i < 6656 → z i = z' i) : turned z c s n = turned z' c s n := by
  unfold turned
  by_cases h1 : n % 64 < 32
  · rw [if_pos h1, if_pos h1, h n hn, h (n + 32) (by omega)]
  · rw [if_neg h1, if_neg h1, h n hn, h (n - 32) (by omega)]

/-- The projection's column, of the product `p`, the turned product `t` and the gate's bias `b`. -/
def cell (p t b : EReal) (n : ℕ) : EReal :=
  if n < 2048 then t * Ideal.ofBits .f32 0x3E38AA3B#32 else if n < 3072 then t else if n < 4096 then p else if n < 6144 then Ideal.logistic (p + b)
  else if n < 6400 then t else p

/-- Where a column of the projection stands among the weights' columns. -/
def place (n : ℕ) : ℕ := if n < 1024 then n else if n < 6144 then n + 512 else n - 5120

theorem place_lt (n : Fin 6656) : place n.val < 6656 := by
  unfold place
  split_ifs <;> omega

theorem taps_place (v g : Fin 1024 → EReal) (w : Fin 1024 → Fin 6656 → EReal) (n : ℕ) (hn : n < 6656) :
    taps v g (fun k j => w k ⟨place j.val, place_lt j⟩) n = taps v g w (place n) :=
  Finset.sum_congr rfl fun k _ => congrArg (fun j => _ * w k j) (Fin.ext
    (show place (n % 6656) = place n % 6656 by rw [Nat.mod_eq_of_lt hn, Nat.mod_eq_of_lt (place_lt ⟨n, hn⟩)]))

end Cert.Core

end
-- ==== Proof.InprojVal.lean ====
/-
  The projection call's grid point: what it leaves of its blocks, at an index.
-/
module

public import proofs.«01_k».proof.Proof.Turn
public import proofs.«01_k».proof.Proof.Gen.KernelInprojIdeal.Value

@[expose] public section

set_option maxRecDepth 16384

noncomputable section

namespace Cert.KernelInprojIdeal.Hand

open Cert.KernelInprojIdeal Cert.KernelInprojIdeal.Gen
open Idealize.ShloMosaic Idealize.ShloMosaic.TcCoe Idealize.ShloMosaic.Tactic
open Cert.Core

/-! ## The body's values under one name each -/

/-- 512 columns of the product. -/
def prod (u : FVec Ideal S512x1024 .bf16) (w : FVec Ideal S1024x512 .bf16) : FVec Ideal S512x512 .f32 :=
  matmul dot_S512x1024_S1024x512_S512x512_1_0_0_1_n_n none u (shapeCast S1024x512 w shapeCasts_S1024x512_S1024x512 : FVec Ideal S1024x512 .bf16) (constant S512x512 .f32 0x00000000#32)

/-- 128 of them. -/
def seg (l : ℕ) (h : S512x512.Slices ![0, l] S512x128) (a : FVec Ideal S512x512 .f32) : FVec Ideal S512x128 .f32 := extractStridedSlice S512x128 ![0, l] a h

/-- The turn. -/
def swing (t c s1 s2 : FVec Ideal S512x128 .f32) : FVec Ideal S512x128 .f32 :=
  addf (addf (mulf t (shapeCast S512x128 c shapeCasts_S512x128_S512x128))
    (mulf (dynamicRotate 1 96#32 none t rotates_S512x128_d1) (shapeCast S512x128 s1 shapeCasts_S512x128_S512x128)))
    (mulf (dynamicRotate 1 32#32 none t rotates_S512x128_d1) (shapeCast S512x128 s2 shapeCasts_S512x128_S512x128))

/-- What is stored of the queries, of the keys, of the values and of the gates. -/
def queries (t c s1 s2 : FVec Ideal S512x128 .f32) : FVec Ideal S512x128 .bf16 :=
  truncf .bf16 (mulf (swing t c s1 s2) (broadcast S512x128 (Scalar.ofBits .f32 0x3E38AA3B#32))) bitsLt_bf16_f32
def keys (t c s1 s2 : FVec Ideal S512x128 .f32) : FVec Ideal S512x128 .bf16 := truncf .bf16 (swing t c s1 s2) bitsLt_bf16_f32
def values (t : FVec Ideal S512x128 .f32) : FVec Ideal S512x128 .bf16 := truncf .bf16 t bitsLt_bf16_f32
def gates (t : FVec Ideal S512x128 .f32) (b : FVec Ideal S1x128 .f32) : FVec Ideal S512x128 .bf16 :=
  truncf .bf16 (logistic (addf t (broadcastTo S512x128 (shapeCast S1x128 b shapeCasts_S1x128_S1x128 : FVec Ideal S1x128 .f32) broadcasts_S1x128_S512x128))) bitsLt_bf16_f32

/-! ## At an index -/

theorem unitRow_at (x : FVec Ideal S512x1024 .f32) (g : FVec Ideal S1x1024 .f32) (r : Fin 512) (c : Fin 1024) :
    k0_pay4 (F := Ideal) x g (ix2 r c) = normed (fun k => x (ix2 r k)) (fun k => g (ix2 0 k)) c := by
  unfold normed
  pointwise [k0_pay4]

theorem prod_at (u : FVec Ideal S512x1024 .bf16) (w : FVec Ideal S1024x512 .bf16) (r c : Fin 512) : prod u w (ix2 r c) = ∑ k, u (ix2 r k) * w (ix2 k c) := by
  pointwise [prod]

theorem seg_at (l : ℕ) (h) (hl : l + 128 ≤ 512) (a : FVec Ideal S512x512 .f32) (r : Fin 512) (e : Fin 128) :
    seg l h a (ix2 r e) = a (ix2 r ⟨l + e.val, by omega⟩) := by
  pointwise [seg]

variable (t c s1 s2 : FVec Ideal S512x128 .f32) (b : FVec Ideal S1x128 .f32) (r : Fin 512) (e : Fin 128)

theorem swing_at : swing t c s1 s2 (ix2 r e) = t (ix2 r e) * c (ix2 r e) + t (ix2 r ⟨(e.val + 32) % 128, Nat.mod_lt _ (by decide)⟩) * s1 (ix2 r e) +
    t (ix2 r ⟨(e.val + 96) % 128, Nat.mod_lt _ (by decide)⟩) * s2 (ix2 r e) := by
  pointwise [swing]
  have h1 : (⟨(e.val + 128 - 96) % 128, Nat.mod_lt _ (by decide)⟩ : Fin 128) = ⟨(e.val + 32) % 128, Nat.mod_lt _ (by decide)⟩ := Fin.ext (show (e.val + 128 - 96) % 128 = (e.val + 32) % 128 by omega)
  have h2 : (⟨(e.val + 128 - 32) % 128, Nat.mod_lt _ (by decide)⟩ : Fin 128) = ⟨(e.val + 96) % 128, Nat.mod_lt _ (by decide)⟩ := Fin.ext (show (e.val + 128 - 32) % 128 = (e.val + 96) % 128 by omega)
  rw [h1, h2]

theorem queries_at : queries t c s1 s2 (ix2 r e) = swing t c s1 s2 (ix2 r e) * Ideal.ofBits .f32 0x3E38AA3B#32 := by
  pointwise [queries]
theorem keys_at : keys t c s1 s2 (ix2 r e) = swing t c s1 s2 (ix2 r e) := by
  pointwise [keys]
theorem values_at : values t (ix2 r e) = t (ix2 r e) := by
  pointwise [values]
theorem gates_at : gates t b (ix2 r e) = Ideal.logistic (t (ix2 r e) + b (ix2 0 e)) := by
  pointwise [gates]

/-! ## The parts of the blocks the body loads -/

variable (X : FVec Ideal S1024x1024 .f32) (g : FVec Ideal S1x1024 .f32) (W : FVec Ideal S1024x6656 .bf16) (B : FVec Ideal S1x2048 .f32)
  (T0 T1 T2 : FVec Ideal S1024x128 .f32)

theorem fits {n m : ℕ} (s : Fin 2 → ℕ) (o q : ℕ) (h0 : o + s 0 ≤ n) (h1 : q + s 1 ≤ m) : ∀ a, (![o, q] : Fin 2 → ℕ) a + s a ≤ (⟨2, ![n, m]⟩ : Shape).size a
  | 0 => h0
  | 1 => h1

def rowsOf (o : ℕ) (ho : o + 512 ≤ 1024) : FVec Ideal S512x1024 .f32 :=
  View.ld (Val := Elt Ideal) (e' := .f32) X (Rect.unit (s := S1024x1024) ![o, 0] S512x1024.size (fits _ o 0 ho (Nat.le_refl _)))
def gainOf : FVec Ideal S1x1024 .f32 :=
  View.ld (Val := Elt Ideal) (e' := .f32) g (Rect.unit (s := S1x1024) ![0, 0] S1x1024.size (fits _ 0 0 (Nat.le_refl _) (Nat.le_refl _)))
def tableOf (o : ℕ) (ho : o + 512 ≤ 1024) : FVec Ideal S512x128 .f32 :=
  View.ld (Val := Elt Ideal) (e' := .f32) T0 (Rect.unit (s := S1024x128) ![o, 0] S512x128.size (fits _ o 0 ho (Nat.le_refl _)))
def colsOf (q : ℕ) (hq : q + 512 ≤ 6656) : FVec Ideal S1024x512 .bf16 :=
  View.ld (Val := Elt Ideal) (e' := .bf16) W (Rect.unit (s := S1024x6656) ![0, q] S1024x512.size (fits _ 0 q (Nat.le_refl _) hq))
def biasOf (q : ℕ) (hq : q + 128 ≤ 2048) : FVec Ideal S1x128 .f32 :=
  View.ld (Val := Elt Ideal) (e' := .f32) B (Rect.unit (s := S1x2048) ![0, q] S1x128.size (fits _ 0 q (Nat.le_refl _) hq))

theorem rowsOf_at (o ho) (r : Fin 512) (k : Fin 1024) : rowsOf X o ho (ix2 r k) = X (ix2 ⟨o + r.val, by omega⟩ k) :=
  congrArg X (idxAt ![o, 0] ![512, 1024] _ (ix2 r k) _ k rfl (Nat.zero_add _))
theorem gainOf_at (k : Fin 1024) : gainOf g (ix2 0 k) = g (ix2 0 k) :=
  congrArg g (idxAt ![0, 0] ![1, 1024] _ (ix2 0 k) 0 k (Nat.zero_add _) (Nat.zero_add _))
theorem tableOf_at (o ho) (r : Fin 512) (e : Fin 128) : tableOf T0 o ho (ix2 r e) = T0 (ix2 ⟨o + r.val, by omega⟩ e) :=
  congrArg T0 (idxAt ![o, 0] ![512, 128] _ (ix2 r e) _ e rfl (Nat.zero_add _))
theorem colsOf_at (q hq) (k : Fin 1024) (j : Fin 512) : colsOf W q hq (ix2 k j) = W (ix2 k ⟨q + j.val, by omega⟩) :=
  congrArg W (idxAt ![0, q] ![1024, 512] _ (ix2 k j) k _ (Nat.zero_add _) rfl)
theorem biasOf_at (q hq) (e : Fin 128) : biasOf B q hq (ix2 0 e) = B (ix2 0 ⟨q + e.val, by omega⟩) :=
  congrArg B (idxAt ![0, q] ![1, 128] _ (ix2 0 e) 0 _ (Nat.zero_add _) rfl)

/-! ## The stored pieces -/

abbrev Part := View.Piece (Elt Ideal) S1024x6656 .bf16

theorem cut (l : ℕ) (hl : l + 128 ≤ 512) : S512x512.Slices ![0, l] S512x128 := ⟨rfl, fun
  | 0 => Nat.le_refl _
  | 1 => hl⟩

/-- The product's columns `q + l` to `q + l + 128`, of the rows from `o` on. -/
def part (o q l : ℕ) (ho : o + 512 ≤ 1024) (hq : q + 512 ≤ 6656) (hl : l + 128 ≤ 512) : FVec Ideal S512x128 .f32 :=
  seg l (cut l hl) (prod (k0_pay4 (rowsOf X o ho) (gainOf g)) (colsOf W q hq))

abbrev place2 (o q l : ℕ) (ho : o + 512 ≤ 1024) (hq : q + 512 ≤ 6656) (hl : l + 128 ≤ 512) : Rect S1024x6656 :=
  Rect.unit (s := S1024x6656) ![o, q + l] S512x128.size (fits _ o (q + l) ho (by show q + l + 128 ≤ 6656; omega))

def qs (o q : ℕ) (ho : o + 512 ≤ 1024) (hq : q + 512 ≤ 6656) (l : ℕ) (hl : l + 128 ≤ 512) : Part :=
  ⟨place2 o q l ho hq hl, queries (part X g W o q l ho hq hl) (tableOf T0 o ho) (tableOf T1 o ho) (tableOf T2 o ho)⟩
def ks (o q : ℕ) (ho : o + 512 ≤ 1024) (hq : q + 512 ≤ 6656) (l : ℕ) (hl : l + 128 ≤ 512) : Part :=
  ⟨place2 o q l ho hq hl, keys (part X g W o q l ho hq hl) (tableOf T0 o ho) (tableOf T1 o ho) (tableOf T2 o ho)⟩
def vs (o q : ℕ) (ho : o + 512 ≤ 1024) (hq : q + 512 ≤ 6656) (l : ℕ) (hl : l + 128 ≤ 512) : Part :=
  ⟨place2 o q l ho hq hl, values (part X g W o q l ho hq hl)⟩
def gs (o q : ℕ) (ho : o + 512 ≤ 1024) (hq : q + 512 ≤ 6656) (b : ℕ) (hb : b + 512 ≤ 2048) (l : ℕ) (hl : l + 128 ≤ 512) : Part :=
  ⟨place2 o q l ho hq hl, gates (part X g W o q l ho hq hl) (biasOf B (b + l) (by omega))⟩

/-- Four pieces side by side, newest first. -/
def quad (f f' : ∀ l : ℕ, l + 128 ≤ 512 → Part) (L : List Part) : List Part :=
  f' 384 (by decide) :: f' 256 (by decide) :: f 128 (by decide) :: f 0 (by decide) :: L

/-- The pieces of 512 rows, newest first. -/
def band (o : ℕ) (ho : o + 512 ≤ 1024) (L : List Part) : List Part :=
  quad (vs X g W o 3584 ho (by decide)) (vs X g W o 3584 ho (by decide)) <|
  quad (vs X g W o 3072 ho (by decide)) (vs X g W o 3072 ho (by decide)) <|
  quad (ks X g W T0 T1 T2 o 6144 ho (by decide)) (vs X g W o 6144 ho (by decide)) <|
  quad (ks X g W T0 T1 T2 o 2560 ho (by decide)) (ks X g W T0 T1 T2 o 2560 ho (by decide)) <|
  quad (ks X g W T0 T1 T2 o 2048 ho (by decide)) (ks X g W T0 T1 T2 o 2048 ho (by decide)) <|
  quad (gs X g W B o 5632 ho (by decide) 1536 (by decide)) (gs X g W B o 5632 ho (by decide) 1536 (by decide)) <|
  quad (qs X g W T0 T1 T2 o 1536 ho (by decide)) (qs X g W T0 T1 T2 o 1536 ho (by decide)) <|
  quad (gs X g W B o 5120 ho (by decide) 1024 (by decide)) (gs X g W B o 5120 ho (by decide) 1024 (by decide)) <|
  quad (qs X g W T0 T1 T2 o 1024 ho (by decide)) (qs X g W T0 T1 T2 o 1024 ho (by decide)) <|
  quad (gs X g W B o 4608 ho (by decide) 512 (by decide)) (gs X g W B o 4608 ho (by decide) 512 (by decide)) <|
  quad (qs X g W T0 T1 T2 o 512 ho (by decide)) (qs X g W T0 T1 T2 o 512 ho (by decide)) <|
  quad (gs X g W B o 4096 ho (by decide) 0 (by decide)) (gs X g W B o 4096 ho (by decide) 0 (by decide)) <|
  quad (qs X g W T0 T1 T2 o 0 ho (by decide)) (qs X g W T0 T1 T2 o 0 ho (by decide)) L

set_option maxHeartbeats 0 in
theorem out_eq : out0_7 (F := Ideal) X g W B T0 T1 T2 = View.canon (Val := Elt Ideal) (s := S1024x6656) (e := .bf16) (band X g W B T0 T1 T2 512 (by decide) (band X g W B T0 T1 T2 0 (by decide) [])) := by
  unfold_out out0_7
  rfl

/-! ## The result of a point -/

/-- A row's product. -/
abbrev rowZ (r : Fin 1024) : ℕ → EReal := taps (fun k => X (ix2 r k)) (fun k => g (ix2 0 k)) (fun k j => W (ix2 k j))
abbrev rowT (r : Fin 1024) : ℕ → EReal := swung (rowZ X g W r) (fun e => T0 (ix2 r e)) (fun e => T1 (ix2 r e)) (fun e => T2 (ix2 r e))

def result : FVec Ideal S1024x6656 .bf16 := fun y =>
  cell (rowZ X g W (y 0) (y 1).val) (rowT X g W T0 T1 T2 (y 0) (y 1).val) (B (ix2 0 ⟨((y 1).val - 4096) % 2048, Nat.mod_lt _ (by decide)⟩)) (y 1).val

theorem result_at (r : Fin 1024) (n : Fin 6656) : result X g W B T0 T1 T2 (ix2 r n) =
    cell (rowZ X g W r n.val) (rowT X g W T0 T1 T2 r n.val) (B (ix2 0 ⟨(n.val - 4096) % 2048, Nat.mod_lt _ (by decide)⟩)) n.val := rfl

variable (o q l : ℕ) (ho : o + 512 ≤ 1024) (hq : q + 512 ≤ 6656) (hl : l + 128 ≤ 512)

theorem part_at (r : Fin 512) (e : Fin 128) : part X g W o q l ho hq hl (ix2 r e) = rowZ X g W ⟨o + r.val, by omega⟩ (q + l + e.val) := by
  unfold part
  rw [seg_at l _ hl, prod_at]
  refine Finset.sum_congr rfl fun k _ => ?_
  rw [unitRow_at, colsOf_at]
  have h0 : (fun k => rowsOf X o ho (ix2 r k)) = fun k => X (ix2 ⟨o + r.val, by omega⟩ k) := funext fun k => rowsOf_at X o ho r k
  have h1 : (fun k => gainOf g (ix2 0 k)) = fun k => g (ix2 0 k) := funext fun k => gainOf_at g k
  rw [h0, h1]
  exact congrArg (fun j => _ * W (ix2 k j)) (Fin.ext (show q + (l + e.val) = (q + l + e.val) % 6656 by omega))

theorem swing_part (hd : (q + l) % 128 = 0) (r : Fin 512) (e : Fin 128) :
    swing (part X g W o q l ho hq hl) (tableOf T0 o ho) (tableOf T1 o ho) (tableOf T2 o ho) (ix2 r e) = rowT X g W T0 T1 T2 ⟨o + r.val, by omega⟩ (q + l + e.val) := by
  rw [swing_at]
  simp only [part_at, tableOf_at]
  have hm : (⟨(q + l + e.val) % 128, Nat.mod_lt _ (by decide)⟩ : Fin 128) = e := Fin.ext (show (q + l + e.val) % 128 = e.val by omega)
  have hm' : (q + l + e.val) % 128 = e.val := by omega
  have hb : (q + l + e.val) / 128 * 128 = q + l := by omega
  unfold rowT swung
  rw [hm, hb, hm']

/-- A piece is right if it holds the result's entries where it stands. -/
abbrev Right (p : Part) : Prop := ∀ x : p.1.shape.Idx, p.2 x = result X g W B T0 T1 T2 (p.1.emb x)

theorem right_of (V : FVec Ideal S512x128 .bf16)
    (h : ∀ (r : Fin 512) (e : Fin 128), V (ix2 r e) = result X g W B T0 T1 T2 (ix2 ⟨o + r.val, by omega⟩ ⟨q + l + e.val, by omega⟩)) :
    Right X g W B T0 T1 T2 ⟨place2 o q l ho hq hl, V⟩ := fun x => by
  obtain ⟨r, e, rfl⟩ : ∃ (r : Fin 512) (e : Fin 128), x = ix2 r e := ⟨x 0, x 1, ofCoords x _ _ rfl rfl⟩
  exact (h r e).trans (congrArg _ (idxAt ![o, q + l] ![512, 128] (fits ![512, 128] o (q + l) ho (by show q + l + 128 ≤ 6656; omega)) (ix2 r e) ⟨o + r.val, by omega⟩ ⟨q + l + e.val, by omega⟩ rfl rfl).symm)

theorem qs_right (hd : (q + l) % 128 = 0) (h : q + 512 ≤ 2048) : Right X g W B T0 T1 T2 (qs X g W T0 T1 T2 o q ho hq l hl) :=
  right_of X g W B T0 T1 T2 o q l ho hq hl _ fun r e => by
    rw [queries_at, swing_part X g W T0 T1 T2 o q l ho hq hl hd, result_at]
    exact (if_pos (by dsimp only; omega)).symm

theorem ks_right (hd : (q + l) % 128 = 0) (h : 2048 ≤ q ∧ q + 512 ≤ 3072 ∨ q = 6144 ∧ l + 128 ≤ 256) : Right X g W B T0 T1 T2 (ks X g W T0 T1 T2 o q ho hq l hl) :=
  right_of X g W B T0 T1 T2 o q l ho hq hl _ fun r e => by
    rw [keys_at, swing_part X g W T0 T1 T2 o q l ho hq hl hd, result_at]
    unfold cell
    dsimp only
    rw [if_neg (by omega)]
    by_cases h1 : q + l + e.val < 3072
    · rw [if_pos h1]
    · rw [if_neg h1, if_neg (by omega), if_neg (by omega), if_pos (by omega)]

theorem vs_right (h : 3072 ≤ q ∧ q + 512 ≤ 4096 ∨ q = 6144 ∧ 256 ≤ l) : Right X g W B T0 T1 T2 (vs X g W o q ho hq l hl) :=
  right_of X g W B T0 T1 T2 o q l ho hq hl _ fun r e => by
    rw [values_at, part_at, result_at]
    unfold cell
    dsimp only
    rw [if_neg (by omega), if_neg (by omega)]
    by_cases h1 : q + l + e.val < 4096
    · rw [if_pos h1]
    · rw [if_neg h1, if_neg (by omega), if_neg (by omega)]

theorem gs_right (b : ℕ) (hb : b + 512 ≤ 2048) (h : q = 4096 + b) : Right X g W B T0 T1 T2 (gs X g W B o q ho hq b hb l hl) :=
  right_of X g W B T0 T1 T2 o q l ho hq hl _ fun r e => by
    have hi : (⟨b + l + e.val, by omega⟩ : Fin 2048) = ⟨(q + l + e.val - 4096) % 2048, Nat.mod_lt _ (by decide)⟩ := Fin.ext (show b + l + e.val = (q + l + e.val - 4096) % 2048 by omega)
    rw [gates_at, part_at, biasOf_at, result_at, hi]
    unfold cell
    dsimp only
    rw [if_neg (by omega), if_neg (by omega), if_neg (by omega), if_pos (by omega)]

theorem quad_all (P : Part → Prop) (f f' : ∀ l : ℕ, l + 128 ≤ 512 → Part) (L : List Part) (hf : ∀ l hl, l % 128 = 0 → l + 128 ≤ 256 → P (f l hl))
    (hf' : ∀ l hl, l % 128 = 0 → 256 ≤ l → P (f' l hl)) (hL : ∀ p ∈ L, P p) : ∀ p ∈ quad f f' L, P p :=
  List.forall_mem_cons.2 ⟨hf' 384 _ rfl (by decide), List.forall_mem_cons.2 ⟨hf' 256 _ rfl (by decide), List.forall_mem_cons.2 ⟨hf 128 _ rfl (by decide),
    List.forall_mem_cons.2 ⟨hf 0 _ rfl (by decide), hL⟩⟩⟩⟩

theorem band_right (L : List Part) (hL : ∀ p ∈ L, Right X g W B T0 T1 T2 p) : ∀ p ∈ band X g W B T0 T1 T2 o ho L, Right X g W B T0 T1 T2 p := by
  have q4 : ∀ q hq (hd : q % 128 = 0) (h : q + 512 ≤ 2048) L, (∀ p ∈ L, Right X g W B T0 T1 T2 p) →
      ∀ p ∈ quad (qs X g W T0 T1 T2 o q ho hq) (qs X g W T0 T1 T2 o q ho hq) L, Right X g W B T0 T1 T2 p := fun q hq hd h L =>
    quad_all _ _ _ L (fun l hl hd' _ => qs_right X g W B T0 T1 T2 o q l ho hq hl (by omega) h) (fun l hl hd' _ => qs_right X g W B T0 T1 T2 o q l ho hq hl (by omega) h)
  have k4 : ∀ q hq (hd : q % 128 = 0) (h : 2048 ≤ q ∧ q + 512 ≤ 3072) L, (∀ p ∈ L, Right X g W B T0 T1 T2 p) →
      ∀ p ∈ quad (ks X g W T0 T1 T2 o q ho hq) (ks X g W T0 T1 T2 o q ho hq) L, Right X g W B T0 T1 T2 p := fun q hq hd h L =>
    quad_all _ _ _ L (fun l hl hd' _ => ks_right X g W B T0 T1 T2 o q l ho hq hl (by omega) (Or.inl h)) (fun l hl hd' _ => ks_right X g W B T0 T1 T2 o q l ho hq hl (by omega) (Or.inl h))
  have v4 : ∀ q hq (h : 3072 ≤ q ∧ q + 512 ≤ 4096) L, (∀ p ∈ L, Right X g W B T0 T1 T2 p) →
      ∀ p ∈ quad (vs X g W o q ho hq) (vs X g W o q ho hq) L, Right X g W B T0 T1 T2 p := fun q hq h L =>
    quad_all _ _ _ L (fun l hl _ _ => vs_right X g W B T0 T1 T2 o q l ho hq hl (Or.inl h)) (fun l hl _ _ => vs_right X g W B T0 T1 T2 o q l ho hq hl (Or.inl h))
  have g4 : ∀ q hq b hb (h : q = 4096 + b) L, (∀ p ∈ L, Right X g W B T0 T1 T2 p) →
      ∀ p ∈ quad (gs X g W B o q ho hq b hb) (gs X g W B o q ho hq b hb) L, Right X g W B T0 T1 T2 p := fun q hq b hb h L =>
    quad_all _ _ _ L (fun l hl _ _ => gs_right X g W B T0 T1 T2 o q l ho hq hl b hb h) (fun l hl _ _ => gs_right X g W B T0 T1 T2 o q l ho hq hl b hb h)
  unfold band
  refine v4 3584 _ (by decide) _ <| v4 3072 _ (by decide) _ <| quad_all _ _ _ _ (fun l hl hd h => ks_right X g W B T0 T1 T2 o 6144 l ho _ hl (by omega) (Or.inr ⟨rfl, h⟩))
    (fun l hl _ h => vs_right X g W B T0 T1 T2 o 6144 l ho _ hl (Or.inr ⟨rfl, h⟩)) <| k4 2560 _ rfl (by decide) _ <| k4 2048 _ rfl (by decide) _ <|
    g4 5632 _ 1536 _ rfl _ <| q4 1536 _ rfl (by decide) _ <| g4 5120 _ 1024 _ rfl _ <| q4 1024 _ rfl (by decide) _ <| g4 4608 _ 512 _ rfl _ <| q4 512 _ rfl (by decide) _ <|
    g4 4096 _ 0 _ rfl _ <| q4 0 _ rfl (by decide) _ hL

/-! ## The pieces cover the block -/

/-- The pieces of `L` hold the groups of 512 columns numbered in `K`, of the rows from `o` on. -/
def Holds (L : List Part) (K : List ℕ) : Prop := ∀ (r : Fin 1024) (j : Fin 6656), o ≤ r.val → r.val < o + 512 → j.val / 512 ∈ K → ∃ p ∈ L, ix2 r j ∈ p.1.set

theorem quad_holds (f f' : ∀ l : ℕ, l + 128 ≤ 512 → Part) (hd : q % 512 = 0) (hf : ∀ l hl, (f l hl).1 = place2 o q l ho hq hl) (hf' : ∀ l hl, (f' l hl).1 = place2 o q l ho hq hl)
    (L : List Part) (K : List ℕ) (hL : Holds o L K) : Holds o (quad f f' L) (q / 512 :: K) := fun r j h0 h1 hj => by
  have at' : ∀ l hl, q + l ≤ j.val → j.val < q + l + 128 → ix2 r j ∈ (place2 o q l ho hq hl).set := fun l hl h2 h3 =>
    Rect.mem_set_unit.2 fun | 0 => ⟨h0, h1⟩ | 1 => ⟨h2, h3⟩
  rcases List.mem_cons.1 hj with hj | hj
  · by_cases e1 : j.val < q + 128
    · exact ⟨f 0 (by decide), by simp [quad], by rw [hf]; exact at' 0 _ (by omega) (by omega)⟩
    by_cases e2 : j.val < q + 256
    · exact ⟨f 128 (by decide), by simp [quad], by rw [hf]; exact at' 128 _ (by omega) (by omega)⟩
    by_cases e3 : j.val < q + 384
    · exact ⟨f' 256 (by decide), by simp [quad], by rw [hf']; exact at' 256 _ (by omega) (by omega)⟩
    · exact ⟨f' 384 (by decide), by simp [quad], by rw [hf']; exact at' 384 _ (by omega) (by omega)⟩
  · obtain ⟨p, hp, hm⟩ := hL r j h0 h1 hj
    exact ⟨p, by unfold quad; simp only [List.mem_cons, hp, or_true], hm⟩

theorem band_holds (L : List Part) : Holds o (band X g W B T0 T1 T2 o ho L) [7, 6, 12, 5, 4, 11, 3, 10, 2, 9, 1, 8, 0] := by
  have hn : Holds o L [] := fun r j _ _ h => absurd h List.not_mem_nil
  unfold band
  exact quad_holds o 3584 ho (by decide) _ _ rfl (fun _ _ => rfl) (fun _ _ => rfl) _ _ <| quad_holds o 3072 ho (by decide) _ _ rfl (fun _ _ => rfl) (fun _ _ => rfl) _ _ <|
    quad_holds o 6144 ho (by decide) _ _ rfl (fun _ _ => rfl) (fun _ _ => rfl) _ _ <| quad_holds o 2560 ho (by decide) _ _ rfl (fun _ _ => rfl) (fun _ _ => rfl) _ _ <|
    quad_holds o 2048 ho (by decide) _ _ rfl (fun _ _ => rfl) (fun _ _ => rfl) _ _ <| quad_holds o 5632 ho (by decide) _ _ rfl (fun _ _ => rfl) (fun _ _ => rfl) _ _ <|
    quad_holds o 1536 ho (by decide) _ _ rfl (fun _ _ => rfl) (fun _ _ => rfl) _ _ <| quad_holds o 5120 ho (by decide) _ _ rfl (fun _ _ => rfl) (fun _ _ => rfl) _ _ <|
    quad_holds o 1024 ho (by decide) _ _ rfl (fun _ _ => rfl) (fun _ _ => rfl) _ _ <| quad_holds o 4608 ho (by decide) _ _ rfl (fun _ _ => rfl) (fun _ _ => rfl) _ _ <|
    quad_holds o 512 ho (by decide) _ _ rfl (fun _ _ => rfl) (fun _ _ => rfl) _ _ <| quad_holds o 4096 ho (by decide) _ _ rfl (fun _ _ => rfl) (fun _ _ => rfl) _ _ <|
    quad_holds o 0 ho (by decide) _ _ rfl (fun _ _ => rfl) (fun _ _ => rfl) _ _ hn

theorem groups : ∀ k : Fin 13, k.val ∈ [7, 6, 12, 5, 4, 11, 3, 10, 2, 9, 1, 8, 0] := by decide

/-- The later pieces stay. -/
theorem quad_mem (f f' : ∀ l : ℕ, l + 128 ≤ 512 → Part) (L : List Part) (p : Part) (hp : p ∈ L) : p ∈ quad f f' L := by
  unfold quad; simp only [List.mem_cons, hp, or_true]

theorem band_mem (L : List Part) (p : Part) (hp : p ∈ L) : p ∈ band X g W B T0 T1 T2 o ho L := by
  unfold band
  exact quad_mem _ _ _ _ <| quad_mem _ _ _ _ <| quad_mem _ _ _ _ <| quad_mem _ _ _ _ <| quad_mem _ _ _ _ <| quad_mem _ _ _ _ <| quad_mem _ _ _ _ <| quad_mem _ _ _ _ <|
    quad_mem _ _ _ _ <| quad_mem _ _ _ _ <| quad_mem _ _ _ _ <| quad_mem _ _ _ _ <| quad_mem _ _ _ _ hp

theorem out_at (y) : out0_7 (F := Ideal) X g W B T0 T1 T2 y = result X g W B T0 T1 T2 y := by
  rw [out_eq]
  refine View.canon_apply_of_pieces (Val := Elt Ideal) (e := .bf16) (S := S1024x6656) (result X g W B T0 T1 T2) _ ?_ y ?_
  · exact band_right X g W B T0 T1 T2 512 _ _ (band_right X g W B T0 T1 T2 0 _ [] (fun _ h => absurd h List.not_mem_nil))
  · obtain ⟨r, j, rfl⟩ : ∃ (r : Fin 1024) (j : Fin 6656), y = ix2 r j := ⟨y 0, y 1, ofCoords y _ _ rfl rfl⟩
    have hk := groups ⟨j.val / 512, by omega⟩
    by_cases h : r.val < 512
    · obtain ⟨p, hp, hm⟩ := band_holds X g W B T0 T1 T2 0 (by decide) [] r j (Nat.zero_le _) (by omega) hk
      exact ⟨p, band_mem X g W B T0 T1 T2 512 _ _ p hp, hm⟩
    · exact band_holds X g W B T0 T1 T2 512 (by decide) _ r j (by omega) (by omega) hk

theorem point (m : (ℓ : Loc nD τ sig) → Buf (Elt Ideal) ℓ) (c : Dev nD) (t : Fin cfg0.N) (y) : (dats m 0 c).after 7 t y =
    result (iblk m c 0 t) (iblk m c 1 t) (iblk m c 2 t) (iblk m c 3 t) (iblk m c 4 t) (iblk m c 5 t) (iblk m c 6 t) y := by
  rw [after0_7]
  exact out_at _ _ _ _ _ _ _ y

end Cert.KernelInprojIdeal.Hand

end
-- ==== Proof.InprojRef.lean ====
/-
  The projection's reference, read at an index.
-/
module

public import proofs.«01_k».proof.Proof.Turn
public import proofs.«01_k».proof.Proof.Gen.ReferenceInprojIdeal.Run

@[expose] public section

set_option maxRecDepth 16384

noncomputable section

namespace Cert.ReferenceInprojIdeal.Hand

open Cert.ReferenceInprojIdeal Cert.ReferenceInprojIdeal.Gen Idealize.ShloMosaic Idealize.ShloMosaic.TcCoe
open Cert.Core

/-! ## The terms -/

/-- The normed rows, -/
def refN (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

/-- their product with the weights, -/
def refZ (x : FVec Ideal S16x2048x1024 .f32) (g : FVec Ideal S1024 .f32) (w : FVec Ideal S1024x6656 .f32) : FVec Ideal S16x2048x6656 .f32 :=
  Host.dotGeneral dot_S16x2048x1024_S1024x6656_S16x2048x6656_2_0_01_1_n_n none (refN x g) w

/-- the angles, -/
def angle : FVec Ideal S2048x32 .f32 :=
  mulf (broadcastInDim S2048x32 ![0, 1] bcast_S2048x1_S2048x32_0_1 (broadcastInDim S2048x1 ![0] bcast_S2048_S2048x1_0 (sitofp .f32 (addi (iotaInDim S2048 32 0) (broadcastInDim S2048 ![] bcast_S_S2048 (constantI S_ 32 16#32)))))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

variable (C S : FVec Ideal S2048x32 .f32)

/-- the turns of sixteen heads, of four and of eight pairs, -/
def turn16 (z : FVec Ideal S16x2048x16x64 .f32) : FVec Ideal S16x2048x16x64 .f32 :=
  concatenate S16x2048x16x64 3 [⟨S16x2048x16x32, (subf (mulf (extractStridedSlice S16x2048x16x32 ![0, 0, 0, 0] z slices_S16x2048x16x64_S16x2048x16x32_0_0_0_0) (broadcastInDim S16x2048x16x32 ![0, 1, 2, 3] bcast_S1x2048x1x32_S16x2048x16x32_0_1_2_3 (shapeCast _ C shapeCasts_S2048x32_S1x2048x1x32))) (mulf (extractStridedSlice S16x2048x16x32 ![0, 0, 0, 32] z slices_S16x2048x16x64_S16x2048x16x32_0_0_0_32) (broadcastInDim S16x2048x16x32 ![0, 1, 2, 3] bcast_S1x2048x1x32_S16x2048x16x32_0_1_2_3 (shapeCast _ S shapeCasts_S2048x32_S1x2048x1x32))))⟩, ⟨S16x2048x16x32, (addf (mulf (extractStridedSlice S16x2048x16x32 ![0, 0, 0, 32] z slices_S16x2048x16x64_S16x2048x16x32_0_0_0_32) (broadcastInDim S16x2048x16x32 ![0, 1, 2, 3] bcast_S1x2048x1x32_S16x2048x16x32_0_1_2_3 (shapeCast _ C shapeCasts_S2048x32_S1x2048x1x32))) (mulf (extractStridedSlice S16x2048x16x32 ![0, 0, 0, 0] z slices_S16x2048x16x64_S16x2048x16x32_0_0_0_0) (broadcastInDim S16x2048x16x32 ![0, 1, 2, 3] bcast_S1x2048x1x32_S16x2048x16x32_0_1_2_3 (shapeCast _ S shapeCasts_S2048x32_S1x2048x1x32))))⟩] concatenates_S16x2048x16x32_S16x2048x16x32_S16x2048x16x64_d3
def turn4 (z : FVec Ideal S16x2048x4x64 .f32) : FVec Ideal S16x2048x4x64 .f32 :=
  concatenate S16x2048x4x64 3 [⟨S16x2048x4x32, (subf (mulf (extractStridedSlice S16x2048x4x32 ![0, 0, 0, 0] z slices_S16x2048x4x64_S16x2048x4x32_0_0_0_0) (broadcastInDim S16x2048x4x32 ![0, 1, 2, 3] bcast_S1x2048x1x32_S16x2048x4x32_0_1_2_3 (shapeCast _ C shapeCasts_S2048x32_S1x2048x1x32))) (mulf (extractStridedSlice S16x2048x4x32 ![0, 0, 0, 32] z slices_S16x2048x4x64_S16x2048x4x32_0_0_0_32) (broadcastInDim S16x2048x4x32 ![0, 1, 2, 3] bcast_S1x2048x1x32_S16x2048x4x32_0_1_2_3 (shapeCast _ S shapeCasts_S2048x32_S1x2048x1x32))))⟩, ⟨S16x2048x4x32, (addf (mulf (extractStridedSlice S16x2048x4x32 ![0, 0, 0, 32] z slices_S16x2048x4x64_S16x2048x4x32_0_0_0_32) (broadcastInDim S16x2048x4x32 ![0, 1, 2, 3] bcast_S1x2048x1x32_S16x2048x4x32_0_1_2_3 (shapeCast _ C shapeCasts_S2048x32_S1x2048x1x32))) (mulf (extractStridedSlice S16x2048x4x32 ![0, 0, 0, 0] z slices_S16x2048x4x64_S16x2048x4x32_0_0_0_0) (broadcastInDim S16x2048x4x32 ![0, 1, 2, 3] bcast_S1x2048x1x32_S16x2048x4x32_0_1_2_3 (shapeCast _ S shapeCasts_S2048x32_S1x2048x1x32))))⟩] concatenates_S16x2048x4x32_S16x2048x4x32_S16x2048x4x64_d3
def turn8x2 (z : FVec Ideal S16x2048x8x2x64 .f32) : FVec Ideal S16x2048x8x2x64 .f32 :=
  concatenate S16x2048x8x2x64 4 [⟨S16x2048x8x2x32, (subf (mulf (extractStridedSlice S16x2048x8x2x32 ![0, 0, 0, 0, 0] z slices_S16x2048x8x2x64_S16x2048x8x2x32_0_0_0_0_0) (broadcastInDim S16x2048x8x2x32 ![0, 1, 2, 3, 4] bcast_S1x2048x1x1x32_S16x2048x8x2x32_0_1_2_3_4 (shapeCast _ C shapeCasts_S2048x32_S1x2048x1x1x32))) (mulf (extractStridedSlice S16x2048x8x2x32 ![0, 0, 0, 0, 32] z slices_S16x2048x8x2x64_S16x2048x8x2x32_0_0_0_0_32) (broadcastInDim S16x2048x8x2x32 ![0, 1, 2, 3, 4] bcast_S1x2048x1x1x32_S16x2048x8x2x32_0_1_2_3_4 (shapeCast _ S shapeCasts_S2048x32_S1x2048x1x1x32))))⟩, ⟨S16x2048x8x2x32, (addf (mulf (extractStridedSlice S16x2048x8x2x32 ![0, 0, 0, 0, 32] z slices_S16x2048x8x2x64_S16x2048x8x2x32_0_0_0_0_32) (broadcastInDim S16x2048x8x2x32 ![0, 1, 2, 3, 4] bcast_S1x2048x1x1x32_S16x2048x8x2x32_0_1_2_3_4 (shapeCast _ C shapeCasts_S2048x32_S1x2048x1x1x32))) (mulf (extractStridedSlice S16x2048x8x2x32 ![0, 0, 0, 0, 0] z slices_S16x2048x8x2x64_S16x2048x8x2x32_0_0_0_0_0) (broadcastInDim S16x2048x8x2x32 ![0, 1, 2, 3, 4] bcast_S1x2048x1x1x32_S16x2048x8x2x32_0_1_2_3_4 (shapeCast _ S shapeCasts_S2048x32_S1x2048x1x1x32))))⟩] concatenates_S16x2048x8x2x32_S16x2048x8x2x32_S16x2048x8x2x64_d4

variable (z : FVec Ideal S16x2048x6656 .f32) (b : FVec Ideal S2048 .f32)

/-- and the seven groups of columns. -/
def qa : FVec Ideal S32768x1024 .f32 :=
  mulf (shapeCast _ (turn16 C S (shapeCast _ (extractStridedSlice S16x2048x1024 ![0, 0, 0] z slices_S16x2048x6656_S16x2048x1024_0_0_0) shapeCasts_S16x2048x1024_S16x2048x16x64)) shapeCasts_S16x2048x16x64_S32768x1024) (broadcastInDim S32768x1024 ![] bcast_S_S32768x1024 (constant S_ .f32 0x3E38AA3B#32))
def qb : FVec Ideal S32768x1024 .f32 :=
  mulf (shapeCast _ (turn8x2 C S (shapeCast _ (extractStridedSlice S16x2048x1024 ![0, 0, 1536] z slices_S16x2048x6656_S16x2048x1024_0_0_1536) shapeCasts_S16x2048x1024_S16x2048x8x2x64)) shapeCasts_S16x2048x8x2x64_S32768x1024) (broadcastInDim S32768x1024 ![] bcast_S_S32768x1024 (constant S_ .f32 0x3E38AA3B#32))
def kb : FVec Ideal S32768x1024 .f32 :=
  shapeCast _ (turn8x2 C S (shapeCast _ (extractStridedSlice S16x2048x1024 ![0, 0, 2560] z slices_S16x2048x6656_S16x2048x1024_0_0_2560) shapeCasts_S16x2048x1024_S16x2048x8x2x64)) shapeCasts_S16x2048x8x2x64_S32768x1024
def vb : FVec Ideal S32768x1024 .f32 :=
  shapeCast _ (extractStridedSlice S16x2048x1024 ![0, 0, 3584] z slices_S16x2048x6656_S16x2048x1024_0_0_3584) shapeCasts_S16x2048x1024_S32768x1024
def gt : FVec Ideal S32768x2048 .f32 :=
  shapeCast _ (Host.divf (broadcastInDim S16x2048x2048 ![] bcast_S_S16x2048x2048 (constant S_ .f32 0x3F800000#32)) (addf (broadcastInDim S16x2048x2048 ![] bcast_S_S16x2048x2048 (constant S_ .f32 0x3F800000#32)) (Host.exp (Host.negf (addf (extractStridedSlice S16x2048x2048 ![0, 0, 4608] z slices_S16x2048x6656_S16x2048x2048_0_0_4608) (broadcastInDim S16x2048x2048 ![0, 1, 2] bcast_S1x1x2048_S16x2048x2048_0_1_2 (broadcastInDim S1x1x2048 ![2] bcast_S2048_S1x1x2048_2 b))))))) shapeCasts_S16x2048x2048_S32768x2048
def ka : FVec Ideal S32768x256 .f32 :=
  shapeCast _ (turn4 C S (shapeCast _ (extractStridedSlice S16x2048x256 ![0, 0, 1024] z slices_S16x2048x6656_S16x2048x256_0_0_1024) shapeCasts_S16x2048x256_S16x2048x4x64)) shapeCasts_S16x2048x4x64_S32768x256
def va : FVec Ideal S32768x256 .f32 :=
  shapeCast _ (extractStridedSlice S16x2048x256 ![0, 0, 1280] z slices_S16x2048x6656_S16x2048x256_0_0_1280) shapeCasts_S16x2048x256_S32768x256

/-- The groups side by side. -/
def refCat (p0 : FVec Ideal S32768x1024 .f32) (p1 : FVec Ideal S32768x1024 .f32) (p2 : FVec Ideal S32768x1024 .f32) (p3 : FVec Ideal S32768x1024 .f32)
    (p4 : FVec Ideal S32768x2048 .f32) (p5 : FVec Ideal S32768x256 .f32) (p6 : FVec Ideal S32768x256 .f32) : FVec Ideal S32768x6656 .f32 :=
  concatenate S32768x6656 1 [⟨S32768x1024, (p0 : (⟨S32768x1024, .f32⟩ : BufTy).Contents (Elt Ideal))⟩, ⟨S32768x1024, (p1 : (⟨S32768x1024, .f32⟩ : BufTy).Contents (Elt Ideal))⟩, ⟨S32768x1024, (p2 : (⟨S32768x1024, .f32⟩ : BufTy).Contents (Elt Ideal))⟩, ⟨S32768x1024, (p3 : (⟨S32768x1024, .f32⟩ : BufTy).Contents (Elt Ideal))⟩, ⟨S32768x2048, (p4 : (⟨S32768x2048, .f32⟩ : BufTy).Contents (Elt Ideal))⟩, ⟨S32768x256, (p5 : (⟨S32768x256, .f32⟩ : BufTy).Contents (Elt Ideal))⟩, ⟨S32768x256, (p6 : (⟨S32768x256, .f32⟩ : BufTy).Contents (Elt Ideal))⟩] concatenates_S32768x1024_S32768x1024_S32768x1024_S32768x1024_S32768x2048_S32768x256_S32768x256_S32768x6656_d1

variable (x : FVec Ideal S16x2048x1024 .f32) (g : FVec Ideal S1024 .f32) (w : FVec Ideal S1024x6656 .f32)

def refOut : FVec Ideal S32768x6656 .bf16 :=
  truncf .bf16 (refCat (qa (Host.cos angle) (Host.sin angle) (refZ x g w)) (qb (Host.cos angle) (Host.sin angle) (refZ x g w)) (kb (Host.cos angle) (Host.sin angle) (refZ x g w)) (vb (refZ x g w)) (gt (refZ x g w) b) (ka (Host.cos angle) (Host.sin angle) (refZ x g w)) (va (refZ x g w))) bitsLt_bf16_f32

/-! ## At an index -/

theorem refN_at (x : FVec Ideal S16x2048x1024 .f32) (g : FVec Ideal S1024 .f32) (b : Fin 16) (i : Fin 2048) (k : Fin 1024) :
    refN x g (ix3 b i k) = normed (fun k => x (ix3 b i k)) (fun k => g (ix1 k)) k := by
  unfold refN normed
  pointwise

theorem refZ_at (b : Fin 16) (i : Fin 2048) (j : Fin 6656) : refZ x g w (ix3 b i j) = taps (fun k => x (ix3 b i k)) (fun k => g (ix1 k)) (fun k j => w (ix2 k j)) j.val := by
  have e : refZ x g w (ix3 b i j) = ∑ k, refN x g (ix3 b i k) * w (ix2 k j) := by
    unfold refZ
    pointwise
  rw [e]
  unfold taps
  refine Finset.sum_congr rfl fun k _ => ?_
  rw [refN_at]
  exact congrArg (fun n => _ * w (ix2 k n)) (Fin.ext (Nat.mod_eq_of_lt j.isLt).symm)

theorem refCat_at (p0 : FVec Ideal S32768x1024 .f32) (p1 : FVec Ideal S32768x1024 .f32) (p2 : FVec Ideal S32768x1024 .f32) (p3 : FVec Ideal S32768x1024 .f32)
    (p4 : FVec Ideal S32768x2048 .f32) (p5 : FVec Ideal S32768x256 .f32) (p6 : FVec Ideal S32768x256 .f32) (r : Fin 32768) (j : Fin 6656) :
    refCat p0 p1 p2 p3 p4 p5 p6 (ix2 r j) = if h : j.val < 1024 then p0 (ix2 r ⟨j.val, h⟩)
      else if h : j.val - 1024 < 1024 then p1 (ix2 r ⟨j.val - 1024, h⟩)
      else if h : j.val - 1024 - 1024 < 1024 then p2 (ix2 r ⟨j.val - 1024 - 1024, h⟩)
      else if h : j.val - 1024 - 1024 - 1024 < 1024 then p3 (ix2 r ⟨j.val - 1024 - 1024 - 1024, h⟩)
      else if h : j.val - 1024 - 1024 - 1024 - 1024 < 2048 then p4 (ix2 r ⟨j.val - 1024 - 1024 - 1024 - 1024, h⟩)
      else if h : j.val - 1024 - 1024 - 1024 - 1024 - 2048 < 256 then p5 (ix2 r ⟨j.val - 1024 - 1024 - 1024 - 1024 - 2048, h⟩)
      else p6 (ix2 r ⟨j.val - 1024 - 1024 - 1024 - 1024 - 2048 - 256, by omega⟩) := by
  unfold refCat
  pointwise

theorem turn16_at (z : FVec Ideal S16x2048x16x64 .f32) (b : Fin 16) (i : Fin 2048) (h : Fin 16) (e : Fin 64) :
    turn16 C S z (ix4 b i h e) = if h_1 : e.val < 32 then z (ix4 b i h e) * C (ix2 i ⟨e.val, h_1⟩) - z (ix4 b i h ⟨32 + e.val, by omega⟩) * S (ix2 i ⟨e.val, h_1⟩)
      else z (ix4 b i h ⟨32 + (e.val - 32), by omega⟩) * C (ix2 i ⟨e.val - 32, by omega⟩) + z (ix4 b i h ⟨e.val - 32, by omega⟩) * S (ix2 i ⟨e.val - 32, by omega⟩) := by
  unfold turn16
  pointwise

theorem turn4_at (z : FVec Ideal S16x2048x4x64 .f32) (b : Fin 16) (i : Fin 2048) (h : Fin 4) (e : Fin 64) :
    turn4 C S z (ix4 b i h e) = if h_1 : e.val < 32 then z (ix4 b i h e) * C (ix2 i ⟨e.val, h_1⟩) - z (ix4 b i h ⟨32 + e.val, by omega⟩) * S (ix2 i ⟨e.val, h_1⟩)
      else z (ix4 b i h ⟨32 + (e.val - 32), by omega⟩) * C (ix2 i ⟨e.val - 32, by omega⟩) + z (ix4 b i h ⟨e.val - 32, by omega⟩) * S (ix2 i ⟨e.val - 32, by omega⟩) := by
  unfold turn4
  pointwise

theorem turn8x2_at (z : FVec Ideal S16x2048x8x2x64 .f32) (b : Fin 16) (i : Fin 2048) (h : Fin 8) (p : Fin 2) (e : Fin 64) :
    turn8x2 C S z (ix5 b i h p e) = if h_1 : e.val < 32 then z (ix5 b i h p e) * C (ix2 i ⟨e.val, h_1⟩) - z (ix5 b i h p ⟨32 + e.val, by omega⟩) * S (ix2 i ⟨e.val, h_1⟩)
      else z (ix5 b i h p ⟨32 + (e.val - 32), by omega⟩) * C (ix2 i ⟨e.val - 32, by omega⟩) + z (ix5 b i h p ⟨e.val - 32, by omega⟩) * S (ix2 i ⟨e.val - 32, by omega⟩) := by
  unfold turn8x2
  pointwise

def heads16 : FVec Ideal S16x2048x16x64 .f32 := shapeCast S16x2048x16x64 (extractStridedSlice S16x2048x1024 ![0, 0, 0] z slices_S16x2048x6656_S16x2048x1024_0_0_0) shapeCasts_S16x2048x1024_S16x2048x16x64
def heads4 : FVec Ideal S16x2048x4x64 .f32 := shapeCast S16x2048x4x64 (extractStridedSlice S16x2048x256 ![0, 0, 1024] z slices_S16x2048x6656_S16x2048x256_0_0_1024) shapeCasts_S16x2048x256_S16x2048x4x64
def pairsQ : FVec Ideal S16x2048x8x2x64 .f32 := shapeCast S16x2048x8x2x64 (extractStridedSlice S16x2048x1024 ![0, 0, 1536] z slices_S16x2048x6656_S16x2048x1024_0_0_1536) shapeCasts_S16x2048x1024_S16x2048x8x2x64
def pairsK : FVec Ideal S16x2048x8x2x64 .f32 := shapeCast S16x2048x8x2x64 (extractStridedSlice S16x2048x1024 ![0, 0, 2560] z slices_S16x2048x6656_S16x2048x1024_0_0_2560) shapeCasts_S16x2048x1024_S16x2048x8x2x64

theorem heads16_at (b : Fin 16) (i : Fin 2048) (h : Fin 16) (e : Fin 64) : heads16 z (ix4 b i h e) = z (ix3 b i ⟨h.val * 64 + e.val, by omega⟩) := by
  unfold heads16
  pointwise
theorem heads4_at (b : Fin 16) (i : Fin 2048) (h : Fin 4) (e : Fin 64) : heads4 z (ix4 b i h e) = z (ix3 b i ⟨1024 + (h.val * 64 + e.val), by omega⟩) := by
  unfold heads4
  pointwise
theorem pairsQ_at (b : Fin 16) (i : Fin 2048) (h : Fin 8) (p : Fin 2) (e : Fin 64) : pairsQ z (ix5 b i h p e) = z (ix3 b i ⟨1536 + (h.val * 128 + p.val * 64 + e.val), by omega⟩) := by
  unfold pairsQ
  pointwise
theorem pairsK_at (b : Fin 16) (i : Fin 2048) (h : Fin 8) (p : Fin 2) (e : Fin 64) : pairsK z (ix5 b i h p e) = z (ix3 b i ⟨2560 + (h.val * 128 + p.val * 64 + e.val), by omega⟩) := by
  unfold pairsK
  pointwise

variable (r : Fin 32768)

/-- A row's columns by number. -/
abbrev rowZ (n : ℕ) : EReal := z (ix3 ⟨r.val / 2048, by omega⟩ ⟨r.val % 2048, by omega⟩ ⟨place n % 6656, Nat.mod_lt _ (by decide)⟩)
abbrev rowC (e : Fin 32) : EReal := C (ix2 ⟨r.val % 2048, by omega⟩ e)

theorem rowZ_eq (j : Fin 6656) (n : ℕ) (h : j.val = place n) : z (ix3 ⟨r.val / 2048, by omega⟩ ⟨r.val % 2048, by omega⟩ j) = rowZ z r n :=
  congrArg (fun j => z (ix3 _ _ j)) (Fin.ext (h.trans (Nat.mod_eq_of_lt (h ▸ j.isLt)).symm))

theorem qa_at (k : Fin 1024) : qa C S z (ix2 r k) = turned (rowZ z r) (rowC C r) (rowC S r) k.val * Ideal.ofBits .f32 0x3E38AA3B#32 := by
  have e : qa C S z (ix2 r k) = turn16 C S (heads16 z) (ix4 ⟨r.val / 2048, by omega⟩ ⟨r.val % 2048, by omega⟩ ⟨k.val / 64, by omega⟩ ⟨k.val % 64, by omega⟩) * Ideal.ofBits .f32 0x3E38AA3B#32 := by
    unfold qa heads16
    pointwise
  rw [e, turn16_at]
  congr 1
  by_cases h : k.val % 64 < 32
  · rw [dif_pos h, heads16_at, heads16_at, rowZ_eq z r _ k.val (by unfold place; split_ifs <;> dsimp only <;> omega), rowZ_eq z r _ (k.val + 32) (by unfold place; split_ifs <;> dsimp only <;> omega)]
    exact turned_lo (rowZ z r) (rowC C r) (rowC S r) k.val h _ _ _ rfl rfl (by dsimp only; omega)
  · rw [dif_neg h, heads16_at, heads16_at, rowZ_eq z r _ k.val (by unfold place; split_ifs <;> dsimp only <;> omega), rowZ_eq z r _ (k.val - 32) (by unfold place; split_ifs <;> dsimp only <;> omega)]
    exact turned_hi (rowZ z r) (rowC C r) (rowC S r) k.val h _ _ _ rfl rfl (by dsimp only; omega)

theorem ka_at (k : Fin 256) : ka C S z (ix2 r k) = turned (rowZ z r) (rowC C r) (rowC S r) (6144 + k.val) := by
  have e : ka C S z (ix2 r k) = turn4 C S (heads4 z) (ix4 ⟨r.val / 2048, by omega⟩ ⟨r.val % 2048, by omega⟩ ⟨k.val / 64, by omega⟩ ⟨k.val % 64, by omega⟩) := by
    unfold ka heads4
    pointwise
  rw [e, turn4_at]
  by_cases h : k.val % 64 < 32
  · rw [dif_pos h, heads4_at, heads4_at, rowZ_eq z r _ (6144 + k.val) (by unfold place; split_ifs <;> dsimp only <;> omega), rowZ_eq z r _ (6144 + k.val + 32) (by unfold place; split_ifs <;> dsimp only <;> omega)]
    exact turned_lo (rowZ z r) (rowC C r) (rowC S r) (6144 + k.val) (by omega) _ _ _ rfl rfl (by dsimp only; omega)
  · rw [dif_neg h, heads4_at, heads4_at, rowZ_eq z r _ (6144 + k.val) (by unfold place; split_ifs <;> dsimp only <;> omega), rowZ_eq z r _ (6144 + k.val - 32) (by unfold place; split_ifs <;> dsimp only <;> omega)]
    exact turned_hi (rowZ z r) (rowC C r) (rowC S r) (6144 + k.val) (by omega) _ _ _ rfl rfl (by dsimp only; omega)

/-- A turn of pairs whose columns stand from column `o` on. -/
theorem pairs_at (o : ℕ) (ho : o % 64 = 0) (hl : 1024 ≤ o) (hu : o + 1024 ≤ 6144) (y : FVec Ideal S16x2048x8x2x64 .f32)
    (hy : ∀ (h : Fin 8) (p : Fin 2) (e : Fin 64), y (ix5 ⟨r.val / 2048, by omega⟩ ⟨r.val % 2048, by omega⟩ h p e) = rowZ z r (o + (h.val * 128 + p.val * 64 + e.val))) (k : Fin 1024) :
    turn8x2 C S y (ix5 ⟨r.val / 2048, by omega⟩ ⟨r.val % 2048, by omega⟩ ⟨k.val / 128, by omega⟩ ⟨k.val / 64 % 2, by omega⟩ ⟨k.val % 64, by omega⟩) =
      turned (rowZ z r) (rowC C r) (rowC S r) (o + k.val) := by
  rw [turn8x2_at]
  by_cases h : k.val % 64 < 32
  · rw [dif_pos h, hy, hy]
    exact turned_lo (rowZ z r) (rowC C r) (rowC S r) (o + k.val) (by omega) _ _ _ (by dsimp only; omega) (by dsimp only; omega) (by dsimp only; omega)
  · rw [dif_neg h, hy, hy]
    exact turned_hi (rowZ z r) (rowC C r) (rowC S r) (o + k.val) (by omega) _ _ _ (by dsimp only; omega) (by dsimp only; omega) (by dsimp only; omega)

theorem qb_at (k : Fin 1024) : qb C S z (ix2 r k) = turned (rowZ z r) (rowC C r) (rowC S r) (1024 + k.val) * Ideal.ofBits .f32 0x3E38AA3B#32 := by
  have e : qb C S z (ix2 r k) = turn8x2 C S (pairsQ z) (ix5 ⟨r.val / 2048, by omega⟩ ⟨r.val % 2048, by omega⟩ ⟨k.val / 128, by omega⟩ ⟨k.val / 64 % 2, by omega⟩ ⟨k.val % 64, by omega⟩) * Ideal.ofBits .f32 0x3E38AA3B#32 := by
    unfold qb pairsQ
    pointwise
  rw [e]
  exact congrArg (· * _) (pairs_at C S z r 1024 rfl (by decide) (by decide) _ (fun h p e => (pairsQ_at z _ _ h p e).trans (rowZ_eq z r _ _ (by unfold place; split_ifs <;> dsimp only <;> omega))) k)

theorem kb_at (k : Fin 1024) : kb C S z (ix2 r k) = turned (rowZ z r) (rowC C r) (rowC S r) (2048 + k.val) := by
  have e : kb C S z (ix2 r k) = turn8x2 C S (pairsK z) (ix5 ⟨r.val / 2048, by omega⟩ ⟨r.val % 2048, by omega⟩ ⟨k.val / 128, by omega⟩ ⟨k.val / 64 % 2, by omega⟩ ⟨k.val % 64, by omega⟩) := by
    unfold kb pairsK
    pointwise
  rw [e]
  exact pairs_at C S z r 2048 rfl (by decide) (by decide) _ (fun h p e => (pairsK_at z _ _ h p e).trans (rowZ_eq z r _ _ (by unfold place; split_ifs <;> dsimp only <;> omega))) k

theorem vb_at (k : Fin 1024) : vb z (ix2 r k) = rowZ z r (3072 + k.val) := by
  have e : vb z (ix2 r k) = z (ix3 ⟨r.val / 2048, by omega⟩ ⟨r.val % 2048, by omega⟩ ⟨3584 + k.val, by omega⟩) := by
    unfold vb
    pointwise
  exact e.trans (rowZ_eq z r _ _ (by unfold place; split_ifs <;> dsimp only <;> omega))
theorem va_at (k : Fin 256) : va z (ix2 r k) = rowZ z r (6400 + k.val) := by
  have e : va z (ix2 r k) = z (ix3 ⟨r.val / 2048, by omega⟩ ⟨r.val % 2048, by omega⟩ ⟨1280 + k.val, by omega⟩) := by
    unfold va
    pointwise
  exact e.trans (rowZ_eq z r _ _ (by unfold place; split_ifs <;> dsimp only <;> omega))
theorem gt_at (k : Fin 2048) : gt z b (ix2 r k) = Ideal.logistic (rowZ z r (4096 + k.val) + b (ix1 k)) := by
  have e : gt z b (ix2 r k) = Ideal.logistic (z (ix3 ⟨r.val / 2048, by omega⟩ ⟨r.val % 2048, by omega⟩ ⟨4608 + k.val, by omega⟩) + b (ix1 k)) := by
    unfold gt Ideal.logistic
    pointwise
  rw [e, rowZ_eq z r _ (4096 + k.val) (by unfold place; split_ifs <;> dsimp only <;> omega)]

/-- A column of the reference. -/
theorem refOut_cell (j : Fin 6656) : refCat (qa C S z) (qb C S z) (kb C S z) (vb z) (gt z b) (ka C S z) (va z) (ix2 r j) =
    cell (rowZ z r j.val) (turned (rowZ z r) (rowC C r) (rowC S r) j.val) (b (ix1 ⟨(j.val - 4096) % 2048, Nat.mod_lt _ (by decide)⟩)) j.val := by
  rw [refCat_at]
  unfold cell
  by_cases h0 : j.val < 1024
  · rw [dif_pos h0, qa_at, if_pos (by omega)]
  rw [dif_neg h0]
  by_cases h1 : j.val - 1024 < 1024
  · rw [dif_pos h1, qb_at, if_pos (by omega)]
    dsimp only
    rw [show 1024 + (j.val - 1024) = j.val by omega]
  rw [dif_neg h1, if_neg (by omega)]
  by_cases h2 : j.val - 1024 - 1024 < 1024
  · rw [dif_pos h2, kb_at, if_pos (by omega)]
    dsimp only
    rw [show 2048 + (j.val - 1024 - 1024) = j.val by omega]
  rw [dif_neg h2, if_neg (by omega)]
  by_cases h3 : j.val - 1024 - 1024 - 1024 < 1024
  · rw [dif_pos h3, vb_at, if_pos (by omega)]
    dsimp only
    rw [show 3072 + (j.val - 1024 - 1024 - 1024) = j.val by omega]
  rw [dif_neg h3, if_neg (by omega)]
  by_cases h4 : j.val - 1024 - 1024 - 1024 - 1024 < 2048
  · have e : (⟨j.val - 1024 - 1024 - 1024 - 1024, h4⟩ : Fin 2048) = ⟨(j.val - 4096) % 2048, Nat.mod_lt _ (by decide)⟩ :=
      Fin.ext (show j.val - 1024 - 1024 - 1024 - 1024 = (j.val - 4096) % 2048 by omega)
    rw [dif_pos h4, gt_at, if_pos (by omega), e]
    dsimp only
    rw [show 4096 + (j.val - 4096) % 2048 = j.val by omega]
  rw [dif_neg h4, if_neg (by omega)]
  by_cases h5 : j.val - 1024 - 1024 - 1024 - 1024 - 2048 < 256
  · rw [dif_pos h5, ka_at, if_pos (by omega)]
    dsimp only
    rw [show 6144 + (j.val - 1024 - 1024 - 1024 - 1024 - 2048) = j.val by omega]
  rw [dif_neg h5, va_at, if_neg (by omega)]
  dsimp only
  rw [show 6400 + (j.val - 1024 - 1024 - 1024 - 1024 - 2048 - 256) = j.val by omega]

theorem taps_mod (v g : Fin 1024 → EReal) (w : Fin 1024 → Fin 6656 → EReal) (n : ℕ) : taps v g w (n % 6656) = taps v g w n :=
  Finset.sum_congr rfl fun k _ => congrArg (fun j => _ * w k j) (Fin.ext (Nat.mod_mod _ _))

theorem rowZ_refZ (n : ℕ) : rowZ (refZ x g w) r n =
    taps (fun k => x (ix3 ⟨r.val / 2048, by omega⟩ ⟨r.val % 2048, by omega⟩ k)) (fun k => g (ix1 k)) (fun k j => w (ix2 k j)) (place n) :=
  (refZ_at x g w _ _ _).trans (taps_mod _ _ _ _)

theorem refOut_at (j : Fin 6656) (Z : ℕ → EReal)
    (hZ : ∀ n, Z n = taps (fun k => x (ix3 ⟨r.val / 2048, by omega⟩ ⟨r.val % 2048, by omega⟩ k)) (fun k => g (ix1 k)) (fun k j => w (ix2 k j)) (place n)) :
    refOut b x g w (ix2 r j) = cell (Z j.val) (turned Z (fun e => Host.cos angle (ix2 ⟨r.val % 2048, by omega⟩ e)) (fun e => Host.sin angle (ix2 ⟨r.val % 2048, by omega⟩ e)) j.val)
      (b (ix1 ⟨(j.val - 4096) % 2048, Nat.mod_lt _ (by decide)⟩)) j.val := by
  obtain rfl : Z = rowZ (refZ x g w) r := funext fun n => (hZ n).trans (rowZ_refZ x g w r n).symm
  exact refOut_cell _ _ _ _ r j

end Cert.ReferenceInprojIdeal.Hand

end
-- ==== Proof.InprojHost.lean ====
/-
  The projection call's tables, as the host code leaves them.
-/
module

public import proofs.«01_k».proof.Proof.InprojVal
public import proofs.«01_k».proof.Proof.InprojRef
public import Idealize.ShloMosaic.Lib.Claim
public import Idealize.ShloMosaic.Lib.StableHlo.RunRead

@[expose] public section

set_option maxRecDepth 16384

noncomputable section

namespace Cert.KernelInprojIdeal.Hand

open Cert.KernelInprojIdeal Cert.KernelInprojIdeal.Gen
open Idealize.ShloMosaic Idealize.ShloMosaic.TcCoe Idealize.ShloMosaic.Tactic
open Cert.Core

/-- The gather read at an index. -/
theorem gather_at (x : FVec Ideal S2048x32 .f32) (idx : IVec S128x1 32) (p : Fin 2048) (e : Fin 128) (u : Fin 32) (hu : min (idx (ix2 e 0)).toInt.toNat 31 = u.val) :
    Host.gather gather_S2048x32_S128x1_S2048x128_0_1_n_n_1_1_20481 x idx (ix2 p e) = x (ix2 p u) := by
  unfold Host.gather
  congr 1
  funext a
  match a with
  | ⟨0, _⟩ =>
    refine Fin.ext ?_
    show gather_S2048x32_S128x1_S2048x128_0_1_n_n_1_1_20481.start (ix2 p e) idx 0 + gather_S2048x32_S128x1_S2048x128_0_1_n_n_1_1_20481.batchCoord (ix2 p e) 0 +
      gather_S2048x32_S128x1_S2048x128_0_1_n_n_1_1_20481.offCoord (ix2 p e) 0 = p.val
    rw [GatherDims.batchCoord_eq_zero _ _ _ List.not_mem_nil]
    unfold GatherDims.start
    rw [dif_neg (by decide)]
    rw [Nat.zero_add]
    rfl
  | ⟨1, _⟩ =>
    refine Fin.ext ?_
    show gather_S2048x32_S128x1_S2048x128_0_1_n_n_1_1_20481.start (ix2 p e) idx 1 + gather_S2048x32_S128x1_S2048x128_0_1_n_n_1_1_20481.batchCoord (ix2 p e) 1 +
      gather_S2048x32_S128x1_S2048x128_0_1_n_n_1_1_20481.offCoord (ix2 p e) 1 = u.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x32_S128x1_S2048x128_0_1_n_n_1_1_20481.startIndexMap from List.mem_singleton.mpr rfl)]
    refine Eq.trans ?_ hu
    have hsi : gather_S2048x32_S128x1_S2048x128_0_1_n_n_1_1_20481.siIdx (ix2 p e) ⟨List.idxOf (1 : Fin 2) gather_S2048x32_S128x1_S2048x128_0_1_n_n_1_1_20481.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

variable (m : (ℓ : Loc nD τ sig) → Buf (Elt Ideal) ℓ) (c : Dev nD)

theorem flat_line : List.flatten [hostOps0 (F := Ideal), hostOps0_1, hostOps0_2, hostOps0_3, hostOps0_4, hostOps0_5, hostOps0_6, hostOps0_7, hostOps0_8, hostOps0_9, hostOps0_10] =
    hostOps0 ++ (hostOps0_1 ++ (hostOps0_2 ++ (hostOps0_3 ++ (hostOps0_4 ++ (hostOps0_5 ++ (hostOps0_6 ++ (hostOps0_7 ++ (hostOps0_8 ++ (hostOps0_9 ++ hostOps0_10))))))))) := by
  simp only [List.flatten_cons, List.flatten_nil, List.append_nil]

/-- The remainder of each lane by `n`. -/
def leftOf (n : BitVec 32) : IVec S128 32 :=
  let d : IVec S_ 32 := select (cmpi .eq (constantI S_ 32 n) (constantI S_ 32 0#32)) (constantI S_ 32 1#32) (constantI S_ 32 n)
  let q : IVec S128 32 := Host.remsi (iotaInDim S128 32 0) (broadcastInDim S128 ![] bcast_S_S128 d)
  select (andi (cmpi .ne (cmpi .slt q (broadcastInDim S128 ![] bcast_S_S128 (constantI S_ 32 0#32))) (broadcastInDim S128 ![] bcast_S_S128 (cmpi .slt d (constantI S_ 32 0#32))))
    (cmpi .ne q (broadcastInDim S128 ![] bcast_S_S128 (constantI S_ 32 0#32)))) (addi q (broadcastInDim S128 ![] bcast_S_S128 d)) q

/-- The angle each lane takes, -/
def lanes : IVec S128x1 32 := broadcastInDim S128x1 ![0] bcast_S128_S128x1_0 (select (cmpi .slt (leftOf 32#32) (broadcastInDim S128 ![] bcast_S_S128 (constantI S_ 32 0#32)))
  (addi (leftOf 32#32) (broadcastInDim S128 ![] bcast_S_S128 (constantI S_ 32 32#32))) (leftOf 32#32))

/-- whether it stands in the first half of its head, -/
def firsts : IVec S128 1 := cmpi .slt (leftOf 64#32) (broadcastInDim S128 ![] bcast_S_S128 (constantI S_ 32 32#32))

theorem lanes_at : ∀ e : Fin 128, min (lanes (ix2 e 0)).toInt.toNat 31 = e.val % 32 := by decide +kernel
theorem firsts_at : ∀ e : Fin 128, firsts (ix1 e) = if e.val % 64 < 32 then 1#1 else 0#1 := by decide +kernel

/-- and the three tables. -/
def cosT (a : FVec Ideal S2048x32 .f32) : FVec Ideal S2048x128 .f32 := Host.gather gather_S2048x32_S128x1_S2048x128_0_1_n_n_1_1_20481 (Host.cos a) lanes
def sinT (a : FVec Ideal S2048x32 .f32) : FVec Ideal S2048x128 .f32 := Host.gather gather_S2048x32_S128x1_S2048x128_0_1_n_n_1_1_20481 (Host.sin a) lanes
def loT (s : FVec Ideal S2048x128 .f32) : FVec Ideal S2048x128 .f32 :=
  select (broadcastInDim S2048x128 ![1] bcast_S128_S2048x128_1 firsts) (Host.negf s) (broadcastInDim S2048x128 ![] bcast_S_S2048x128 (constant S_ .f32 0x00000000#32))
def hiT (s : FVec Ideal S2048x128 .f32) : FVec Ideal S2048x128 .f32 :=
  select (broadcastInDim S2048x128 ![1] bcast_S128_S2048x128_1 firsts) (broadcastInDim S2048x128 ![] bcast_S_S2048x128 (constant S_ .f32 0x00000000#32)) s

open Cert.ReferenceInprojIdeal.Hand (angle)

theorem cosT_at (a : FVec Ideal S2048x32 .f32) (p : Fin 2048) (e : Fin 128) : cosT a (ix2 p e) = Host.cos a (ix2 p ⟨e.val % 32, Nat.mod_lt _ (by decide)⟩) := gather_at _ _ p e _ (lanes_at e)
theorem sinT_at (a : FVec Ideal S2048x32 .f32) (p : Fin 2048) (e : Fin 128) : sinT a (ix2 p e) = Host.sin a (ix2 p ⟨e.val % 32, Nat.mod_lt _ (by decide)⟩) := gather_at _ _ p e _ (lanes_at e)
theorem loT_at (s : FVec Ideal S2048x128 .f32) (p : Fin 2048) (e : Fin 128) : loT s (ix2 p e) = if e.val % 64 < 32 then -s (ix2 p e) else 0 := by
  have h : loT s (ix2 p e) = if firsts (ix1 e) = 1#1 then -s (ix2 p e) else 0 := by
    unfold loT
    pointwise
    rfl
  rw [h, firsts_at]
  by_cases h1 : e.val % 64 < 32
  · simp only [if_pos h1, if_true]
  · simp only [if_neg h1]
    rfl
theorem hiT_at (s : FVec Ideal S2048x128 .f32) (p : Fin 2048) (e : Fin 128) : hiT s (ix2 p e) = if e.val % 64 < 32 then 0 else s (ix2 p e) := by
  have h : hiT s (ix2 p e) = if firsts (ix1 e) = 1#1 then 0 else s (ix2 p e) := by
    unfold hiT
    pointwise
    rfl
  rw [h, firsts_at]
  by_cases h1 : e.val % 64 < 32
  · simp only [if_pos h1, if_true]
  · simp only [if_neg h1]
    rfl

set_option maxHeartbeats 0 in
theorem V_cos : V m c main_v28 = cosT angle := by
  show StableHlo.after (List.flatten _) _ _ = _
  rw [flat_line]
  after_reads_simp
  rfl
set_option maxHeartbeats 0 in
theorem V_lo : V m c main_v42 = loT (sinT angle) := by
  show StableHlo.after (List.flatten _) _ _ = _
  rw [flat_line]
  after_reads_simp
  rfl
set_option maxHeartbeats 0 in
theorem V_hi : V m c main_v43 = hiT (sinT angle) := by
  show StableHlo.after (List.flatten _) _ _ = _
  rw [flat_line]
  after_reads_simp
  rfl

theorem host0 (r : Fin 32768) (k : Fin 1024) : V m c main_v44 (ix2 r k) =
    m ((c : Thread nD τ).loc main_arg0) (ix3 ⟨r.val / 2048, by omega⟩ ⟨r.val % 2048, by omega⟩ k) := by
  show StableHlo.after (List.flatten _) _ _ _ = _
  rw [flat_line]
  after_reads_simp
  pointwise
theorem host1 (k : Fin 1024) : V m c main_v45 (ix2 0 k) = m ((c : Thread nD τ).loc main_arg1) (ix1 k) := by
  show StableHlo.after (List.flatten _) _ _ _ = _
  rw [flat_line]
  after_reads_simp
  pointwise
theorem host3 (k : Fin 2048) : V m c main_v52 (ix2 0 k) = m ((c : Thread nD τ).loc main_arg3) (ix1 k) := by
  show StableHlo.after (List.flatten _) _ _ _ = _
  rw [flat_line]
  after_reads_simp
  pointwise

/-- The weights' columns as the call takes them. -/
def packed (w : FVec Ideal S1024x6656 .f32) : FVec Ideal S1024x6656 .bf16 :=
  truncf .bf16 (concatenate S1024x6656 1 [⟨S1024x1024, (extractStridedSlice S1024x1024 ![0, 0] w slices_S1024x6656_S1024x1024_0_0 : (⟨S1024x1024, .f32⟩ : BufTy).Contents (Elt Ideal))⟩,
    ⟨S1024x5120, (extractStridedSlice S1024x5120 ![0, 1536] w slices_S1024x6656_S1024x5120_0_1536 : (⟨S1024x5120, .f32⟩ : BufTy).Contents (Elt Ideal))⟩,
    ⟨S1024x256, (extractStridedSlice S1024x256 ![0, 1024] w slices_S1024x6656_S1024x256_0_1024 : (⟨S1024x256, .f32⟩ : BufTy).Contents (Elt Ideal))⟩,
    ⟨S1024x256, (extractStridedSlice S1024x256 ![0, 1280] w slices_S1024x6656_S1024x256_0_1280 : (⟨S1024x256, .f32⟩ : BufTy).Contents (Elt Ideal))⟩]
    concatenates_S1024x1024_S1024x5120_S1024x256_S1024x256_S1024x6656_d1 : FVec Ideal S1024x6656 .f32) bitsLt_bf16_f32

theorem packed_at (w : FVec Ideal S1024x6656 .f32) (k : Fin 1024) (j : Fin 6656) : packed w (ix2 k j) = w (ix2 k ⟨place j.val, place_lt j⟩) := by
  have h : packed w (ix2 k j) = if h : j.val < 1024 then w (ix2 k ⟨j.val, by omega⟩) else if h : j.val - 1024 < 5120 then w (ix2 k ⟨1536 + (j.val - 1024), by omega⟩)
      else if h : j.val - 1024 - 5120 < 256 then w (ix2 k ⟨1024 + (j.val - 1024 - 5120), by omega⟩) else w (ix2 k ⟨1280 + (j.val - 1024 - 5120 - 256), by omega⟩) := by
    unfold packed
    pointwise
  rw [h]
  by_cases h0 : j.val < 1024
  · rw [dif_pos h0]
    exact congrArg (fun i => w (ix2 k i)) (Fin.ext (by show j.val = place j.val; unfold place; rw [if_pos h0]))
  rw [dif_neg h0]
  by_cases h1 : j.val - 1024 < 5120
  · rw [dif_pos h1]
    exact congrArg (fun i => w (ix2 k i)) (Fin.ext (by show 1536 + (j.val - 1024) = place j.val; unfold place; rw [if_neg h0, if_pos (by omega)]; omega))
  rw [dif_neg h1]
  by_cases h2 : j.val - 1024 - 5120 < 256
  · rw [dif_pos h2]
    exact congrArg (fun i => w (ix2 k i)) (Fin.ext (by show 1024 + (j.val - 1024 - 5120) = place j.val; unfold place; rw [if_neg h0, if_neg (by omega)]; omega))
  · rw [dif_neg h2]
    exact congrArg (fun i => w (ix2 k i)) (Fin.ext (by show 1280 + (j.val - 1024 - 5120 - 256) = place j.val; unfold place; rw [if_neg h0, if_neg (by omega)]; omega))

set_option maxHeartbeats 0 in
theorem V_packed : V m c main_v51 = packed (m ((c : Thread nD τ).loc main_arg2)) := by
  show StableHlo.after (List.flatten _) _ _ = _
  rw [flat_line]
  after_reads_simp
  rfl

end Cert.KernelInprojIdeal.Hand

end
-- ==== Proof.InprojRun.lean ====
/-
  The projection's reference as written.
-/
module

public import proofs.«01_k».proof.Proof.InprojRef

@[expose] public section

set_option maxRecDepth 16384

noncomputable section

namespace Cert.ReferenceInprojIdeal.Hand

open Cert.ReferenceInprojIdeal Cert.ReferenceInprojIdeal.Gen Idealize.ShloMosaic Idealize.ShloMosaic.TcCoe
open Cert.Core

theorem res_of (V0 : Valuation τ sig (Elt Ideal)) :
    truncf .bf16 (Value.res_main_v180 V0 : FVec Ideal S32768x6656 .f32) bitsLt_bf16_f32 = refOut (V0 (Proc.devRef .tc main_arg3)) (V0 (Proc.devRef .tc main_arg0)) (V0 (Proc.devRef .tc main_arg1)) (V0 (Proc.devRef .tc main_arg2)) := by
  unfold refOut refCat qa qb kb vb gt ka va turn16 turn4 turn8x2 refZ refN angle
  unfold Value.res_main_v180 Value.res_main_v148 Value.res_main_v147 Value.res_main_v146 Value.res_main_v144 Value.res_main_v142 Value.res_main_v126 Value.res_main_v114 Value.res_main_v113 Value.res_main_v112 Value.res_main_v110 Value.res_main_v108 Value.res_main_v92 Value.res_main_v80 Value.res_main_v79 Value.res_main_v78 Value.res_main_v76 Value.res_main_v74 Value.res_main_v58 Value.res_main_v46 Value.res_main_v45 Value.res_main_v44 Value.res_main_v42 Value.res_main_v40 Value.res_main_v24 Value.res_main_v16 Value.res_main_v2
  rfl

theorem res_eq (m : (ℓ : Loc nD τ sig) → Buf (Elt Ideal) ℓ) (c : Dev nD) :
    truncf .bf16 (Value.res_main_v180 (StableHlo.launchContents m c) : FVec Ideal S32768x6656 .f32) bitsLt_bf16_f32 = refOut (m ((c.tc : Thread nD τ).loc main_arg3)) (m ((c.tc : Thread nD τ).loc main_arg0)) (m ((c.tc : Thread nD τ).loc main_arg1)) (m ((c.tc : Thread nD τ).loc main_arg2)) := res_of _

end Cert.ReferenceInprojIdeal.Hand

end
-- ==== Proof.Inproj.lean ====
/-
  The projection call: its runs, and that it leaves what the reference leaves.
-/
module

public import proofs.«01_k».proof.Defs
public import proofs.«01_k».proof.Proof.Gen.KernelInproj.Frame
public import proofs.«01_k».proof.Proof.InprojHost
public import proofs.«01_k».proof.Proof.InprojRun

@[expose] public section

set_option maxRecDepth 16384

noncomputable section

namespace Cert.KernelInprojIdeal.Hand

open Cert.KernelInprojIdeal Cert.KernelInprojIdeal.Gen
open Idealize.ShloMosaic Idealize.ShloMosaic.TcCoe Idealize.ShloMosaic.Tactic
open Cert.Core
open Cert.ReferenceInprojIdeal.Hand (angle)

theorem idx0 : ∀ t : Fin cfg0.N, win0_0.index t = ![t.val % 32, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val % 2, 0] := (by decide +kernel : ∀ t : Fin grid0.N, _)
theorem idx5 : ∀ t : Fin cfg0.N, win0_5.index t = ![t.val % 2, 0] := (by decide +kernel : ∀ t : Fin grid0.N, _)
theorem idx6 : ∀ t : Fin cfg0.N, win0_6.index t = ![t.val % 2, 0] := (by decide +kernel : ∀ t : Fin grid0.N, _)
theorem idx7 : ∀ t : Fin cfg0.N, win0_7.index t = ![t.val % 32, 0] := (by decide +kernel : ∀ t : Fin grid0.N, _)

variable (m : (ℓ : Loc nD τ sig) → Buf (Elt Ideal) ℓ) (c : Dev nD) (t : Fin cfg0.N)

/-- The flat row a grid point's row is, and its position. -/
abbrev flat (r : Fin 1024) : Fin 32768 := ⟨1024 * (t.val % 32) + r.val, by omega⟩
abbrev pos (r : Fin 1024) : Fin 2048 := ⟨1024 * (t.val % 2) + r.val, by omega⟩

theorem pos_eq (r : Fin 1024) : pos t r = ⟨(flat t r).val % 2048, Nat.mod_lt _ (by decide)⟩ :=
  Fin.ext (show 1024 * (t.val % 2) + r.val = (1024 * (t.val % 32) + r.val) % 2048 by omega)

theorem blk0 (r k : Fin 1024) : iblk m c 0 t (ix2 r k) = V m c main_v44 (ix2 (flat t r) k) := by
  blk_ext [iblk, idx0 t]
theorem blk1 (k : Fin 1024) : iblk m c 1 t (ix2 0 k) = V m c main_v45 (ix2 0 k) := by
  blk_ext [iblk, idx1 t]
theorem blk2 (k : Fin 1024) (j : Fin 6656) : iblk m c 2 t (ix2 k j) = V m c main_v51 (ix2 k j) := by
  blk_ext [iblk, idx2 t]
theorem blk3 (j : Fin 2048) : iblk m c 3 t (ix2 0 j) = V m c main_v52 (ix2 0 j) := by
  blk_ext [iblk, idx3 t]
theorem blk4 (r : Fin 1024) (e : Fin 128) : iblk m c 4 t (ix2 r e) = V m c main_v28 (ix2 (pos t r) e) := by
  blk_ext [iblk, idx4 t]
theorem blk5 (r : Fin 1024) (e : Fin 128) : iblk m c 5 t (ix2 r e) = V m c main_v42 (ix2 (pos t r) e) := by
  blk_ext [iblk, idx5 t]
theorem blk6 (r : Fin 1024) (e : Fin 128) : iblk m c 6 t (ix2 r e) = V m c main_v43 (ix2 (pos t r) e) := by
  blk_ext [iblk, idx6 t]

/-- What the reference leaves of the arguments. -/
abbrev want : FVec Ideal S32768x6656 .bf16 :=
  Cert.ReferenceInprojIdeal.Hand.refOut (m ((c : Thread nD τ).loc main_arg3)) (m ((c : Thread nD τ).loc main_arg0)) (m ((c : Thread nD τ).loc main_arg1))
    (m ((c : Thread nD τ).loc main_arg2))

/-- A row's projection, in the call's order of columns. -/
abbrev rowW (r : Fin 1024) (n : ℕ) : EReal :=
  taps (fun k => (m ((c : Thread nD τ).loc main_arg0) : FVec Ideal S16x2048x1024 .f32) (ix3 ⟨(flat t r).val / 2048, by omega⟩ ⟨(flat t r).val % 2048, by omega⟩ k))
    (fun k => (m ((c : Thread nD τ).loc main_arg1) : FVec Ideal S1024 .f32) (ix1 k)) (fun k j => (m ((c : Thread nD τ).loc main_arg2) : FVec Ideal S1024x6656 .f32) (ix2 k j)) (place n)

theorem rowZ_want (r : Fin 1024) (n : ℕ) (hn : n < 6656) : rowZ (iblk m c 0 t) (iblk m c 1 t) (iblk m c 2 t) r n = rowW m c t r n := by
  refine Eq.trans ?_ (taps_place _ _ _ n hn)
  have congr3 : ∀ {v v' g g' : Fin 1024 → EReal} {w w' : Fin 1024 → Fin 6656 → EReal}, v = v' → g = g' → w = w' → taps v g w n = taps v' g' w' n := by
    rintro _ _ _ _ _ _ rfl rfl rfl; rfl
  exact congr3 (funext fun e => (blk0 m c t r e).trans (host0 m c _ e)) (funext fun e => (blk1 m c t e).trans (host1 m c e))
    (funext fun e => funext fun j => (blk2 m c t e j).trans ((congrFun (V_packed m c) _).trans (packed_at _ e j)))

abbrev cosR (r : Fin 1024) (e : Fin 32) : EReal := Host.cos angle (ix2 ⟨(flat t r).val % 2048, Nat.mod_lt _ (by decide)⟩ e)
abbrev sinR (r : Fin 1024) (e : Fin 32) : EReal := Host.sin angle (ix2 ⟨(flat t r).val % 2048, Nat.mod_lt _ (by decide)⟩ e)

theorem rowT_want (r : Fin 1024) (n : ℕ) (hn : n < 6656) :
    rowT (iblk m c 0 t) (iblk m c 1 t) (iblk m c 2 t) (iblk m c 4 t) (iblk m c 5 t) (iblk m c 6 t) r n = turned (rowW m c t r) (cosR t r) (sinR t r) n := by
  refine Eq.trans ?_ (turned_congr _ _ _ _ n hn fun i hi => rowZ_want m c t r i hi)
  refine swung_eq _ _ _ _ (cosR t r) (sinR t r) (fun e => ?_) (fun e => ?_) (fun e => ?_) n
  · refine (blk4 m c t r e).trans ((congrFun (V_cos m c) _).trans ((cosT_at _ _ e).trans ?_))
    rw [pos_eq]
  · refine (blk5 m c t r e).trans ((congrFun (V_lo m c) _).trans ((loT_at _ _ e).trans ?_))
    rw [sinT_at, pos_eq]
  · refine (blk6 m c t r e).trans ((congrFun (V_hi m c) _).trans ((hiT_at _ _ e).trans ?_))
    rw [sinT_at, pos_eq]

theorem point_want (r : Fin 1024) (j : Fin 6656) :
    result (iblk m c 0 t) (iblk m c 1 t) (iblk m c 2 t) (iblk m c 3 t) (iblk m c 4 t) (iblk m c 5 t) (iblk m c 6 t) (ix2 r j) = want m c (ix2 (flat t r) j) := by
  refine Eq.trans ?_ (Cert.ReferenceInprojIdeal.Hand.refOut_at _ _ _ _ (flat t r) j (rowW m c t r) fun n => rfl).symm
  rw [result_at]
  have congr3 : ∀ {p p' u u' b b' : EReal}, p = p' → u = u' → b = b' → cell p u b j.val = cell p' u' b' j.val := by
    rintro _ _ _ _ _ _ rfl rfl rfl; rfl
  exact congr3 (rowZ_want m c t r j.val j.isLt) (rowT_want m c t r j.val j.isLt) ((blk3 m c t _).trans (host3 m c _))

theorem final : (dats m 0 c).arrAt 7 cfg0.N = want m c := by
  refine (dats m 0 c).arrAt_eq_of_covers 7 _ (by decide +kernel) fun t hf y => ?_
  blk_simp
  rw [point]
  have hy : y = ix2 (y 0) (y 1) := by blk_ext
  rw [hy]
  have key : ∀ G : FVec Ideal S32768x6656 .bf16, G (ix2 (flat t (y 0)) (y 1)) = G ((win0_7.blk t).view.emb (ix2 (y 0) (y 1))) := by
    intro G
    blk_ext [idx7 t]
  exact (point_want m c t (y 0) (y 1)).trans (key _)

end Cert.KernelInprojIdeal.Hand

namespace Cert.Proof

open Idealize.ShloMosaic Idealize.ShloMosaic.TcCoe

theorem inproj_frame : Cert.quiescent_KernelInproj := fun m ρ _ => Cert.KernelInproj.Gen.frame m ρ
theorem inproj_frame_ideal : Cert.quiescent_KernelInprojIdeal := fun m ρ _ => Cert.KernelInprojIdeal.Gen.frame m ρ
theorem inproj_frame_reference : Cert.quiescent_ReferenceInprojIdeal := fun m ρ _ =>
  (θ_run Cert.ReferenceInprojIdeal.defs _ _).mono (fun r h => ⟨fun c => (h c).2, sem_eq_zero_of_no_sems (by decide) r.2⟩)
    (Cert.ReferenceInprojIdeal.Value.run (F := Ideal) m ρ)

open Cert.KernelInprojIdeal.Hand in
theorem inproj_algebraic : Cert.algebraic_KernelInprojIdeal_ReferenceInprojIdeal := fun m g m' g' hp ha => by
  refine ⟨fun c => want m c, ?_, ?_⟩
  · exact (θ_run Cert.KernelInprojIdeal.defs _ _).mono (fun r h c => ⟨(h c).1.trans (final m c), (h c).2⟩) (Cert.KernelInprojIdeal.Value.run_blocks m g)
  · refine (θ_run Cert.ReferenceInprojIdeal.defs _ _).mono (fun r h c => ⟨?_, (h c).2⟩) (Cert.ReferenceInprojIdeal.Value.run (F := Ideal) m' g')
    obtain ⟨e0, e1, e2, e3⟩ := ha c
    refine (h c).1.trans ((Cert.ReferenceInprojIdeal.Hand.res_eq m' c).trans ?_)
    rw [e0, e1, e2, e3]

end Cert.Proof

end
-- ==== Proof.lean ====
/-
  The certificate: the claims of the four calls.
-/
module

public import proofs.«01_k».proof.Defs
public import proofs.«01_k».proof.Proof.Alg
public import proofs.«01_k».proof.Proof.Merge
public import proofs.«01_k».proof.Proof.Ffn
public import proofs.«01_k».proof.Proof.Inproj

@[expose] public section

noncomputable section

namespace Cert.Proof

theorem claim : Cert.Claim :=
  ⟨Cert.Kernel.Gen.facts, Cert.KernelIdeal.Gen.facts, Cert.ReferenceIdeal.Gen.facts, Cert.KernelMerge.Gen.facts, Cert.KernelMergeIdeal.Gen.facts,
    Cert.ReferenceMergeIdeal.Gen.facts, Cert.KernelFfn.Gen.facts, Cert.KernelFfnIdeal.Gen.facts, Cert.ReferenceFfnIdeal.Gen.facts,
    Cert.KernelInproj.Gen.facts, Cert.KernelInprojIdeal.Gen.facts, Cert.ReferenceInprojIdeal.Gen.facts, pre_facts,
    frame_kernel, frame_ideal, @frame_ideal_pre pre_facts, frame_reference, @frame_reference_pre pre_facts,
    merge_frame, merge_frame_ideal, merge_frame_reference, ffn_frame, ffn_frame_ideal, ffn_frame_reference,
    inproj_frame, inproj_frame_ideal, inproj_frame_reference,
    trivial, @algebraic pre_facts, trivial, merge_algebraic, trivial, ffn_algebraic, trivial, inproj_algebraic⟩

end Cert.Proof

end
